-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v45) = v0 c
          ∧ r.2.mem ((c.tc : Thread Cert.Reference4Ideal.nD Cert.Reference4Ideal.τ).loc Cert.Reference4Ideal.main_v49) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16384x1024 : Shape := ⟨2, ![16384, 1024]⟩
abbrev S2x8448x256 : Shape := ⟨3, ![2, 8448, 256]⟩
abbrev S2048x11264 : Shape := ⟨2, ![2048, 11264]⟩
abbrev S5632x2048 : Shape := ⟨2, ![5632, 2048]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bitsLt_bf16_f32 : FTy.bits .bf16 < FTy.bits .f32
  bcast_S_S2x8448x256 : S_.BroadcastsInDim S2x8448x256 (![] : Fin 0 → Fin S2x8448x256.rank)
  reducesTo_S2x8448x256_S_d0_1_2 : S2x8448x256.ReducesTo [0, 1, 2] S_

variable [Facts]

def fn {F : FTy → Type} [FloatOps F] (main_arg0 : FVec F S16384x1024 .f32) (main_arg1 : FVec F S2x8448x256 .bf16) (main_arg2 : FVec F S2x8448x256 .bf16) (main_arg3 : FVec F S2048x11264 .f32) (main_arg4 : FVec F S5632x2048 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S2x8448x256 .f32 := (extf .f32 · bitsLt_bf16_f32) main_arg1
  let main_v5 : FVec F S2x8448x256 .f32 := Host.absf main_v4
  let main_cst_0 : FVec F S_ .f32 := constant S_ .f32 0x7F800000#32
  let main_v6 : FVec F S2x8448x256 .f32 := broadcastInDim S2x8448x256 ![] bcast_S_S2x8448x256 main_cst_0
  let main_v7 : IVec S2x8448x256 1 := cmpf .olt main_v5 main_v6
  let main_c_1 : IVec S_ 1 := constantI S_ 1 1#1
  let main_v8 : IVec S_ 1 := (fun x v => Host.reduce IntOp.andi x v reducesTo_S2x8448x256_S_d0_1_2 h_S_) main_v7 main_c_1
  let main_v9 : IVec S_ 1 := andi main_v3 main_v8
  main_v9
-- ==== Kernel.lean ====
abbrev S16384x1024 : Shape := ⟨2, ![16384, 1024]⟩
abbrev S2x8448x256 : Shape := ⟨3, ![2, 8448, 256]⟩
abbrev S2048x11264 : Shape := ⟨2, ![2048, 11264]⟩
abbrev S5632x2048 : Shape := ⟨2, ![5632, 2048]⟩
abbrev S_ : Shape := ⟨0, ![]⟩
abbrev S128x512 : Shape := ⟨2, ![128, 512]⟩
abbrev S1x8448x128 : Shape := ⟨3, ![1, 8448, 128]⟩
abbrev S16x11264 : Shape := ⟨2, ![16, 11264]⟩
abbrev S32x2048 : Shape := ⟨2, ![32, 2048]⟩
abbrev S6x512x1408 : Shape := ⟨3, ![6, 512, 1408]⟩
abbrev S512x128 : Shape := ⟨2, ![512, 128]⟩
abbrev S128x128 : Shape := ⟨2, ![128, 128]⟩
abbrev S1x1408x128 : Shape := ⟨3, ![1, 1408, 128]⟩
abbrev S1408x128 : Shape := ⟨2, ![1408, 128]⟩
abbrev S512x1408 : Shape := ⟨2, ![512, 1408]⟩
abbrev S1x512x1408 : Shape := ⟨3, ![1, 512, 1408]⟩
abbrev S512 : Shape := ⟨1, ![512]⟩
abbrev S512x1 : Shape := ⟨2, ![512, 1]⟩

abbrev nBuf : Space → Nat
  | .hbm => 18
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S2x8448x256, .bf16⟩
  | .hbm, ⟨2, _⟩ => ⟨S2x8448x256, .bf16⟩
  | .hbm, ⟨3, _⟩ => ⟨S2048x11264, .f32⟩
  | .hbm, ⟨4, _⟩ => ⟨S5632x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .bf16⟩
  | .hbm, ⟨15, _⟩ => ⟨S16384x1024, .bf16⟩
  | .hbm, ⟨16, _⟩ => ⟨S2048x11264, .bf16⟩
  | .hbm, ⟨17, _⟩ => ⟨S5632x2048, .bf16⟩
  | .local _ .vmem, ⟨0, _⟩ => ⟨S128x512, .bf16⟩
  | .local _ .vmem, ⟨1, _⟩ => ⟨S128x512, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x128, .bf16⟩
  | .local _ .vmem, ⟨5, _⟩ => ⟨S1x8448x128, .bf16⟩
  | .local _ .vmem, ⟨6, _⟩ => ⟨S16x11264, .f32⟩
  | .local _ .vmem, ⟨7, _⟩ => ⟨S16x11264, .f32⟩
  | .local _ .vmem, ⟨8, _⟩ => ⟨S32x2048, .f32⟩
  | .local _ .vmem, ⟨9, _⟩ => ⟨S32x2048, .f32⟩
  | .local _ .vmem, ⟨10, _⟩ => ⟨S128x512, .bf16⟩
  | .local _ .vmem, ⟨11, _⟩ => ⟨S128x512, .bf16⟩
  | .local _ .vmem, ⟨12, _⟩ => ⟨S16x11264, .bf16⟩
  | .local _ .vmem, ⟨13, _⟩ => ⟨S16x11264, .bf16⟩
  | .local _ .vmem, ⟨14, _⟩ => ⟨S32x2048, .bf16⟩
  | .local _ .vmem, ⟨15, _⟩ => ⟨S32x2048, .bf16⟩
  | .local _ .vmem, ⟨16, _⟩ => ⟨S6x512x1408, .f32⟩
  | .local _ .vmem, ⟨17, _⟩ => ⟨S6x512x1408, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 2, 65], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_7 : BitVec 32 := 0#32
  let v8 : BitVec 1 := Scalar.cmpi .ne v7 c0_i32_7
  v8

@[reducible] def k0_t1_loop : Scf.Loop 32 :=
  let c0_i32_34 : BitVec 32 := 0#32
  let c6_i32 : BitVec 32 := 6#32
  let v59 : BitVec 32 := Scalar.addi c0_i32_34 c6_i32
  let c1_i32_35 : BitVec 32 := 1#32
  ⟨c0_i32_34, v59, c1_i32_35⟩
def k0_mult1 (k0_t1 : Fin k0_t1_loop.trips) : BitVec 32 :=
  let c0_i32_34 : BitVec 32 := 0#32
  let c1_i32_35 : BitVec 32 := 1#32
  let arg17 : BitVec 32 := Scf.iv c0_i32_34 c1_i32_35 k0_t1
  let c1408_i32 : BitVec 32 := 1408#32
  let v68 : BitVec 32 := Scalar.muli arg17 c1408_i32
  v68
def k0_off1 (k0_t1 : Fin k0_t1_loop.trips) : Fin 3 → Nat :=
  let c0_42 : Index := 0#32
  let c0_i32_34 : BitVec 32 := 0#32
  let c1_i32_35 : BitVec 32 := 1#32
  let arg17 : BitVec 32 := Scf.iv c0_i32_34 c1_i32_35 k0_t1
  let c1408_i32 : BitVec 32 := 1408#32
  let v68 : BitVec 32 := Scalar.muli arg17 c1408_i32
  let v69 : BitVec 32 := v68
  let v70 : Index := Scalar.indexCast v69
  let c0_43 : Index := 0#32
  ![0, v70.toNat, 0]
def k0_off2 (k0_t1 : Fin k0_t1_loop.trips) : Fin 3 → Nat :=
  let c0_i32_34 : BitVec 32 := 0#32
  let c1_i32_35 : BitVec 32 := 1#32
  let arg17 : BitVec 32 := Scf.iv c0_i32_34 c1_i32_35 k0_t1
  let v74 : Index := Scalar.indexCast arg17
  let c0_45 : Index := 0#32
  let c0_46 : Index := 0#32
  ![v74.toNat, 0, 0]
def k0_cond2 (i : grid0.Coords) : BitVec 1 :=
  let arg2 : BitVec 32 := BitVec.ofNat 32 (i 2).val
  let c0_i32_8 : BitVec 32 := 0#32
  let v9 : BitVec 1 := Scalar.cmpi .sgt arg2 c0_i32_8
  let c64_i32 : BitVec 32 := 64#32
  let v10 : BitVec 1 := Scalar.cmpi .slt arg2 c64_i32
  let v11 : BitVec 1 := Scalar.andi v9 v10
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi arg2 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let c0_i32_13 : BitVec 32 := 0#32
  let v22 : BitVec 1 := Scalar.cmpi .eq v21 c0_i32_13
  let v23 : BitVec 1 := Scalar.andi v11 v22
  let v24 : BitVec 32 := Scalar.extui v23
  let c0_i32_14 : BitVec 32 := 0#32
  let v25 : BitVec 1 := Scalar.cmpi .ne v24 c0_i32_14
  v25

def k0_mult2 : BitVec 32 :=
  let c0_i32_40 : BitVec 32 := 0#32
  let c1408_i32 : BitVec 32 := 1408#32
  let v67 : BitVec 32 := Scalar.muli c0_i32_40 c1408_i32
  v67
def k0_off3 (c0_i32_40 : BitVec 32) : Fin 3 → Nat :=
  let c0_41 : Index := 0#32
  let c1408_i32 : BitVec 32 := 1408#32
  let v67 : BitVec 32 := Scalar.muli c0_i32_40 c1408_i32
  let v68 : BitVec 32 := v67
  let v69 : Index := Scalar.indexCast v68
  let c0_42 : Index := 0#32
  ![0, v69.toNat, 0]
def k0_mult3 : BitVec 32 :=
  let c0_i32_40 : BitVec 32 := 0#32
  let c1408_i32_50 : BitVec 32 := 1408#32
  let v103 : BitVec 32 := Scalar.muli c0_i32_40 c1408_i32_50
  v103
def k0_mult4 : BitVec 32 :=
  let c1_i32_66 : BitVec 32 := 1#32
  let c1408_i32_67 : BitVec 32 := 1408#32
  let v178 : BitVec 32 := Scalar.muli c1_i32_66 c1408_i32_67
  v178
def k0_mult5 : BitVec 32 :=
  let c1_i32_66 : BitVec 32 := 1#32
  let c1408_i32_77 : BitVec 32 := 1408#32
  let v214 : BitVec 32 := Scalar.muli c1_i32_66 c1408_i32_77
  v214
def k0_mult6 : BitVec 32 :=
  let c2_i32_93 : BitVec 32 := 2#32
  let c1408_i32_94 : BitVec 32 := 1408#32
  let v289 : BitVec 32 := Scalar.muli c2_i32_93 c1408_i32_94
  v289
def k0_mult7 : BitVec 32 :=
  let c2_i32_93 : BitVec 32 := 2#32
  let c1408_i32_104 : BitVec 32 := 1408#32
  let v325 : BitVec 32 := Scalar.muli c2_i32_93 c1408_i32_104
  v325
def k0_mult8 : BitVec 32 :=
  let c3_i32 : BitVec 32 := 3#32
  let c1408_i32_120 : BitVec 32 := 1408#32
  let v400 : BitVec 32 := Scalar.muli c3_i32 c1408_i32_120
  v400
def k0_mult9 : BitVec 32 :=
  let c3_i32 : BitVec 32 := 3#32
  let c1408_i32_130 : BitVec 32 := 1408#32
  let v436 : BitVec 32 := Scalar.muli c3_i32 c1408_i32_130
  v436
def k0_mult10 : BitVec 32 :=
  let c4_i32 : BitVec 32 := 4#32
  let c1408_i32_146 : BitVec 32 := 1408#32
  let v511 : BitVec 32 := Scalar.muli c4_i32 c1408_i32_146
  v511
def k0_mult11 : BitVec 32 :=
  let c4_i32 : BitVec 32 := 4#32
  let c1408_i32_156 : BitVec 32 := 1408#32
  let v547 : BitVec 32 := Scalar.muli c4_i32 c1408_i32_156
  v547
def k0_mult12 : BitVec 32 :=
  let c5_i32 : BitVec 32 := 5#32
  let c1408_i32_172 : BitVec 32 := 1408#32
  let v622 : BitVec 32 := Scalar.muli c5_i32 c1408_i32_172
  v622
def k0_mult13 : BitVec 32 :=
  let c5_i32 : BitVec 32 := 5#32
  let c1408_i32_182 : BitVec 32 := 1408#32
  let v658 : BitVec 32 := Scalar.muli c5_i32 c1408_i32_182
  v658
def k0_cond3 (i : grid0.Coords) : BitVec 1 :=
  let arg2 : BitVec 32 := BitVec.ofNat 32 (i 2).val
  let c0_i32_15 : BitVec 32 := 0#32
  let v26 : BitVec 1 := Scalar.cmpi .sgt arg2 c0_i32_15
  let c64_i32_16 : BitVec 32 := 64#32
  let v27 : BitVec 1 := Scalar.cmpi .slt arg2 c64_i32_16
  let v28 : BitVec 1 := Scalar.andi v26 v27
  let c2_i32_17 : BitVec 32 := 2#32
  let c0_i32_18 : BitVec 32 := 0#32
  let v29 : BitVec 1 := Scalar.cmpi .eq c2_i32_17 c0_i32_18
  let c1_i32_19 : BitVec 32 := 1#32
  let v30 : BitVec 32 := Scalar.select v29 c1_i32_19 c2_i32_17
  let v31 : BitVec 32 := Scalar.remsi arg2 v30
  let c0_i32_21 : BitVec 32 := 0#32
  let v33 : BitVec 1 := Scalar.cmpi .slt v31 c0_i32_21
  let c0_i32_22 : BitVec 32 := 0#32
  let v34 : BitVec 1 := Scalar.cmpi .slt v30 c0_i32_22
  let v35 : BitVec 1 := Scalar.xori v33 v34
  let c0_i32_20 : BitVec 32 := 0#32
  let v32 : BitVec 1 := Scalar.cmpi .ne v31 c0_i32_20
  let v36 : BitVec 1 := Scalar.andi v35 v32
  let v37 : BitVec 32 := Scalar.addi v31 v30
  let v38 : BitVec 32 := Scalar.select v36 v37 v31
  let c1_i32_23 : BitVec 32 := 1#32
  let v39 : BitVec 1 := Scalar.cmpi .eq v38 c1_i32_23
  let v40 : BitVec 1 := Scalar.andi v28 v39
  let v41 : BitVec 32 := Scalar.extui v40
  let c0_i32_24 : BitVec 32 := 0#32
  let v42 : BitVec 1 := Scalar.cmpi .ne v41 c0_i32_24
  v42

def k0_mult14 : BitVec 32 :=
  let c0_i32_40 : BitVec 32 := 0#32
  let c1408_i32 : BitVec 32 := 1408#32
  let v67 : BitVec 32 := Scalar.muli c0_i32_40 c1408_i32
  v67
def k0_off4 (c0_i32_40 : BitVec 32) : Fin 3 → Nat :=
  let c0_41 : Index := 0#32
  let c1408_i32 : BitVec 32 := 1408#32
  let v67 : BitVec 32 := Scalar.muli c0_i32_40 c1408_i32
  let v68 : BitVec 32 := v67
  let v69 : Index := Scalar.indexCast v68
  let c0_42 : Index := 0#32
  ![0, v69.toNat, 0]
def k0_mult15 : BitVec 32 :=
  let c0_i32_40 : BitVec 32 := 0#32
  let c1408_i32_50 : BitVec 32 := 1408#32
  let v103 : BitVec 32 := Scalar.muli c0_i32_40 c1408_i32_50
  v103
def k0_mult16 : BitVec 32 :=
  let c1_i32_66 : BitVec 32 := 1#32
  let c1408_i32_67 : BitVec 32 := 1408#32
  let v178 : BitVec 32 := Scalar.muli c1_i32_66 c1408_i32_67
  v178
def k0_mult17 : BitVec 32 :=
  let c1_i32_66 : BitVec 32 := 1#32
  let c1408_i32_77 : BitVec 32 := 1408#32
  let v214 : BitVec 32 := Scalar.muli c1_i32_66 c1408_i32_77
  v214
def k0_mult18 : BitVec 32 :=
  let c2_i32_93 : BitVec 32 := 2#32
  let c1408_i32_94 : BitVec 32 := 1408#32
  let v289 : BitVec 32 := Scalar.muli c2_i32_93 c1408_i32_94
  v289
def k0_mult19 : BitVec 32 :=
  let c2_i32_93 : BitVec 32 := 2#32
  let c1408_i32_104 : BitVec 32 := 1408#32
  let v325 : BitVec 32 := Scalar.muli c2_i32_93 c1408_i32_104
  v325
def k0_mult20 : BitVec 32 :=
  let c3_i32 : BitVec 32 := 3#32
  let c1408_i32_120 : BitVec 32 := 1408#32
  let v400 : BitVec 32 := Scalar.muli c3_i32 c1408_i32_120
  v400
def k0_mult21 : BitVec 32 :=
  let c3_i32 : BitVec 32 := 3#32
  let c1408_i32_130 : BitVec 32 := 1408#32
  let v436 : BitVec 32 := Scalar.muli c3_i32 c1408_i32_130
  v436
def k0_mult22 : BitVec 32 :=
  let c4_i32 : BitVec 32 := 4#32
  let c1408_i32_146 : BitVec 32 := 1408#32
  let v511 : BitVec 32 := Scalar.muli c4_i32 c1408_i32_146
  v511
def k0_mult23 : BitVec 32 :=
  let c4_i32 : BitVec 32 := 4#32
  let c1408_i32_156 : BitVec 32 := 1408#32
  let v547 : BitVec 32 := Scalar.muli c4_i32 c1408_i32_156
  v547
def k0_mult24 : BitVec 32 :=
  let c5_i32 : BitVec 32 := 5#32
  let c1408_i32_172 : BitVec 32 := 1408#32
  let v622 : BitVec 32 := Scalar.muli c5_i32 c1408_i32_172
  v622
def k0_mult25 : BitVec 32 :=
  let c5_i32 : BitVec 32 := 5#32
  let c1408_i32_182 : BitVec 32 := 1408#32
  let v658 : BitVec 32 := Scalar.muli c5_i32 c1408_i32_182
  v658
def k0_cond4 (i : grid0.Coords) : BitVec 1 :=
  let arg2 : BitVec 32 := BitVec.ofNat 32 (i 2).val
  let c64_i32_25 : BitVec 32 := 64#32
  let v43 : BitVec 1 := Scalar.cmpi .eq arg2 c64_i32_25
  let v44 : BitVec 32 := Scalar.extui v43
  let c0_i32_26 : BitVec 32 := 0#32
  let v45 : BitVec 1 := Scalar.cmpi .ne v44 c0_i32_26
  v45

@[reducible] def k0_t2_loop : Scf.Loop 32 :=
  let c0_i32_32 : BitVec 32 := 0#32
  let c6_i32 : BitVec 32 := 6#32
  let v54 : BitVec 32 := Scalar.addi c0_i32_32 c6_i32
  let c1_i32_33 : BitVec 32 := 1#32
  ⟨c0_i32_32, v54, c1_i32_33⟩
def k0_mult26 (k0_t2 : Fin k0_t2_loop.trips) : BitVec 32 :=
  let c0_i32_32 : BitVec 32 := 0#32
  let c1_i32_33 : BitVec 32 := 1#32
  let arg17 : BitVec 32 := Scf.iv c0_i32_32 c1_i32_33 k0_t2
  let c1408_i32 : BitVec 32 := 1408#32
  let v73 : BitVec 32 := Scalar.muli arg17 c1408_i32
  v73
def k0_off5 (k0_t2 : Fin k0_t2_loop.trips) : Fin 3 → Nat :=
  let c0_i32_32 : BitVec 32 := 0#32
  let c1_i32_33 : BitVec 32 := 1#32
  let arg17 : BitVec 32 := Scf.iv c0_i32_32 c1_i32_33 k0_t2
  let v75 : Index := Scalar.indexCast arg17
  let c0_45 : Index := 0#32
  let c0_46 : Index := 0#32
  ![v75.toNat, 0, 0]
def k0_off6 (k0_t2 : Fin k0_t2_loop.trips) : Fin 3 → Nat :=
  let c0_55 : Index := 0#32
  let c0_i32_32 : BitVec 32 := 0#32
  let c1_i32_33 : BitVec 32 := 1#32
  let arg17 : BitVec 32 := Scf.iv c0_i32_32 c1_i32_33 k0_t2
  let c1408_i32 : BitVec 32 := 1408#32
  let v73 : BitVec 32 := Scalar.muli arg17 c1408_i32
  let v74 : BitVec 32 := v73
  let v140 : Index := Scalar.indexCast v74
  let c0_56 : Index := 0#32
  ![0, v140.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c63_i32 : BitVec 32 := 63#32
  let v1 : BitVec 32 := Scalar.minsi arg2 c63_i32
  let v2 : BitVec 32 := Scalar.addi v0 v1
  let c0_i32 : BitVec 32 := 0#32
  ![v2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c65_i32 : BitVec 32 := 65#32
  let v2 : BitVec 32 := Scalar.muli v1 c65_i32
  let v3 : BitVec 32 := Scalar.addi v2 arg2
  let c127_i32 : BitVec 32 := 127#32
  let v4 : BitVec 32 := Scalar.minsi v3 c127_i32
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c65_i32 : BitVec 32 := 65#32
  let v2 : BitVec 32 := Scalar.muli v1 c65_i32
  let v3 : BitVec 32 := Scalar.addi v2 arg2
  let c175_i32 : BitVec 32 := 175#32
  let v4 : BitVec 32 := Scalar.minsi v3 c175_i32
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg0 c64_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c0_i32_0 : BitVec 32 := 0#32
  ![v3.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c65_i32 : BitVec 32 := 65#32
  let v2 : BitVec 32 := Scalar.muli v1 c65_i32
  let v3 : BitVec 32 := Scalar.addi v2 arg2
  let c127_i32 : BitVec 32 := 127#32
  let v4 : BitVec 32 := Scalar.minsi v3 c127_i32
  let c0_i32 : BitVec 32 := 0#32
  let c0_i32_0 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c65_i32 : BitVec 32 := 65#32
  let v2 : BitVec 32 := Scalar.muli v1 c65_i32
  let v3 : BitVec 32 := Scalar.addi v2 arg2
  let c175_i32 : BitVec 32 := 175#32
  let v4 : BitVec 32 := Scalar.minsi v3 c175_i32
  let c0_i32 : BitVec 32 := 0#32
  let c0_i32_0 : BitVec 32 := 0#32
  ![v4.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16x11264 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S16x11264 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S32x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S16384x1024 : Shape := ⟨2, ![16384, 1024]⟩
abbrev S2x8448x256 : Shape := ⟨3, ![2, 8448, 256]⟩
abbrev S2048x11264 : Shape := ⟨2, ![2048, 11264]⟩
abbrev S5632x2048 : Shape := ⟨2, ![5632, 2048]⟩
abbrev S2x8192x2x4x128 : Shape := ⟨5, ![2, 8192, 2, 4, 128]⟩
abbrev S2x8448x2x128 : Shape := ⟨4, ![2, 8448, 2, 128]⟩
abbrev S2x2x8448x8192x4 : Shape := ⟨5, ![2, 2, 8448, 8192, 4]⟩
abbrev S2x2x4x8192x8448 : Shape := ⟨5, ![2, 2, 4, 8192, 8448]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x2x128x4x8192 : Shape := ⟨5, ![2, 2, 128, 4, 8192]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8448x256, .bf16⟩
  | .hbm, ⟨2, _⟩ => ⟨S2x8448x256, .bf16⟩
  | .hbm, ⟨3, _⟩ => ⟨S2048x11264, .f32⟩
  | .hbm, ⟨4, _⟩ => ⟨S5632x2048, .f32⟩
  | .hbm, ⟨5, _⟩ => ⟨S2x8192x2x4x128, .f32⟩
  | .hbm, ⟨6, _⟩ => ⟨S2x8448x256, .f32⟩
  | .hbm, ⟨7, _⟩ => ⟨S2x8448x2x128, .f32⟩
  | .hbm, ⟨8, _⟩ => ⟨S2x8448x256, .f32⟩
  | .hbm, ⟨9, _⟩ => ⟨S2x8448x2x128, .f32⟩
  | .hbm, ⟨10, _⟩ => ⟨S2x2x8448x8192x4, .f32⟩
  | .hbm, ⟨11, _⟩ => ⟨S2x2x4x8192x8448, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x2x4x8192x8448, .f32⟩
  | .hbm, ⟨17, _⟩ => ⟨S2x2x4x8192x8448, .f32⟩
  | .hbm, ⟨18, _⟩ => ⟨S_, .f32⟩
  | .hbm, ⟨19, _⟩ => ⟨S2x2x4x8192, .f32⟩
  | .hbm, ⟨20, _⟩ => ⟨S_, .f32⟩
  | .hbm, ⟨21, _⟩ => ⟨S2x2x4x8192, .f32⟩
  | .hbm, ⟨22, _⟩ => ⟨S2x2x4x8192, .f32⟩
  | .hbm, ⟨23, _⟩ => ⟨S2x2x4x8192x1, .f32⟩
  | .hbm, ⟨24, _⟩ => ⟨S2x2x4x8192x8448, .f32⟩
  | .hbm, ⟨25, _⟩ => ⟨S2x2x4x8192x8448, .f32⟩
  | .hbm, ⟨26, _⟩ => ⟨S2x2x4x8192x8448, .f32⟩
  | .hbm, ⟨27, _⟩ => ⟨S_, .f32⟩
  | .hbm, ⟨28, _⟩ => ⟨S2x2x4x8192, .f32⟩
  | .hbm, ⟨29, _⟩ => ⟨S2x2x4x8192x1, .f32⟩
  | .hbm, ⟨30, _⟩ => ⟨S2x2x4x8192x8448, .f32⟩
  | .hbm, ⟨31, _⟩ => ⟨S2x2x4x8192x8448, .f32⟩
  | .hbm, ⟨32, _⟩ => ⟨S2x2x128x4x8192, .f32⟩
  | .hbm, ⟨33, _⟩ => ⟨S2x8192x2x4x128, .f32⟩
  | .hbm, ⟨34, _⟩ => ⟨S16384x1024, .f32⟩
  | .hbm, ⟨35, _⟩ => ⟨S16384x1024, .bf16⟩
  | .hbm, ⟨36, _⟩ => ⟨S2048x11264, .bf16⟩
  | .hbm, ⟨37, _⟩ => ⟨S5632x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel2.lean ====
abbrev S2x8192x2048 : Shape := ⟨3, ![2, 8192, 2048]⟩
abbrev S8x1x18432 : Shape := ⟨3, ![8, 1, 18432]⟩
abbrev S2048 : Shape := ⟨1, ![2048]⟩
abbrev S2048x11264 : Shape := ⟨2, ![2048, 11264]⟩
abbrev S5632x2048 : Shape := ⟨2, ![5632, 2048]⟩
abbrev S16384x2048 : Shape := ⟨2, ![16384, 2048]⟩
abbrev S1x2048 : Shape := ⟨2, ![1, 2048]⟩
abbrev S1024x2048 : Shape := ⟨2, ![1024, 2048]⟩
abbrev S1x1x2048 : Shape := ⟨3, ![1, 1, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩
abbrev S512x512 : Shape := ⟨2, ![512, 512]⟩
abbrev S1x512 : Shape := ⟨2, ![1, 512]⟩

abbrev nBuf : Space → Nat
  | .hbm => 10
  | .vmem => 18
  | .smem => 0
  | _ => 0

abbrev bufTy : (tb : Table) → Fin (tcTables nBuf tb) → BufTy
  | .hbm, ⟨0, _⟩ => ⟨S2x8192x2048, .f32⟩
  | .hbm, ⟨1, _⟩ => ⟨S8x1x18432, .f32⟩
  | .hbm, ⟨2, _⟩ => ⟨S2048, .f32⟩
  | .hbm, ⟨3, _⟩ => ⟨S2048x11264, .f32⟩
  | .hbm, ⟨4, _⟩ => ⟨S5632x2048, .f32⟩
  | .hbm, ⟨5, _⟩ => ⟨S16384x2048, .f32⟩
  | .hbm, ⟨6, _⟩ => ⟨S2048x11264, .bf16⟩
  | .hbm, ⟨7, _⟩ => ⟨S5632x2048, .bf16⟩
  | .hbm, ⟨8, _⟩ => ⟨S1x2048, .f32⟩
  | .hbm, ⟨9, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1024x2048, .f32⟩
  | .local _ .vmem, ⟨16, _⟩ => ⟨S1024x2048, .f32⟩
  | .local _ .vmem, ⟨17, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c0_i32_3 : BitVec 32 := 0#32
  let v8 : BitVec 1 := Scalar.cmpi .sgt arg1 c0_i32_3
  let c10_i32_4 : BitVec 32 := 10#32
  let v9 : BitVec 1 := Scalar.cmpi .eq arg1 c10_i32_4
  let v10 : BitVec 1 := Scalar.andi v8 v9
  let v11 : BitVec 32 := Scalar.extui v10
  let c0_i32_5 : BitVec 32 := 0#32
  let v12 : BitVec 1 := Scalar.cmpi .ne v11 c0_i32_5
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c6_i32 : BitVec 32 := 6#32
  let c0_i32_5 : BitVec 32 := 0#32
  ![v16.toNat, c0_i32_4.toNat, c6_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c7_i32 : BitVec 32 := 7#32
  let c0_i32_5 : BitVec 32 := 0#32
  ![v16.toNat, c0_i32_4.toNat, c7_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c8_i32_5 : BitVec 32 := 8#32
  let c0_i32_6 : BitVec 32 := 0#32
  ![v16.toNat, c0_i32_4.toNat, c8_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S2x8192x2048 : Shape := ⟨3, ![2, 8192, 2048]⟩
abbrev S8x1x18432 : Shape := ⟨3, ![8, 1, 18432]⟩
abbrev S2048 : Shape := ⟨1, ![2048]⟩
abbrev S2048x11264 : Shape := ⟨2, ![2048, 11264]⟩
abbrev S5632x2048 : Shape := ⟨2, ![5632, 2048]⟩
abbrev S2x1x18432 : Shape := ⟨3, ![2, 1, 18432]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2x8192x11264 : Shape := ⟨3, ![2, 8192, 11264]⟩
abbrev S2x8192x5632 : Shape := ⟨3, ![2, 8192, 5632]⟩
abbrev S16384x2048 : Shape := ⟨2, ![16384, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8x1x18432, .f32⟩
  | .hbm, ⟨2, _⟩ => ⟨S2048, .f32⟩
  | .hbm, ⟨3, _⟩ => ⟨S2048x11264, .f32⟩
  | .hbm, ⟨4, _⟩ => ⟨S5632x2048, .f32⟩
  | .hbm, ⟨5, _⟩ => ⟨S2x1x18432, .f32⟩
  | .hbm, ⟨6, _⟩ => ⟨S2x8192x2048, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x2048, .f32⟩
  | .hbm, ⟨18, _⟩ => ⟨S2x8192x2048, .f32⟩
  | .hbm, ⟨19, _⟩ => ⟨S1x1x2048, .f32⟩
  | .hbm, ⟨20, _⟩ => ⟨S2x8192x2048, .f32⟩
  | .hbm, ⟨21, _⟩ => ⟨S2x8192x2048, .f32⟩
  | .hbm, ⟨22, _⟩ => ⟨S2x1x2048, .f32⟩
  | .hbm, ⟨23, _⟩ => ⟨S2x1x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x8192x2048, .f32⟩
  | .hbm, ⟨28, _⟩ => ⟨S2x8192x2048, .f32⟩
  | .hbm, ⟨29, _⟩ => ⟨S2x8192x2048, .f32⟩
  | .hbm, ⟨30, _⟩ => ⟨S2x8192x2048, .f32⟩
  | .hbm, ⟨31, _⟩ => ⟨S2x1x2048, .f32⟩
  | .hbm, ⟨32, _⟩ => ⟨S_, .f32⟩
  | .hbm, ⟨33, _⟩ => ⟨S2x1x2048, .f32⟩
  | .hbm, ⟨34, _⟩ => ⟨S2x1x2048, .f32⟩
  | .hbm, ⟨35, _⟩ => ⟨S2x8192x11264, .f32⟩
  | .hbm, ⟨36, _⟩ => ⟨S2x8192x5632, .f32⟩
  | .hbm, ⟨37, _⟩ => ⟨S2x8192x5632, .f32⟩
  | .hbm, ⟨38, _⟩ => ⟨S2x8192x5632, .f32⟩
  | .hbm, ⟨39, _⟩ => ⟨S2x8192x5632, .f32⟩
  | .hbm, ⟨40, _⟩ => ⟨S_, .f32⟩
  | .hbm, ⟨41, _⟩ => ⟨S2x8192x5632, .f32⟩
  | .hbm, ⟨42, _⟩ => ⟨S2x8192x5632, .f32⟩
  | .hbm, ⟨43, _⟩ => ⟨S_, .f32⟩
  | .hbm, ⟨44, _⟩ => ⟨S2x8192x5632, .f32⟩
  | .hbm, ⟨45, _⟩ => ⟨S2x8192x5632, .f32⟩
  | .hbm, ⟨46, _⟩ => ⟨S2x8192x5632, .f32⟩
  | .hbm, ⟨47, _⟩ => ⟨S2x8192x5632, .f32⟩
  | .hbm, ⟨48, _⟩ => ⟨S2x8192x2048, .f32⟩
  | .hbm, ⟨49, _⟩ => ⟨S2x8192x2048, .f32⟩
  | .hbm, ⟨50, _⟩ => ⟨S2x8192x2048, .f32⟩
  | .hbm, ⟨51, _⟩ => ⟨S2x8192x2048, .f32⟩
  | .hbm, ⟨52, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Kernel3.lean ====
abbrev S16384x2048 : Shape := ⟨2, ![16384, 2048]⟩
abbrev S8x1x18432 : Shape := ⟨3, ![8, 1, 18432]⟩
abbrev S16384x1024 : Shape := ⟨2, ![16384, 1024]⟩
abbrev S1024 : Shape := ⟨1, ![1024]⟩
abbrev S2048x2048 : Shape := ⟨2, ![2048, 2048]⟩
abbrev S1x1024 : Shape := ⟨2, ![1, 1024]⟩
abbrev S512x2048 : Shape := ⟨2, ![512, 2048]⟩
abbrev S1x1x2048 : Shape := ⟨3, ![1, 1, 2048]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩
abbrev S1x2048 : Shape := ⟨2, ![1, 2048]⟩

abbrev nBuf : Space → Nat
  | .hbm => 9
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S8x1x18432, .f32⟩
  | .hbm, ⟨2, _⟩ => ⟨S16384x1024, .bf16⟩
  | .hbm, ⟨3, _⟩ => ⟨S16384x1024, .f32⟩
  | .hbm, ⟨4, _⟩ => ⟨S1024, .f32⟩
  | .hbm, ⟨5, _⟩ => ⟨S2048x2048, .f32⟩
  | .hbm, ⟨6, _⟩ => ⟨S2048x2048, .bf16⟩
  | .hbm, ⟨7, _⟩ => ⟨S1x1024, .f32⟩
  | .hbm, ⟨8, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x1x2048, .f32⟩
  | .local _ .vmem, ⟨3, _⟩ => ⟨S1x1x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x2048, .bf16⟩
  | .local _ .vmem, ⟨10, _⟩ => ⟨S1024x2048, .bf16⟩
  | .local _ .vmem, ⟨11, _⟩ => ⟨S512x2048, .f32⟩
  | .local _ .vmem, ⟨12, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x2048 : Shape := ⟨2, ![16384, 2048]⟩
abbrev S8x1x18432 : Shape := ⟨3, ![8, 1, 18432]⟩
abbrev S16384x1024 : Shape := ⟨2, ![16384, 1024]⟩
abbrev S1024 : Shape := ⟨1, ![1024]⟩
abbrev S2048x2048 : Shape := ⟨2, ![2048, 2048]⟩
abbrev S2x8192x2048 : Shape := ⟨3, ![2, 8192, 2048]⟩
abbrev S2x8192x1024 : Shape := ⟨3, ![2, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x18432 : Shape := ⟨3, ![2, 1, 18432]⟩
abbrev S2x1x2048 : Shape := ⟨3, ![2, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x1x18432, .f32⟩
  | .hbm, ⟨2, _⟩ => ⟨S16384x1024, .bf16⟩
  | .hbm, ⟨3, _⟩ => ⟨S16384x1024, .f32⟩
  | .hbm, ⟨4, _⟩ => ⟨S1024, .f32⟩
  | .hbm, ⟨5, _⟩ => ⟨S2048x2048, .f32⟩
  | .hbm, ⟨6, _⟩ => ⟨S2x8192x2048, .f32⟩
  | .hbm, ⟨7, _⟩ => ⟨S16384x1024, .f32⟩
  | .hbm, ⟨8, _⟩ => ⟨S2x8192x1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x2048, .f32⟩
  | .hbm, ⟨27, _⟩ => ⟨S2x1x18432, .f32⟩
  | .hbm, ⟨28, _⟩ => ⟨S2x1x2048, .f32⟩
  | .hbm, ⟨29, _⟩ => ⟨S2x8192x2048, .f32⟩
  | .hbm, ⟨30, _⟩ => ⟨S2x8192x2048, .f32⟩
  | .hbm, ⟨31, _⟩ => ⟨S2x8192x2048, .f32⟩
  | .hbm, ⟨32, _⟩ => ⟨S2x8192x2048, .f32⟩
  | .hbm, ⟨33, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Kernel4.lean ====
abbrev S512x2048 : Shape := ⟨2, ![512, 2048]⟩
abbrev S8x1x18432 : Shape := ⟨3, ![8, 1, 18432]⟩
abbrev S2048 : Shape := ⟨1, ![2048]⟩
abbrev S2048x4608 : Shape := ⟨2, ![2048, 4608]⟩
abbrev S128 : Shape := ⟨1, ![128]⟩
abbrev S2x8448x256 : Shape := ⟨3, ![2, 8448, 256]⟩
abbrev S2048x512 : Shape := ⟨2, ![2048, 512]⟩
abbrev S1x128 : Shape := ⟨2, ![1, 128]⟩
abbrev S1x2048 : Shape := ⟨2, ![1, 2048]⟩
abbrev S256x2048 : Shape := ⟨2, ![256, 2048]⟩
abbrev S1x1x2048 : Shape := ⟨3, ![1, 1, 2048]⟩
abbrev S1x256x256 : Shape := ⟨3, ![1, 256, 256]⟩
abbrev S256 : Shape := ⟨1, ![256]⟩
abbrev S256x1 : Shape := ⟨2, ![256, 1]⟩
abbrev S256x512 : Shape := ⟨2, ![256, 512]⟩
abbrev S256x128 : Shape := ⟨2, ![256, 128]⟩
abbrev S1x256x128 : Shape := ⟨3, ![1, 256, 128]⟩
abbrev S256x256 : Shape := ⟨2, ![256, 256]⟩

abbrev nBuf : Space → Nat
  | .hbm => 13
  | .vmem => 11
  | .smem => 0
  | _ => 0

abbrev bufTy : (tb : Table) → Fin (tcTables nBuf tb) → BufTy
  | .hbm, ⟨0, _⟩ => ⟨S512x2048, .f32⟩
  | .hbm, ⟨1, _⟩ => ⟨S8x1x18432, .f32⟩
  | .hbm, ⟨2, _⟩ => ⟨S2048, .f32⟩
  | .hbm, ⟨3, _⟩ => ⟨S2048x4608, .f32⟩
  | .hbm, ⟨4, _⟩ => ⟨S128, .f32⟩
  | .hbm, ⟨5, _⟩ => ⟨S2x8448x256, .bf16⟩
  | .hbm, ⟨6, _⟩ => ⟨S2x8448x256, .bf16⟩
  | .hbm, ⟨7, _⟩ => ⟨S2048x4608, .bf16⟩
  | .hbm, ⟨8, _⟩ => ⟨S2048x512, .bf16⟩
  | .hbm, ⟨9, _⟩ => ⟨S1x128, .f32⟩
  | .hbm, ⟨10, _⟩ => ⟨S1x2048, .f32⟩
  | .hbm, ⟨11, _⟩ => ⟨S2x8448x256, .bf16⟩
  | .hbm, ⟨12, _⟩ => ⟨S2x8448x256, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x2048, .f32⟩
  | .local _ .vmem, ⟨5, _⟩ => ⟨S2048x512, .bf16⟩
  | .local _ .vmem, ⟨6, _⟩ => ⟨S1x128, .f32⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let c0_i32 : BitVec 32 := 0#32
  let c3_i32 : BitVec 32 := 3#32
  let c0_i32_0 : BitVec 32 := 0#32
  ![c2_i32.toNat, c0_i32.toNat, c3_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c4_i32 : BitVec 32 := 4#32
  let c0_i32_0 : BitVec 32 := 0#32
  ![c2_i32.toNat, c0_i32.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c32_i32 : BitVec 32 := 32#32
  let c0_i32 : BitVec 32 := 0#32
  let c0_i32_0 : BitVec 32 := 0#32
  ![arg0.toNat, c32_i32.toNat, c0_i32.toNat]

def cc0_transform_9 (i : grid0.Coords) : Fin 3 → Nat :=
  let arg0 : BitVec 32 := BitVec.ofNat 32 (i 0).val
  let c32_i32 : BitVec 32 := 32#32
  let c0_i32 : BitVec 32 := 0#32
  let c0_i32_0 : BitVec 32 := 0#32
  ![arg0.toNat, c32_i32.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S512x2048 : Shape := ⟨2, ![512, 2048]⟩
abbrev S8x1x18432 : Shape := ⟨3, ![8, 1, 18432]⟩
abbrev S2048 : Shape := ⟨1, ![2048]⟩
abbrev S2048x4608 : Shape := ⟨2, ![2048, 4608]⟩
abbrev S128 : Shape := ⟨1, ![128]⟩
abbrev S2x8448x256 : Shape := ⟨3, ![2, 8448, 256]⟩
abbrev S2x256x2048 : Shape := ⟨3, ![2, 256, 2048]⟩
abbrev S1x1x18432 : Shape := ⟨3, ![1, 1, 18432]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2048x512 : Shape := ⟨2, ![2048, 512]⟩
abbrev S2x256x512 : Shape := ⟨3, ![2, 256, 512]⟩
abbrev S2x256x256 : Shape := ⟨3, ![2, 256, 256]⟩
abbrev S2x256x2x128 : Shape := ⟨4, ![2, 256, 2, 128]⟩
abbrev S2x256x2 : Shape := ⟨3, ![2, 256, 2]⟩
abbrev S2x256x2x1 : Shape := ⟨4, ![2, 256, 2, 1]⟩
abbrev S1x1x1x128 : Shape := ⟨4, ![1, 1, 1, 128]⟩
abbrev S2x8192x256 : Shape := ⟨3, ![2, 8192, 256]⟩

abbrev nBuf : Space → Nat
  | .hbm => 64
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S8x1x18432, .f32⟩
  | .hbm, ⟨2, _⟩ => ⟨S2048, .f32⟩
  | .hbm, ⟨3, _⟩ => ⟨S2048x4608, .f32⟩
  | .hbm, ⟨4, _⟩ => ⟨S128, .f32⟩
  | .hbm, ⟨5, _⟩ => ⟨S2x8448x256, .bf16⟩
  | .hbm, ⟨6, _⟩ => ⟨S2x8448x256, .bf16⟩
  | .hbm, ⟨7, _⟩ => ⟨S2x256x2048, .f32⟩
  | .hbm, ⟨8, _⟩ => ⟨S1x1x18432, .f32⟩
  | .hbm, ⟨9, _⟩ => ⟨S2x256x2048, .f32⟩
  | .hbm, ⟨10, _⟩ => ⟨S_, .f32⟩
  | .hbm, ⟨11, _⟩ => ⟨S2x256, .f32⟩
  | .hbm, ⟨12, _⟩ => ⟨S2x256x1, .f32⟩
  | .hbm, ⟨13, _⟩ => ⟨S_, .f32⟩
  | .hbm, ⟨14, _⟩ => ⟨S2x256x1, .f32⟩
  | .hbm, ⟨15, _⟩ => ⟨S2x256x1, .f32⟩
  | .hbm, ⟨16, _⟩ => ⟨S_, .f32⟩
  | .hbm, ⟨17, _⟩ => ⟨S2x256x1, .f32⟩
  | .hbm, ⟨18, _⟩ => ⟨S2x256x1, .f32⟩
  | .hbm, ⟨19, _⟩ => ⟨S2x256x1, .f32⟩
  | .hbm, ⟨20, _⟩ => ⟨S2x256x2048, .f32⟩
  | .hbm, ⟨21, _⟩ => ⟨S2x256x2048, .f32⟩
  | .hbm, ⟨22, _⟩ => ⟨S1x1x2048, .f32⟩
  | .hbm, ⟨23, _⟩ => ⟨S2x256x2048, .f32⟩
  | .hbm, ⟨24, _⟩ => ⟨S2x256x2048, .f32⟩
  | .hbm, ⟨25, _⟩ => ⟨S1x1x2048, .f32⟩
  | .hbm, ⟨26, _⟩ => ⟨S1x1x2048, .f32⟩
  | .hbm, ⟨27, _⟩ => ⟨S_, .f32⟩
  | .hbm, ⟨28, _⟩ => ⟨S1x1x2048, .f32⟩
  | .hbm, ⟨29, _⟩ => ⟨S1x1x2048, .f32⟩
  | .hbm, ⟨30, _⟩ => ⟨S2x256x2048, .f32⟩
  | .hbm, ⟨31, _⟩ => ⟨S2x256x2048, .f32⟩
  | .hbm, ⟨32, _⟩ => ⟨S2x256x2048, .f32⟩
  | .hbm, ⟨33, _⟩ => ⟨S2x256x2048, .f32⟩
  | .hbm, ⟨34, _⟩ => ⟨S2048x512, .f32⟩
  | .hbm, ⟨35, _⟩ => ⟨S2x256x512, .f32⟩
  | .hbm, ⟨36, _⟩ => ⟨S2x256x256, .f32⟩
  | .hbm, ⟨37, _⟩ => ⟨S2x256x2x128, .f32⟩
  | .hbm, ⟨38, _⟩ => ⟨S2x256x2x128, .f32⟩
  | .hbm, ⟨39, _⟩ => ⟨S_, .f32⟩
  | .hbm, ⟨40, _⟩ => ⟨S2x256x2, .f32⟩
  | .hbm, ⟨41, _⟩ => ⟨S2x256x2x1, .f32⟩
  | .hbm, ⟨42, _⟩ => ⟨S_, .f32⟩
  | .hbm, ⟨43, _⟩ => ⟨S2x256x2x1, .f32⟩
  | .hbm, ⟨44, _⟩ => ⟨S2x256x2x1, .f32⟩
  | .hbm, ⟨45, _⟩ => ⟨S_, .f32⟩
  | .hbm, ⟨46, _⟩ => ⟨S2x256x2x1, .f32⟩
  | .hbm, ⟨47, _⟩ => ⟨S2x256x2x1, .f32⟩
  | .hbm, ⟨48, _⟩ => ⟨S2x256x2x1, .f32⟩
  | .hbm, ⟨49, _⟩ => ⟨S2x256x2x128, .f32⟩
  | .hbm, ⟨50, _⟩ => ⟨S2x256x2x128, .f32⟩
  | .hbm, ⟨51, _⟩ => ⟨S1x1x1x128, .f32⟩
  | .hbm, ⟨52, _⟩ => ⟨S2x256x2x128, .f32⟩
  | .hbm, ⟨53, _⟩ => ⟨S2x256x2x128, .f32⟩
  | .hbm, ⟨54, _⟩ => ⟨S2x256x256, .f32⟩
  | .hbm, ⟨55, _⟩ => ⟨S2x256x2x128, .f32⟩
  | .hbm, ⟨56, _⟩ => ⟨S2x8192x256, .bf16⟩
  | .hbm, ⟨57, _⟩ => ⟨S2x256x256, .f32⟩
  | .hbm, ⟨58, _⟩ => ⟨S2x256x256, .bf16⟩
  | .hbm, ⟨59, _⟩ => ⟨S2x8448x256, .bf16⟩
  | .hbm, ⟨60, _⟩ => ⟨S2x8192x256, .bf16⟩
  | .hbm, ⟨61, _⟩ => ⟨S2x256x256, .f32⟩
  | .hbm, ⟨62, _⟩ => ⟨S2x256x256, .bf16⟩
  | .hbm, ⟨63, _⟩ => ⟨S2x8448x256, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Proof.Ffn.Cases.lean ====
/-
  The feed-forward call, one grid point at a time, over the extended reals: what each of the three kinds of point
  (first, middle and last chunk of the hidden width) leaves in the output block and in the carried scratch, as plain
  sums over the point's blocks.
-/
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem

/-- Entry `d` of one row `x` of the activations after the root-mean-square norm with gain `g` and the modulation by `sc`
    and `sh`. -/
def hid (x g sc sh : Fin 2048 → EReal) (d : Fin 2048) : EReal :=
  x d * Ideal.rsqrt (Ideal.div (∑ k, x k * x k) (Ideal.ofBits FTy.f32 1157627904#32) + Ideal.ofBits FTy.f32 897988541#32)
    * g d * (1 + sc d) + sh d

/-- The gated hidden unit whose gate column is `wg` and whose up column is `wu`, at the normed row `h`. -/
def unit (h wg wu : Fin 2048 → EReal) : EReal :=
  (∑ d, h d * wg d) * Ideal.logistic (∑ d, h d * wg d) * ∑ d, h d * wu d

/-- One chunk of 512 hidden units, multiplied into one output column `wd`. -/
def part (h : Fin 2048 → EReal) (wg wu : Fin 2048 → Fin 512 → EReal) (wd : Fin 512 → EReal) : EReal :=
  ∑ f, unit h (fun d => wg d f) (fun d => wu d f) * wd f

/-- Row `r` of the normed and modulated block. -/
abbrev hidRow (x0 : Vec Ideal S1024x2048 .f32) (x1 x2 : Vec Ideal S1x1x2048 .f32) (x4 : Vec Ideal S1x2048 .f32) (r : Fin 1024) :
    Fin 2048 → EReal :=
  hid (fun k => x0 (ix2 r k)) (fun k => x4 (ix2 0 k)) (fun k => x2 (ix3 0 0 k)) (fun k => x1 (ix3 0 0 k))

/-- The chunk's product at column `n`, from the weight blocks of the point. -/
abbrev partOf (h : Fin 2048 → EReal) (x5 x6 : Vec Ideal S2048x512 .bf16) (x7 : Vec Ideal S512x2048 .bf16) (n : Fin 2048) : EReal :=
  part h (fun d f => x5 (ix2 d f)) (fun d f => x6 (ix2 d f)) (fun f => x7 (ix2 f n))

/-- The first chunk's point stores the chunk's product. -/
theorem outA_apply (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1024x2048 .f32) (harg10 : arg10.IsWhole) (arg11 : Memref sig .tc .vmem S1024x2048 .bf16) (harg11 : arg11.IsWhole) (hc0 : cond0_0 i) (hc1 : ¬cond0_1 i) (hc2 : ¬cond0_2 i)
    (x0 : Vec Ideal S1024x2048 .f32) (x1 : Vec Ideal S1x1x2048 .f32) (x2 : Vec Ideal S1x1x2048 .f32) (x3 : Vec Ideal S1x1x2048 .f32) (x4 : Vec Ideal S1x2048 .f32) (x5 : Vec Ideal S2048x512 .bf16) (x6 : Vec Ideal S2048x512 .bf16) (x7 : Vec Ideal S512x2048 .bf16) (r : Fin 1024) (n : Fin 2048) :
    out0_A_8 c i arg2 harg2 arg3 harg3 arg4 harg4 arg5 harg5 arg6 harg6 arg7 harg7 arg8 harg8 arg9 harg9 arg10 harg10 arg11 harg11 hc0 hc1 hc2 x0 x1 x2 x3 x4 x5 x6 x7 (ix2 r n) = partOf (hidRow x0 x1 x2 x4 r) x5 x6 x7 n := by
  frame_out
  canon_tiles x h
  all_goals
    obtain ⟨a, b, rfl⟩ : ∃ (a : Fin 1024) (b : Fin 512), x = ix2 a b := ⟨x 0, x 1, eq_ix2 x⟩
    obtain rfl : r = a := Fin.ext h0
    obtain ⟨n, hn⟩ := n
    have hn' : n = _ := h1
    subst hn'
    unfold_payloads
    pointwise [part, hid, unit]
    try rfl

/-- The first chunk's point keeps the normed and modulated block in the scratch. -/
theorem soutA_apply (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1024x2048 .f32) (harg10 : arg10.IsWhole) (arg11 : Memref sig .tc .vmem S1024x2048 .bf16) (harg11 : arg11.IsWhole) (hc0 : cond0_0 i) (hc1 : ¬cond0_1 i) (hc2 : ¬cond0_2 i)
    (x0 : Vec Ideal S1024x2048 .f32) (x1 : Vec Ideal S1x1x2048 .f32) (x2 : Vec Ideal S1x1x2048 .f32) (x3 : Vec Ideal S1x1x2048 .f32) (x4 : Vec Ideal S1x2048 .f32) (x5 : Vec Ideal S2048x512 .bf16) (x6 : Vec Ideal S2048x512 .bf16) (x7 : Vec Ideal S512x2048 .bf16) (r : Fin 1024) (d : Fin 2048) :
    sout0_A_0 c i arg2 harg2 arg3 harg3 arg4 harg4 arg5 harg5 arg6 harg6 arg7 harg7 arg8 harg8 arg9 harg9 arg10 harg10 arg11 harg11 hc0 hc1 hc2 x0 x1 x2 x3 x4 x5 x6 x7 (ix2 r d) = hidRow x0 x1 x2 x4 r d := by
  frame_out
  unfold_payloads
  pointwise [hid]

/-- A middle point adds its chunk's product to what the point before left. -/
theorem outB_apply (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : cond0_1 i) (hc2 : ¬cond0_2 i)
    (x0 : Vec Ideal S1024x2048 .f32) (x1 : Vec Ideal S1x1x2048 .f32) (x2 : Vec Ideal S1x1x2048 .f32) (x3 : Vec Ideal S1x1x2048 .f32) (x4 : Vec Ideal S1x2048 .f32) (x5 : Vec Ideal S2048x512 .bf16) (x6 : Vec Ideal S2048x512 .bf16) (x7 : Vec Ideal S512x2048 .bf16) (xo8 : Vec Ideal S1024x2048 .f32) (xs0 : Vec Ideal S1024x2048 .bf16) (r : Fin 1024) (n : Fin 2048) :
    out0_B_8 c i arg2 harg2 arg3 harg3 arg4 harg4 arg5 harg5 arg6 harg6 arg7 harg7 arg8 harg8 arg9 harg9 arg10 harg10 arg11 harg11 hc0 hc1 hc2 x0 x1 x2 x3 x4 x5 x6 x7 xo8 xs0 (ix2 r n) = xo8 (ix2 r n) + partOf (fun d => xs0 (ix2 r d)) x5 x6 x7 n := by
  frame_out
  canon_tiles x h
  all_goals
    obtain ⟨a, b, rfl⟩ : ∃ (a : Fin 1024) (b : Fin 512), x = ix2 a b := ⟨x 0, x 1, eq_ix2 x⟩
    obtain rfl : r = a := Fin.ext h0
    obtain ⟨n, hn⟩ := n
    have hn' : n = _ := h1
    subst hn'
    unfold_payloads
    pointwise [part, hid, unit]
    try rfl

/-- The last point adds its chunk's product, scales the sum by half the gate and adds the block's own activations. -/
theorem outC_apply (c : Dev nD) (i : grid0.Coords) (arg2 : Memref sig .tc .vmem S1024x2048 .f32) (harg2 : arg2.IsWhole) (arg3 : Memref sig .tc .vmem S1x1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048 .f32) (harg6 : arg6.IsWhole) (arg7 : Memref sig .tc .vmem S2048x512 .bf16) (harg7 : arg7.IsWhole) (arg8 : Memref sig .tc .vmem S2048x512 .bf16) (harg8 : arg8.IsWhole) (arg9 : Memref sig .tc .vmem S512x2048 .bf16) (harg9 : arg9.IsWhole) (arg10 : Memref sig .tc .vmem S1024x2048 .f32) (harg10 : arg10.IsWhole) (arg11 : Memref sig .tc .vmem S1024x2048 .bf16) (harg11 : arg11.IsWhole) (hc0 : ¬cond0_0 i) (hc1 : ¬cond0_1 i) (hc2 : cond0_2 i)
    (x0 : Vec Ideal S1024x2048 .f32) (x1 : Vec Ideal S1x1x2048 .f32) (x2 : Vec Ideal S1x1x2048 .f32) (x3 : Vec Ideal S1x1x2048 .f32) (x4 : Vec Ideal S1x2048 .f32) (x5 : Vec Ideal S2048x512 .bf16) (x6 : Vec Ideal S2048x512 .bf16) (x7 : Vec Ideal S512x2048 .bf16) (xo8 : Vec Ideal S1024x2048 .f32) (xs0 : Vec Ideal S1024x2048 .bf16) (r : Fin 1024) (n : Fin 2048) :
    out0_C_8 c i arg2 harg2 arg3 harg3 arg4 harg4 arg5 harg5 arg6 harg6 arg7 harg7 arg8 harg8 arg9 harg9 arg10 harg10 arg11 harg11 hc0 hc1 hc2 x0 x1 x2 x3 x4 x5 x6 x7 xo8 xs0 (ix2 r n) = x0 (ix2 r n) + Ideal.ofBits FTy.f32 0x3F000000#32 * x3 (ix3 0 0 n) * (xo8 (ix2 r n) + partOf (fun d => xs0 (ix2 r d)) x5 x6 x7 n) := by
  frame_out
  canon_tiles x h
  all_goals
    obtain ⟨a, b, rfl⟩ : ∃ (a : Fin 1024) (b : Fin 512), x = ix2 a b := ⟨x 0, x 1, eq_ix2 x⟩
    obtain rfl : r = a := Fin.ext h0
    obtain ⟨n, hn⟩ := n
    have hn' : n = _ := h1
    subst hn'
    unfold_payloads
    pointwise [part, hid, unit]
    try rfl

end Cert.Ffn
-- ==== Proof.Ffn.Blocks.lean ====
module

public import proofs.«01_k».proof.Proof.Ffn.Cases

@[expose] public section

/-! # What the blocks of a grid point are, read in the arguments' arrays

The grid is 16 row tiles by 11 chunks: point `t` works on row tile `t / 11` and on chunk `t % 11` of the hidden units. -/

noncomputable section

namespace Cert.Ffn

open Cert.Kernel2Ideal Cert.Kernel2Ideal.Gen Idealize.ShloMosaic Idealize.ShloMosaic.Pipeline Idealize.SL.Sem

variable (m : (ℓ : Loc nD τ sig) → Buf (Elt Ideal) ℓ) (c : Dev nD)

/-- The index maps of all windows, decided over the grid. -/
theorem idx_all : ∀ t : Fin cfg0.N,
    win0_0.index t = ![t.val / 11, 0] ∧ win0_1.index t = ![t.val / 88, 0, 6] ∧ win0_2.index t = ![t.val / 88, 0, 7]
    ∧ win0_3.index t = ![t.val / 88, 0, 8] ∧ win0_4.index t = ![0, 0] ∧ win0_5.index t = ![0, t.val % 11]
    ∧ win0_6.index t = ![0, t.val % 11 + 11] ∧ win0_7.index t = ![t.val % 11, 0] := by decide +kernel

/-- Row `R` of the activations, both batches counted through. -/
abbrev xAt (R : Fin 16384) (k : Fin 2048) : EReal :=
  m ((c.tc : Thread nD τ).loc main_arg0) (ix3 (⟨R / 8192, by omega⟩ : Fin 2) (⟨R % 8192, by omega⟩ : Fin 8192) k)

/-- Entry `k` of chunk `q` of the modulation of row `R`'s batch. -/
abbrev modAt (q : Fin 9) (R : Fin 16384) (k : Fin 2048) : EReal :=
  m ((c.tc : Thread nD τ).loc main_arg1) (ix3 (⟨R / 8192, by omega⟩ : Fin 8) (0 : Fin 1) (⟨q * 2048 + k, by omega⟩ : Fin 18432))

/-- The gain. -/
abbrev gAt (k : Fin 2048) : EReal := m ((c.tc : Thread nD τ).loc main_arg2) (ix1 k)

/-- The first projection's column `f`: the gate columns, then the up columns. -/
abbrev upAt (d : Fin 2048) (f : Fin 11264) : EReal := m ((c.tc : Thread nD τ).loc main_arg3) (ix2 d f)

/-- The second projection. -/
abbrev downAt (f : Fin 5632) (n : Fin 2048) : EReal := m ((c.tc : Thread nD τ).loc main_arg4) (ix2 f n)

/-- Row `r` of row tile `t / 11`. -/
abbrev rowOf (t : Fin cfg0.N) (r : Fin 1024) : Fin 16384 :=
  ⟨t.val / 11 * 1024 + r, by have := lt_of_lt_of_eq t.isLt (show cfg0.N = 176 from N_0); omega⟩

/-- Hidden unit `f` of chunk `t % 11`. -/
abbrev unitOf (t : Fin cfg0.N) (f : Fin 512) : Fin 5632 := ⟨t.val % 11 * 512 + f, by omega⟩

theorem blk0 (t : Fin cfg0.N) (r : Fin 1024) (k : Fin 2048) : iblk m c 0 t (ix2 r k) = xAt m c (rowOf t r) k := by
  have hi := idx_all t
  have hN := lt_of_lt_of_eq t.isLt (show cfg0.N = 176 from N_0)
  blk_ext! [iblk, hi]

theorem blk1 (t : Fin cfg0.N) (r : Fin 1024) (k : Fin 2048) : iblk m c 1 t (ix3 0 0 k) = modAt m c 6 (rowOf t r) k := by
  have hi := idx_all t
  have hN := lt_of_lt_of_eq t.isLt (show cfg0.N = 176 from N_0)
  blk_ext [iblk, hi]

theorem blk2 (t : Fin cfg0.N) (r : Fin 1024) (k : Fin 2048) : iblk m c 2 t (ix3 0 0 k) = modAt m c 7 (rowOf t r) k := by
  have hi := idx_all t
  have hN := lt_of_lt_of_eq t.isLt (show cfg0.N = 176 from N_0)
  blk_ext [iblk, hi]

theorem blk3 (t : Fin cfg0.N) (r : Fin 1024) (k : Fin 2048) : iblk m c 3 t (ix3 0 0 k) = modAt m c 8 (rowOf t r) k := by
  have hi := idx_all t
  have hN := lt_of_lt_of_eq t.isLt (show cfg0.N = 176 from N_0)
  blk_ext [iblk, hi]

theorem blk4 (t : Fin cfg0.N) (k : Fin 2048) : iblk m c 4 t (ix2 0 k) = gAt m c k := by
  have hi := idx_all t
  blk_ext! [iblk, hi]

theorem blk5 (t : Fin cfg0.N) (d : Fin 2048) (f : Fin 512) :
    iblk m c 5 t (ix2 d f) = upAt m c d ⟨unitOf t f, by omega⟩ := by
  have hi := idx_all t
  blk_ext [iblk, hi]

theorem blk6 (t : Fin cfg0.N) (d : Fin 2048) (f : Fin 512) :
    iblk m c 6 t (ix2 d f) = upAt m c d ⟨5632 + unitOf t f, by omega⟩ := by
  have hi := idx_all t
  blk_ext [iblk, hi]

theorem blk7 (t : Fin cfg0.N) (f : Fin 512) (n : Fin 2048) : iblk m c 7 t (ix2 f n) = downAt m c (unitOf t f) n := by
  have hi := idx_all t
  blk_ext [iblk, hi]

end Cert.Ffn
-- ==== Proof.Ffn.Fold.lean ====
module

public import proofs.«01_k».proof.Proof.Ffn.Blocks

@[expose] public section

/-! # What the output block holds as the chunks of a row tile go by -/

noncomputable section

namespace Cert.Ffn

open Cert.Kernel2Ideal Cert.Kernel2Ideal.Gen Idealize.ShloMosaic Idealize.ShloMosaic.Pipeline Idealize.SL.Sem

variable (m : (ℓ : Loc nD τ sig) → Buf (Elt Ideal) ℓ) (c : Dev nD)

/-- Row `R` after the norm and the modulation. -/
abbrev hidAt (R : Fin 16384) : Fin 2048 → EReal := hid (xAt m c R) (gAt m c) (modAt m c 7 R) (modAt m c 6 R)

/-- What chunk `j` of the hidden units adds to row `R` at column `n`. -/
def chunkAt (R : Fin 16384) (n : Fin 2048) (j : ℕ) : EReal :=
  part (hidAt m c R) (fun d f => upAt m c d ⟨j % 11 * 512 + f, by omega⟩) (fun d f => upAt m c d ⟨5632 + (j % 11 * 512 + f), by omega⟩)
    (fun f => downAt m c ⟨j % 11 * 512 + f, by omega⟩ n)

/-- The row tile's normed rows, as the first point of the tile computes them. -/
theorem hidRow_eq (t : Fin cfg0.N) (r : Fin 1024) :
    hidRow (iblk m c 0 t) (iblk m c 1 t) (iblk m c 2 t) (iblk m c 4 t) r = hidAt m c (rowOf t r) := by
  unfold hidRow hidAt
  congr 1 <;> funext k
  · exact blk0 m c t r k
  · exact blk4 m c t k
  · exact blk2 m c t r k
  · exact blk1 m c t r k

/-- A point's product, of the row tile's normed rows, is its chunk's. -/
theorem partOf_eq (t : Fin cfg0.N) (r : Fin 1024) (n : Fin 2048) (j : ℕ) (hj : t.val % 11 = j % 11) :
    partOf (hidAt m c (rowOf t r)) (iblk m c 5 t) (iblk m c 6 t) (iblk m c 7 t) n = chunkAt m c (rowOf t r) n j := by
  unfold partOf chunkAt
  congr 1
  · funext d f
    exact (blk5 m c t d f).trans (by simp only [unitOf, hj])
  · funext d f
    exact (blk6 m c t d f).trans (by simp only [unitOf, hj])
  · funext f
    exact (blk7 m c t f n).trans (by simp only [unitOf, hj])

/-- What the first point of a row tile leaves. -/
theorem pointA (t : Fin cfg0.N) (h0 : t.val % 11 = 0) (r : Fin 1024) :
    (∀ d : Fin 2048, (outsAt0 m c t.val t.isLt).2 (ix2 r d) = hidAt m c (rowOf t r) d)
    ∧ ∀ n : Fin 2048, (outsAt0 m c t.val t.isLt).1 (ix2 r n) = chunkAt m c (rowOf t r) n 0 := by
  have e := outsAt0_A m c t h0 (by omega) (by omega)
  refine ⟨fun d => ?_,
    fun n => ?_⟩
  · have e2 := congrFun (congrArg Prod.snd e) (ix2 r d)
    dsimp only at e2
    rw [soutA_apply, hidRow_eq] at e2
    exact e2
  · have e1 := congrFun (congrArg Prod.fst e) (ix2 r n)
    dsimp only at e1
    rw [outA_apply, hidRow_eq, partOf_eq m c t r n 0 h0] at e1
    exact e1

/-- What a middle point of a row tile leaves, over what the point before left. -/
theorem pointB (t : Fin cfg0.N) (h1 : 1 ≤ t.val % 11 ∧ t.val % 11 ≤ 9) (hp : t.val - 1 < cfg0.N) (r : Fin 1024)
    (hs : ∀ d : Fin 2048, (outsAt0 m c (t.val - 1) hp).2 (ix2 r d) = hidAt m c (rowOf t r) d) :
    (∀ d : Fin 2048, (outsAt0 m c t.val t.isLt).2 (ix2 r d) = hidAt m c (rowOf t r) d)
    ∧ ∀ n : Fin 2048, (outsAt0 m c t.val t.isLt).1 (ix2 r n)
        = (outsAt0 m c (t.val - 1) hp).1 (ix2 r n) + chunkAt m c (rowOf t r) n (t.val % 11) := by
  have e := outsAt0_B m c t (by omega) h1 (by omega)
  refine ⟨fun d => (congrFun (congrArg Prod.snd e) (ix2 r d)).trans (hs d),
    fun n => ?_⟩
  have e1 := congrFun (congrArg Prod.fst e) (ix2 r n)
  dsimp only at e1
  rw [outB_apply, show (fun d => (outsAt0 m c (t.val - 1) hp).2 (ix2 r d)) = hidAt m c (rowOf t r) from funext hs,
    partOf_eq m c t r n (t.val % 11) (Nat.mod_mod _ _).symm] at e1
  exact e1

/-- What the last point of a row tile leaves, over what the point before left. -/
theorem pointC (t : Fin cfg0.N) (h2 : t.val % 11 = 10) (hp : t.val - 1 < cfg0.N) (r : Fin 1024)
    (hs : ∀ d : Fin 2048, (outsAt0 m c (t.val - 1) hp).2 (ix2 r d) = hidAt m c (rowOf t r) d) (n : Fin 2048) :
    (outsAt0 m c t.val t.isLt).1 (ix2 r n)
      = xAt m c (rowOf t r) n + Ideal.ofBits FTy.f32 0x3F000000#32 * modAt m c 8 (rowOf t r) n
        * ((outsAt0 m c (t.val - 1) hp).1 (ix2 r n) + chunkAt m c (rowOf t r) n 10) := by
  have e := outsAt0_C m c t (by omega) (by omega) h2
  have e1 := congrFun (congrArg Prod.fst e) (ix2 r n)
  dsimp only at e1
  rw [outC_apply, show (fun d => (outsAt0 m c (t.val - 1) hp).2 (ix2 r d)) = hidAt m c (rowOf t r) from funext hs,
    partOf_eq m c t r n 10 h2] at e1
  refine e1.trans ?_
  exact congrArg₂ (· + ·) (blk0 m c t r n) (congrArg (fun z => _ * z * _) (blk3 m c t r n))

/-- Before the last chunk of row tile `a`: the scratch holds the tile's normed rows, the output block the sum of the
    chunks so far. -/
theorem sofar (a : ℕ) (ha : a < 16) (k : ℕ) (hk : k < 10) (h : 11 * a + k < cfg0.N) (r : Fin 1024) :
    (∀ d : Fin 2048, (outsAt0 m c (11 * a + k) h).2 (ix2 r d) = hidAt m c ⟨a * 1024 + r, by omega⟩ d)
    ∧ ∀ n : Fin 2048, (outsAt0 m c (11 * a + k) h).1 (ix2 r n)
        = ∑ j ∈ Finset.range (k + 1), chunkAt m c ⟨a * 1024 + r, by omega⟩ n j := by
  have hR : rowOf ⟨11 * a + k, h⟩ r = ⟨a * 1024 + r, by omega⟩ := Fin.ext (by simp only [rowOf]; omega)
  induction k with
  | zero =>
    obtain ⟨p2, p1⟩ := pointA m c ⟨11 * a + 0, h⟩ (by dsimp only; omega) r
    rw [hR] at p2 p1
    exact ⟨p2, fun n => (p1 n).trans (by simp)⟩
  | succ k ih =>
    obtain ⟨ih2, ih1⟩ := ih (by omega) (by omega) (Fin.ext (by simp only [rowOf]; omega))
    obtain ⟨p2, p1⟩ := pointB m c ⟨11 * a + (k + 1), h⟩ (by dsimp only; omega) (by dsimp only; omega) r
      (by rw [hR]; exact ih2)
    rw [hR] at p2 p1
    refine ⟨p2, fun n => (p1 n).trans ?_⟩
    rw [Finset.sum_range_succ, ← ih1 n, show (11 * a + (k + 1)) % 11 = k + 1 by omega]
    rfl

/-- After the last chunk of row tile `a` the output block holds the finished rows. -/
theorem done (a : ℕ) (ha : a < 16) (h : 11 * a + 10 < cfg0.N) (r : Fin 1024) (n : Fin 2048) :
    (outsAt0 m c (11 * a + 10) h).1 (ix2 r n)
      = xAt m c ⟨a * 1024 + r, by omega⟩ n + Ideal.ofBits FTy.f32 0x3F000000#32 * modAt m c 8 ⟨a * 1024 + r, by omega⟩ n
        * ∑ j ∈ Finset.range 11, chunkAt m c ⟨a * 1024 + r, by omega⟩ n j := by
  have hR : rowOf ⟨11 * a + 10, h⟩ r = ⟨a * 1024 + r, by omega⟩ := Fin.ext (by simp only [rowOf]; omega)
  obtain ⟨ih2, ih1⟩ := sofar m c a ha 9 (by omega) (by omega) r
  refine (pointC m c ⟨11 * a + 10, h⟩ (by dsimp only; omega) (by dsimp only; omega) r (by rw [hR]; exact ih2) n).trans ?_
  rw [hR, Finset.sum_range_succ _ 10, ← ih1 n]
  rfl

end Cert.Ffn
-- ==== Proof.Ffn.Ref.lean ====
module

public import proofs.«01_k».proof.Proof.Gen.Reference2Ideal.Run
public import proofs.«01_k».proof.Proof.Ffn.Cases
public import Idealize.ShloMosaic.Lib.Claim

@[expose] public section

/-! # What the reference computes, at one index -/

noncomputable section

namespace Cert.Ffn.Ref

open Cert.Reference2Ideal Cert.Reference2Ideal.Gen Idealize.ShloMosaic Idealize.ShloMosaic.Pipeline Idealize.SL.Sem

variable (m : (ℓ : Loc nD τ sig) → Buf (Elt Ideal) ℓ) (c : Dev nD)

/-- The half-step at row `R` and column `n` of plain arrays: `x + ½ · gate · Σ_f silu(h·wg_f)·(h·wu_f)·wd_f`. -/
def half (x g sc sh gate : Fin 2048 → EReal) (wg wu : Fin 2048 → Fin 5632 → EReal) (wd : Fin 5632 → Fin 2048 → EReal)
    (n : Fin 2048) : EReal :=
  x n + Ideal.ofBits FTy.f32 0x3F000000#32 * gate n *
    ∑ f, unit (hid x g sc sh) (fun d => wg d f) (fun d => wu d f) * wd f n

/-- The normed and modulated activations. -/
def hidArr (x0 : FVec Ideal S2x8192x2048 .f32) (x1 : FVec Ideal S8x1x18432 .f32) (x2 : FVec Ideal S2048 .f32) :
    FVec Ideal S2x8192x2048 .f32 :=
  addf (mulf (mulf (mulf x0 (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x0 x0) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 x2))) (broadcastInDim S2x8192x2048 ![0, 1, 2] bcast_S2x1x2048_S2x8192x2048_0_1_2 (addf (broadcastInDim S2x1x2048 ![] bcast_S_S2x1x2048 (constant S_ .f32 0x3F800000#32)) (extractStridedSlice S2x1x2048 ![0, 0, 14336] (extractStridedSlice S2x1x18432 ![0, 0, 0] x1 slices_S8x1x18432_S2x1x18432_0_0_0) slices_S2x1x18432_S2x1x2048_0_0_14336)))) (broadcastInDim S2x8192x2048 ![0, 1, 2] bcast_S2x1x2048_S2x8192x2048_0_1_2 (extractStridedSlice S2x1x2048 ![0, 0, 12288] (extractStridedSlice S2x1x18432 ![0, 0, 0] x1 slices_S8x1x18432_S2x1x18432_0_0_0) slices_S2x1x18432_S2x1x2048_0_0_12288))

/-- The first projection. -/
def upArr (h : FVec Ideal S2x8192x2048 .f32) (x3 : FVec Ideal S2048x11264 .f32) : FVec Ideal S2x8192x11264 .f32 :=
  Host.dotGeneral dot_S2x8192x2048_S2048x11264_S2x8192x11264_2_0_01_1_n_n none h x3

/-- The gated hidden units. -/
def actArr (u : FVec Ideal S2x8192x11264 .f32) : FVec Ideal S2x8192x5632 .f32 :=
  mulf (mulf (extractStridedSlice S2x8192x5632 ![0, 0, 0] u slices_S2x8192x11264_S2x8192x5632_0_0_0) (Host.divf (broadcastInDim S2x8192x5632 ![] bcast_S_S2x8192x5632 (constant S_ .f32 0x3F800000#32)) (addf (broadcastInDim S2x8192x5632 ![] bcast_S_S2x8192x5632 (constant S_ .f32 0x3F800000#32)) (Host.exp (Host.negf (extractStridedSlice S2x8192x5632 ![0, 0, 0] u slices_S2x8192x11264_S2x8192x5632_0_0_0)))))) (extractStridedSlice S2x8192x5632 ![0, 0, 5632] u slices_S2x8192x11264_S2x8192x5632_0_0_5632)

/-- The result, from the hidden units. -/
def resArr (x0 : FVec Ideal S2x8192x2048 .f32) (x1 : FVec Ideal S8x1x18432 .f32) (a : FVec Ideal S2x8192x5632 .f32)
    (x4 : FVec Ideal S5632x2048 .f32) : FVec Ideal S16384x2048 .f32 :=
  shapeCast _ (addf x0 (mulf (broadcastInDim S2x8192x2048 ![0, 1, 2] bcast_S2x1x2048_S2x8192x2048_0_1_2 (mulf (broadcastInDim S2x1x2048 ![] bcast_S_S2x1x2048 (constant S_ .f32 0x3F000000#32)) (extractStridedSlice S2x1x2048 ![0, 0, 16384] (extractStridedSlice S2x1x18432 ![0, 0, 0] x1 slices_S8x1x18432_S2x1x18432_0_0_0) slices_S2x1x18432_S2x1x2048_0_0_16384))) (Host.dotGeneral dot_S2x8192x5632_S5632x2048_S2x8192x2048_2_0_01_1_n_n none a x4))) shapeCasts_S2x8192x2048_S16384x2048

theorem res_eq : Value.res_main_v34 m c =
    resArr (m (c.tc.loc main_arg0)) (m (c.tc.loc main_arg1))
      (actArr (upArr (hidArr (m (c.tc.loc main_arg0)) (m (c.tc.loc main_arg1)) (m (c.tc.loc main_arg2))) (m (c.tc.loc main_arg3))))
      (m (c.tc.loc main_arg4)) := rfl

theorem hidArr_apply (x0 : FVec Ideal S2x8192x2048 .f32) (x1 : FVec Ideal S8x1x18432 .f32) (x2 : FVec Ideal S2048 .f32)
    (b : Fin 2) (r : Fin 8192) (d : Fin 2048) :
    hidArr x0 x1 x2 (ix3 b r d) = hid (fun k => x0 (ix3 b r k)) (fun k => x2 (ix1 k))
      (fun k => x1 (ix3 (⟨b, by omega⟩ : Fin 8) 0 (⟨7 * 2048 + k, by omega⟩ : Fin 18432)))
      (fun k => x1 (ix3 (⟨b, by omega⟩ : Fin 8) 0 (⟨6 * 2048 + k, by omega⟩ : Fin 18432))) d := by
  unfold hidArr
  pointwise [hid]

theorem upArr_apply (h : FVec Ideal S2x8192x2048 .f32) (x3 : FVec Ideal S2048x11264 .f32)
    (b : Fin 2) (r : Fin 8192) (f : Fin 11264) :
    upArr h x3 (ix3 b r f) = ∑ d, h (ix3 b r d) * x3 (ix2 d f) := by
  unfold upArr
  pointwise []

theorem actArr_apply (u : FVec Ideal S2x8192x11264 .f32) (b : Fin 2) (r : Fin 8192) (f : Fin 5632) :
    actArr u (ix3 b r f) = u (ix3 b r (⟨f, by omega⟩ : Fin 11264)) * Ideal.logistic (u (ix3 b r (⟨f, by omega⟩ : Fin 11264)))
      * u (ix3 b r (⟨5632 + f, by omega⟩ : Fin 11264)) := by
  unfold actArr
  pointwise []
  rfl

theorem resArr_apply (x0 : FVec Ideal S2x8192x2048 .f32) (x1 : FVec Ideal S8x1x18432 .f32) (a : FVec Ideal S2x8192x5632 .f32)
    (x4 : FVec Ideal S5632x2048 .f32) (R : Fin 16384) (n : Fin 2048) :
    resArr x0 x1 a x4 (ix2 R n) =
      x0 (ix3 (⟨R / 8192, by omega⟩ : Fin 2) (⟨R % 8192, by omega⟩ : Fin 8192) n)
      + Ideal.ofBits FTy.f32 0x3F000000#32 * x1 (ix3 (⟨R / 8192, by omega⟩ : Fin 8) 0 (⟨8 * 2048 + n, by omega⟩ : Fin 18432))
        * ∑ f, a (ix3 (⟨R / 8192, by omega⟩ : Fin 2) (⟨R % 8192, by omega⟩ : Fin 8192) f) * x4 (ix2 f n) := by
  unfold resArr
  pointwise []

/-- The reference's result at row `R` and column `n`: the half-step of the arguments' arrays. -/
theorem ref_apply (R : Fin 16384) (n : Fin 2048) :
    Value.res_main_v34 m c (ix2 R n) =
      half (fun k => m (c.tc.loc main_arg0) (ix3 (⟨R / 8192, by omega⟩ : Fin 2) (⟨R % 8192, by omega⟩ : Fin 8192) k))
        (fun k => m (c.tc.loc main_arg2) (ix1 k))
        (fun k => m (c.tc.loc main_arg1) (ix3 (⟨R / 8192, by omega⟩ : Fin 8) (0 : Fin 1) (⟨7 * 2048 + k, by omega⟩ : Fin 18432)))
        (fun k => m (c.tc.loc main_arg1) (ix3 (⟨R / 8192, by omega⟩ : Fin 8) (0 : Fin 1) (⟨6 * 2048 + k, by omega⟩ : Fin 18432)))
        (fun k => m (c.tc.loc main_arg1) (ix3 (⟨R / 8192, by omega⟩ : Fin 8) (0 : Fin 1) (⟨8 * 2048 + k, by omega⟩ : Fin 18432)))
        (fun d f => m (c.tc.loc main_arg3) (ix2 d (⟨f, by omega⟩ : Fin 11264)))
        (fun d f => m (c.tc.loc main_arg3) (ix2 d (⟨5632 + f, by omega⟩ : Fin 11264)))
        (fun f k => m (c.tc.loc main_arg4) (ix2 f k)) n := by
  rw [res_eq]
  refine (resArr_apply _ _ _ _ R n).trans ?_
  simp only [actArr_apply, upArr_apply, hidArr_apply]
  rfl

end Cert.Ffn.Ref
-- ==== Proof.Ffn.Equal.lean ====
module

public import proofs.«01_k».proof.Defs
public import proofs.«01_k».proof.Proof.Ffn.Fold
public import proofs.«01_k».proof.Proof.Ffn.Ref

@[expose] public section

/-! # The kernel's array is the reference's

The kernel adds the 5632 hidden units in 11 chunks of 512; the reference adds them at once. -/

noncomputable section

namespace Cert.Ffn

open Cert.Kernel2Ideal Cert.Kernel2Ideal.Gen Idealize.ShloMosaic Idealize.ShloMosaic.Pipeline Idealize.SL.Sem

variable (m : (ℓ : Loc nD τ sig) → Buf (Elt Ideal) ℓ) (c : Dev nD)

/-- A sum over 5632 hidden units is the sum over 11 chunks of the sums over their 512 units. -/
theorem sum_chunks (u : Fin 5632 → EReal) :
    ∑ f, u f = ∑ j ∈ Finset.range 11, ∑ f : Fin 512, u ⟨j % 11 * 512 + f, by omega⟩ := by
  rw [Finset.sum_range, ← Fintype.sum_prod_type']
  rw [← Equiv.sum_comp (finProdFinEquiv (m := 11) (n := 512))]
  refine Finset.sum_congr rfl fun p _ => congrArg u (Fin.ext ?_)
  have := p.1.isLt
  simp only [finProdFinEquiv_apply_val]
  omega

/-- The kernel's result at row `R` and column `n` is the half-step of the arguments' arrays. -/
theorem kernel_apply (R : Fin 16384) (n : Fin 2048) :
    Value.G8 m c (ix2 R n) = Ref.half (xAt m c R) (gAt m c) (modAt m c 7 R) (modAt m c 6 R) (modAt m c 8 R)
      (fun d f => upAt m c d ⟨f, by omega⟩) (fun d f => upAt m c d ⟨5632 + f, by omega⟩) (downAt m c) n := by
  have hN : cfg0.N = 176 := N_0
  have hp : Value.pt8Of (ix2 R n) = 11 * (R.val / 1024) + 10 := by
    show 11 * (1 * (R.val / 1024 - 0) + 1 * (n.val / 2048 - 0)) + 10 = _
    omega
  have hl : Value.pt8Of (ix2 R n) < cfg0.N := by omega
  unfold Value.G8
  rw [dif_pos hl, ← Value.outsAt0_sweep]
  have key : ∀ (q : ℕ) (hq : q < cfg0.N), q = 11 * (R.val / 1024) + 10 →
      (outsAt0 m c q hq).1 (ix2 ⟨R.val % 1024, by omega⟩ n) = Ref.half (xAt m c R) (gAt m c) (modAt m c 7 R) (modAt m c 6 R) (modAt m c 8 R)
      (fun d f => upAt m c d ⟨f, by omega⟩) (fun d f => upAt m c d ⟨5632 + f, by omega⟩) (downAt m c) n := by
    intro q hq e
    subst e
    have hR : (⟨R.val / 1024 * 1024 + R.val % 1024, by omega⟩ : Fin 16384) = R := Fin.ext (by dsimp only; omega)
    refine (done m c (R.val / 1024) (by omega) hq ⟨R.val % 1024, by omega⟩ n).trans ?_
    simp only [hR]
    unfold Ref.half
    rw [sum_chunks]
    rfl
  refine Eq.trans (congrArg _ ?_) (key _ hl hp)
  · exact (eq_ix2 _).trans (congrArg (ix2 _) (Fin.ext (Nat.mod_eq_of_lt n.isLt)))
  · exact hl

/-- From equal arguments, the reference's array is the kernel's. -/
theorem same (m' : (ℓ : Loc Cert.Reference2Ideal.nD Cert.Reference2Ideal.τ Cert.Reference2Ideal.sig) → Buf (Elt Ideal) ℓ)
    (h0 : m' (c.tc.loc Cert.Reference2Ideal.main_arg0) = m (c.tc.loc main_arg0))
    (h1 : m' (c.tc.loc Cert.Reference2Ideal.main_arg1) = m (c.tc.loc main_arg1))
    (h2 : m' (c.tc.loc Cert.Reference2Ideal.main_arg2) = m (c.tc.loc main_arg2))
    (h3 : m' (c.tc.loc Cert.Reference2Ideal.main_arg3) = m (c.tc.loc main_arg3))
    (h4 : m' (c.tc.loc Cert.Reference2Ideal.main_arg4) = m (c.tc.loc main_arg4)) :
    Cert.Reference2Ideal.Value.res_main_v34 m' c = Value.G8 m c := by
  refine funext fun i => ?_
  obtain ⟨R, n, rfl⟩ : ∃ (R : Fin 16384) (n : Fin 2048), i = ix2 R n := ⟨i 0, i 1, eq_ix2 i⟩
  refine (Ref.ref_apply m' c R n).trans (Eq.trans ?_ (kernel_apply m c R n).symm)
  rw [h0, h1, h2, h3, h4]
  rfl

/-- The value claim: both programs run, and end with one array as their result. -/
theorem algebraic : Cert.algebraic_Kernel2Ideal_Reference2Ideal (hKernel2Ideal := Cert.Kernel2Ideal.Gen.facts)
    (hReference2Ideal := Cert.Reference2Ideal.Gen.facts) := by
  intro m g m' g' _ hm
  refine ⟨fun c => Value.G8 m c, Value.run m g, (θ_run _ _ _).mono (fun r h c => ?_) (Cert.Reference2Ideal.Value.run m' g')⟩
  obtain ⟨h0, h1, h2, h3, h4⟩ := hm c
  exact ⟨(h c).1.trans (same m c m' h0 h1 h2 h3 h4), (h c).2⟩

/-- The reference runs, leaves its arguments and ends with every counter at zero. -/
theorem frameRef : Cert.quiescent_Reference2Ideal (hReference2Ideal := Cert.Reference2Ideal.Gen.facts) := by
  intro m g _
  exact (θ_run _ _ _).mono (fun r h => ⟨fun c => (h c).2, sem_eq_zero_of_no_sems (by decide) r.2⟩)
    (Cert.Reference2Ideal.Value.run m g)

end Cert.Ffn
-- ==== Proof.Out.Blocks.lean ====
/-
  The out-projection call, one grid point at a time, over the extended reals: what a point leaves in the output block, as
  sums over the point's blocks, and what these blocks are in the arguments' arrays.
-/
module

public import proofs.«01_k».proof.Proof.Gen.Kernel3Ideal.Value
public import Idealize.ShloMosaic.Lib.Pointwise
public import Idealize.ShloMosaic.Lib.Pipeline.ValueKit

@[expose] public section

/-! The grid is 32 row tiles of 512 rows: point `t` works on row tile `t`, which lies in batch `t / 16`. -/

set_option maxRecDepth 16384

noncomputable section

namespace Cert.Out

open Cert.Kernel3Ideal Cert.Kernel3Ideal.Gen Idealize.ShloMosaic Idealize.ShloMosaic.TcCoe Idealize.ShloMosaic.Pipeline Idealize.SL.Sem

/-- Entry `d` of a row `a` of the attention after the root-mean-square norm with gain `g`. -/
def nrm (a g : Fin 1024 → EReal) (d : Fin 1024) : EReal :=
  a d * Ideal.rsqrt (Ideal.div (∑ k, a k * a k) (Ideal.ofBits FTy.f32 1149239296#32) + Ideal.ofBits FTy.f32 897988541#32) * g d

/-- The residual `x` and the gated product of the normed attention row and of the Hyena row with a column of the weights,
    whose first half is `wa` and whose second half is `wh`. -/
def proj (x gate : EReal) (a g hy wa wh : Fin 1024 → EReal) : EReal :=
  x + gate * (∑ d, nrm a g d * wa d + ∑ d, hy d * wh d)

/-- What a point leaves in the output block. -/
theorem out_apply (x0 : Vec Ideal S512x2048 .f32) (x1 : Vec Ideal S1x1x2048 .f32) (x2 : Vec Ideal S512x1024 .bf16)
    (x3 : Vec Ideal S512x1024 .f32) (x4 : Vec Ideal S1x1024 .f32) (x5 x6 : Vec Ideal S1024x2048 .bf16) (r : Fin 512) (n : Fin 2048) :
    out0_7 x0 x1 x2 x3 x4 x5 x6 (ix2 r n) =
      proj (x0 (ix2 r n)) (x1 (ix3 0 0 n)) (fun k => x2 (ix2 r k)) (fun k => x4 (ix2 0 k)) (fun k => x3 (ix2 r k))
        (fun d => x5 (ix2 d n)) (fun d => x6 (ix2 d n)) := by
  frame_out
  unfold_payloads
  pointwise [proj, nrm]

variable (m : (ℓ : Loc nD τ sig) → Buf (Elt Ideal) ℓ) (c : Dev nD)

/-- The index maps of all windows, decided over the grid. -/
theorem idx_all : ∀ t : Fin cfg0.N,
    win0_0.index t = ![t.val, 0] ∧ win0_1.index t = ![t.val / 16, 0, 5] ∧ win0_2.index t = ![t.val, 0] ∧ win0_3.index t = ![t.val, 0]
    ∧ win0_4.index t = ![0, 0] ∧ win0_5.index t = ![0, 0] ∧ win0_6.index t = ![1, 0] ∧ win0_7.index t = ![t.val, 0] := by
  decide +kernel

/-- Row `R` of the activations, both batches counted through. -/
abbrev xAt (R : Fin 16384) (n : Fin 2048) : EReal := m ((c.tc : Thread nD τ).loc main_arg0) (ix2 R n)

/-- The gate: entry `n` of chunk 5 of the modulation of row `R`'s batch. -/
abbrev gateAt (R : Fin 16384) (n : Fin 2048) : EReal :=
  m ((c.tc : Thread nD τ).loc main_arg1) (ix3 (⟨R / 8192, by omega⟩ : Fin 8) (0 : Fin 1) (⟨5 * 2048 + n, by omega⟩ : Fin 18432))

/-- The attention. -/
abbrev aAt (R : Fin 16384) (k : Fin 1024) : EReal := m ((c.tc : Thread nD τ).loc main_arg2) (ix2 R k)

/-- The Hyena part, already normed. -/
abbrev hyAt (R : Fin 16384) (k : Fin 1024) : EReal := m ((c.tc : Thread nD τ).loc main_arg3) (ix2 R k)

/-- The gain. -/
abbrev gAt (k : Fin 1024) : EReal := m ((c.tc : Thread nD τ).loc main_arg4) (ix1 k)

/-- The weights. -/
abbrev wAt (d n : Fin 2048) : EReal := m ((c.tc : Thread nD τ).loc main_arg5) (ix2 d n)

/-- Row `r` of row tile `t`. -/
abbrev rowOf (t : Fin cfg0.N) (r : Fin 512) : Fin 16384 :=
  ⟨t.val * 512 + r, by have := lt_of_lt_of_eq t.isLt (show cfg0.N = 32 from N_0); omega⟩

theorem blk0 (t : Fin cfg0.N) (r : Fin 512) (k : Fin 2048) : iblk m c 0 t (ix2 r k) = xAt m c (rowOf t r) k := by
  have hi := idx_all t
  have hN := lt_of_lt_of_eq t.isLt (show cfg0.N = 32 from N_0)
  blk_ext [iblk, hi]

theorem blk1 (t : Fin cfg0.N) (r : Fin 512) (k : Fin 2048) : iblk m c 1 t (ix3 0 0 k) = gateAt m c (rowOf t r) k := by
  have hi := idx_all t
  have hN := lt_of_lt_of_eq t.isLt (show cfg0.N = 32 from N_0)
  blk_ext [iblk, hi]

theorem blk2 (t : Fin cfg0.N) (r : Fin 512) (k : Fin 1024) : iblk m c 2 t (ix2 r k) = aAt m c (rowOf t r) k := by
  have hi := idx_all t
  have hN := lt_of_lt_of_eq t.isLt (show cfg0.N = 32 from N_0)
  blk_ext [iblk, hi]

theorem blk3 (t : Fin cfg0.N) (r : Fin 512) (k : Fin 1024) : iblk m c 3 t (ix2 r k) = hyAt m c (rowOf t r) k := by
  have hi := idx_all t
  have hN := lt_of_lt_of_eq t.isLt (show cfg0.N = 32 from N_0)
  blk_ext [iblk, hi]

theorem blk4 (t : Fin cfg0.N) (k : Fin 1024) : iblk m c 4 t (ix2 0 k) = gAt m c k := by
  have hi := idx_all t
  blk_ext! [iblk, hi]

theorem blk5 (t : Fin cfg0.N) (d : Fin 1024) (n : Fin 2048) : iblk m c 5 t (ix2 d n) = wAt m c ⟨d, by omega⟩ n := by
  have hi := idx_all t
  blk_ext [iblk, hi]

theorem blk6 (t : Fin cfg0.N) (d : Fin 1024) (n : Fin 2048) : iblk m c 6 t (ix2 d n) = wAt m c ⟨1024 + d, by omega⟩ n := by
  have hi := idx_all t
  blk_ext [iblk, hi]

/-! ## The whole result -/

/-- The call's result at row `R` and column `n`, in the arguments' arrays. -/
def kOut (R : Fin 16384) (n : Fin 2048) : EReal :=
  proj (xAt m c R n) (gateAt m c R n) (aAt m c R) (gAt m c) (hyAt m c R) (fun d => wAt m c ⟨d, by omega⟩ n)
    (fun d => wAt m c ⟨1024 + d, by omega⟩ n)

/-- The call's result as one array. -/
def G7 : Vec Ideal S16384x2048 .f32 := fun i => kOut m c (i 0) (i 1)

theorem point (t : Fin cfg0.N) (r : Fin 512) (n : Fin 2048) :
    out0_7 (iblk m c 0 t) (iblk m c 1 t) (iblk m c 2 t) (iblk m c 3 t) (iblk m c 4 t) (iblk m c 5 t) (iblk m c 6 t) (ix2 r n)
      = kOut m c (rowOf t r) n := by
  refine (out_apply _ _ _ _ _ _ _ r n).trans ?_
  unfold kOut
  rw [show iblk m c 0 t (ix2 r n) = _ from blk0 m c t r n, show iblk m c 1 t (ix3 0 0 n) = _ from blk1 m c t r n,
    show (fun k => iblk m c 2 t (ix2 r k)) = aAt m c (rowOf t r) from funext fun k => blk2 m c t r k,
    show (fun k => iblk m c 3 t (ix2 r k)) = hyAt m c (rowOf t r) from funext fun k => blk3 m c t r k,
    show (fun k => iblk m c 4 t (ix2 0 k)) = gAt m c from funext fun k => blk4 m c t k,
    show (fun d => iblk m c 5 t (ix2 d n)) = fun d : Fin 1024 => wAt m c ⟨d, by omega⟩ n from funext fun d => blk5 m c t d n,
    show (fun d => iblk m c 6 t (ix2 d n)) = fun d : Fin 1024 => wAt m c ⟨1024 + d, by omega⟩ n from funext fun d => blk6 m c t d n]

/-- What a point writes back is its block of the whole result. -/
theorem flushed7_eq (t : Fin cfg0.N) (hf : (cfg0.win 7).flush t = true) :
    (dats m 0 c).flushed 7 t = ((cfg0.win 7).blk t).view.read (Elt Ideal) (G7 m c) := by
  have hi := idx_all t
  obtain ⟨-, -, -, -, -, -, -, h7⟩ := hi
  have hN := lt_of_lt_of_eq t.isLt (show cfg0.N = 32 from N_0)
  rw [Value.flushed7]
  funext y
  have hb0 : (((cfg0.win 7).blk t).view.emb y 0).val = t.val * 512 + (y 0).val := by
    show win0_7.index t (0 : Fin 2) * 512 + 1 * (y 0).val = _
    rw [h7]; show t.val * 512 + 1 * (y 0).val = _; omega
  have hb1 : (((cfg0.win 7).blk t).view.emb y 1).val = (y 1).val := by
    show win0_7.index t (1 : Fin 2) * 2048 + 1 * (y 1).val = _
    rw [h7]; show 0 * 2048 + 1 * (y 1).val = _; omega
  have hy0 : (y 0).val < 512 := (y 0).isLt
  have hy1 : (y 1).val < 2048 := (y 1).isLt
  have hx : (cfg0.win 7).xinj (grid0.coords t) y = ix2 (⟨(y 0).val, hy0⟩ : Fin 512) (⟨(y 1).val, hy1⟩ : Fin 2048) := by
    funext a; apply Fin.ext
    match a with
    | ⟨0, _⟩ => rfl
    | ⟨1, _⟩ => rfl
  show out0_7 (F := Ideal) _ _ _ _ _ _ _ ((cfg0.win 7).xinj (grid0.coords t) y) = kOut m c (((cfg0.win 7).blk t).view.emb y 0) (((cfg0.win 7).blk t).view.emb y 1)
  rw [hx]
  refine (point m c t _ _).trans ?_
  exact congrArg₂ (kOut m c) (Fin.ext hb0.symm) (Fin.ext hb1.symm)

/-- The point that writes back row tile `q`. -/
abbrev pt7 (q : Fin 32) : Fin grid0.N := ⟨q.val, lt_of_lt_of_eq q.isLt N_0.symm⟩

theorem onto7 : ∀ q : Fin 32, win0_7.flush (pt7 q) = true ∧ win0_7.index (pt7 q) = ![q.val, 0] := by decide +kernel

theorem mem_blk7 (t : Fin cfg0.N) (i : S16384x2048.Idx) :
    i ∈ ((cfg0.win 7).blk t).view.set ↔ ∀ a : Fin 2, win0_7.index t a * S512x2048.size a ≤ (i a).val ∧ (i a).val < win0_7.index t a * S512x2048.size a + S512x2048.size a := by
  show i ∈ ((View.whole main_v2).slice (win0_7.rect t)).set ↔ _
  rw [View.set_slice_whole, Rect.mem_set_unit]
  exact Iff.rfl

/-- Every index of the result lies in a block that is written back. -/
theorem cover7 (i : S16384x2048.Idx) : ∃ t : Fin cfg0.N, (cfg0.win 7).flush t = true ∧ i ∈ ((cfg0.win 7).blk t).view.set := by
  have hi0 : (i 0).val < 16384 := (i 0).isLt
  have hi1 : (i 1).val < 2048 := (i 1).isLt
  obtain ⟨hf, ht⟩ := onto7 ⟨(i 0).val / 512, by omega⟩
  have q0 := congrFun ht 0
  have q1 := congrFun ht 1
  refine ⟨pt7 ⟨(i 0).val / 512, by omega⟩, hf, ?_⟩
  rw [mem_blk7]
  intro a
  match a with
  | ⟨0, _⟩ => show win0_7.index _ (0 : Fin 2) * 512 ≤ (i 0).val ∧ (i 0).val < win0_7.index _ (0 : Fin 2) * 512 + 512; rw [q0]; show (i 0).val / 512 * 512 ≤ _ ∧ _ < (i 0).val / 512 * 512 + 512; omega
  | ⟨1, _⟩ => show win0_7.index _ (1 : Fin 2) * 2048 ≤ (i 1).val ∧ (i 1).val < win0_7.index _ (1 : Fin 2) * 2048 + 2048; rw [q1]; show 0 * 2048 ≤ _ ∧ _ < 0 * 2048 + 2048; omega

/-- The result's array after the run. -/
theorem arr7 : (dats m 0 c).arrAt 7 cfg0.N = G7 m c := (dats m 0 c).arrAt_eq_of_cover 7 _ (flushed7_eq m c) cover7

end Cert.Out
-- ==== Proof.Out.Ref.lean ====
module

public import proofs.«01_k».proof.Proof.Gen.Reference3Ideal.Run
public import proofs.«01_k».proof.Proof.Out.Blocks
public import Idealize.ShloMosaic.Lib.Claim

@[expose] public section

/-! # What the reference of the out-projection computes, at one index -/

noncomputable section

namespace Cert.Out.Ref

open Cert.Reference3Ideal Cert.Reference3Ideal.Gen Idealize.ShloMosaic Idealize.ShloMosaic.Pipeline Idealize.SL.Sem

/-- The attention as the reference reads it: in float32, with the batch as an axis. -/
def attArr (x2 : FVec Ideal S16384x1024 .bf16) : FVec Ideal S2x8192x1024 .f32 :=
  shapeCast _ (extf .f32 x2 bitsLt_bf16_f32) shapeCasts_S16384x1024_S2x8192x1024

/-- The normed attention. -/
def nrmArr (a : FVec Ideal S2x8192x1024 .f32) (x4 : FVec Ideal S1024 .f32) : FVec Ideal S2x8192x1024 .f32 :=
  mulf (mulf a (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a a) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 x4))

/-- The two parts side by side. -/
def catArr (u : FVec Ideal S2x8192x1024 .f32) (x3 : FVec Ideal S16384x1024 .f32) : FVec Ideal S2x8192x2048 .f32 :=
  concatenate S2x8192x2048 2 [⟨S2x8192x1024, u⟩, ⟨S2x8192x1024, (shapeCast _ x3 shapeCasts_S16384x1024_S2x8192x1024)⟩] concatenates_S2x8192x1024_S2x8192x1024_S2x8192x2048_d2

/-- The result, from the two parts side by side. -/
def resArr (x0 : FVec Ideal S16384x2048 .f32) (x1 : FVec Ideal S8x1x18432 .f32) (y : FVec Ideal S2x8192x2048 .f32)
    (x5 : FVec Ideal S2048x2048 .f32) : FVec Ideal S16384x2048 .f32 :=
  shapeCast _ (addf (shapeCast _ x0 shapeCasts_S16384x2048_S2x8192x2048) (mulf (broadcastInDim S2x8192x2048 ![0, 1, 2] bcast_S2x1x2048_S2x8192x2048_0_1_2 (extractStridedSlice S2x1x2048 ![0, 0, 10240] (extractStridedSlice S2x1x18432 ![0, 0, 0] x1 slices_S8x1x18432_S2x1x18432_0_0_0) slices_S2x1x18432_S2x1x2048_0_0_10240)) (Host.dotGeneral dot_S2x8192x2048_S2048x2048_S2x8192x2048_2_0_01_1_n_n none y x5))) shapeCasts_S2x8192x2048_S16384x2048

/-- The reference's result. -/
def refArr (x0 : FVec Ideal S16384x2048 .f32) (x1 : FVec Ideal S8x1x18432 .f32) (x2 : FVec Ideal S16384x1024 .bf16)
    (x3 : FVec Ideal S16384x1024 .f32) (x4 : FVec Ideal S1024 .f32) (x5 : FVec Ideal S2048x2048 .f32) : FVec Ideal S16384x2048 .f32 :=
  resArr x0 x1 (catArr (nrmArr (attArr x2) x4) x3) x5

theorem attArr_apply (x2 : FVec Ideal S16384x1024 .bf16) (b : Fin 2) (r : Fin 8192) (k : Fin 1024) :
    attArr x2 (ix3 b r k) = x2 (ix2 (⟨b * 8192 + r, by omega⟩ : Fin 16384) k) := by
  unfold attArr
  pointwise []

theorem nrmArr_apply (a : FVec Ideal S2x8192x1024 .f32) (x4 : FVec Ideal S1024 .f32) (b : Fin 2) (r : Fin 8192) (d : Fin 1024) :
    nrmArr a x4 (ix3 b r d) = nrm (fun k => a (ix3 b r k)) (fun k => x4 (ix1 k)) d := by
  unfold nrmArr
  pointwise [nrm]

theorem catArr_left (u : FVec Ideal S2x8192x1024 .f32) (x3 : FVec Ideal S16384x1024 .f32) (b : Fin 2) (r : Fin 8192) (d : Fin 1024) :
    catArr u x3 (ix3 b r (⟨d, by omega⟩ : Fin 2048)) = u (ix3 b r d) := by
  unfold catArr
  pointwise []

theorem catArr_right (u : FVec Ideal S2x8192x1024 .f32) (x3 : FVec Ideal S16384x1024 .f32) (b : Fin 2) (r : Fin 8192) (d : Fin 1024) :
    catArr u x3 (ix3 b r (⟨1024 + d, by omega⟩ : Fin 2048)) = x3 (ix2 (⟨b * 8192 + r, by omega⟩ : Fin 16384) d) := by
  unfold catArr
  pointwise []

theorem resArr_apply (x0 : FVec Ideal S16384x2048 .f32) (x1 : FVec Ideal S8x1x18432 .f32) (y : FVec Ideal S2x8192x2048 .f32)
    (x5 : FVec Ideal S2048x2048 .f32) (R : Fin 16384) (n : Fin 2048) :
    resArr x0 x1 y x5 (ix2 R n) =
      x0 (ix2 R n) + x1 (ix3 (⟨R / 8192, by omega⟩ : Fin 8) 0 (⟨5 * 2048 + n, by omega⟩ : Fin 18432))
        * ∑ d, y (ix3 (⟨R / 8192, by omega⟩ : Fin 2) (⟨R % 8192, by omega⟩ : Fin 8192) d) * x5 (ix2 d n) := by
  unfold resArr
  pointwise []

/-- A sum over 2048 columns is the sum over the first 1024 and the sum over the last 1024. -/
theorem sum_halves (u : Fin 2048 → EReal) :
    ∑ d, u d = ∑ d : Fin 1024, u ⟨d, by omega⟩ + ∑ d : Fin 1024, u ⟨1024 + d, by omega⟩ :=
  Fin.sum_univ_add (a := 1024) (b := 1024) u

/-- The reference's result at row `R` and column `n`. -/
theorem ref_apply (x0 : FVec Ideal S16384x2048 .f32) (x1 : FVec Ideal S8x1x18432 .f32) (x2 : FVec Ideal S16384x1024 .bf16)
    (x3 : FVec Ideal S16384x1024 .f32) (x4 : FVec Ideal S1024 .f32) (x5 : FVec Ideal S2048x2048 .f32) (R : Fin 16384) (n : Fin 2048) :
    refArr x0 x1 x2 x3 x4 x5 (ix2 R n) =
      proj (x0 (ix2 R n)) (x1 (ix3 (⟨R / 8192, by omega⟩ : Fin 8) (0 : Fin 1) (⟨5 * 2048 + n, by omega⟩ : Fin 18432)))
        (fun k => x2 (ix2 R k)) (fun k => x4 (ix1 k)) (fun k => x3 (ix2 R k))
        (fun d => x5 (ix2 (⟨d, by omega⟩ : Fin 2048) n)) (fun d => x5 (ix2 (⟨1024 + d, by omega⟩ : Fin 2048) n)) := by
  have hR : (⟨R.val / 8192 * 8192 + R.val % 8192, by omega⟩ : Fin 16384) = R := Fin.ext (by dsimp only; omega)
  refine (resArr_apply _ _ _ _ R n).trans ?_
  rw [sum_halves]
  simp only [catArr_left, catArr_right, nrmArr_apply, attArr_apply, hR]
  rfl

end Cert.Out.Ref
-- ==== Proof.Out.Equal.lean ====
module

public import proofs.«01_k».proof.Defs
public import proofs.«01_k».proof.Proof.Out.Blocks
public import proofs.«01_k».proof.Proof.Out.Ref

@[expose] public section

/-! # The out-projection's array is the reference's

The kernel adds two products of 1024 columns each; the reference adds one product of 2048 columns. -/

noncomputable section

namespace Cert.Out

open Cert.Kernel3Ideal Cert.Kernel3Ideal.Gen Idealize.ShloMosaic Idealize.ShloMosaic.Pipeline Idealize.SL.Sem

variable (m : (ℓ : Loc nD τ sig) → Buf (Elt Ideal) ℓ) (c : Dev nD)

/-- From the kernel's arguments, the reference's array is the kernel's. -/
theorem same : Ref.refArr (m (c.tc.loc main_arg0)) (m (c.tc.loc main_arg1)) (m (c.tc.loc main_arg2)) (m (c.tc.loc main_arg3))
    (m (c.tc.loc main_arg4)) (m (c.tc.loc main_arg5)) = G7 m c := by
  refine funext fun i => ?_
  obtain ⟨R, n, rfl⟩ : ∃ (R : Fin 16384) (n : Fin 2048), i = ix2 R n := ⟨i 0, i 1, eq_ix2 i⟩
  exact Ref.ref_apply _ _ _ _ _ _ R n

/-- The value claim: both programs run, and end with one array as their result. -/
theorem algebraic : Cert.algebraic_Kernel3Ideal_Reference3Ideal (hKernel3Ideal := Cert.Kernel3Ideal.Gen.facts)
    (hReference3Ideal := Cert.Reference3Ideal.Gen.facts) := by
  intro m g m' g' _ hm
  refine ⟨fun c => G7 m c, (θ_run _ _ _).mono (fun r h c => ⟨(h c).1.trans (arr7 m c), (h c).2⟩) (Cert.Kernel3Ideal.Value.run_blocks m g),
    (θ_run _ _ _).mono (fun r h c => ?_) (Cert.Reference3Ideal.Value.run m' g')⟩
  obtain ⟨h0, h1, h2, h3, h4, h5⟩ := hm c
  refine ⟨(h c).1.trans (Eq.trans ?_ (same m c)), (h c).2⟩
  show Ref.refArr _ _ _ _ _ _ = _
  rw [h0, h1, h2, h3, h4, h5]

/-- The reference runs, leaves its arguments and ends with every counter at zero. -/
theorem frameRef : Cert.quiescent_Reference3Ideal (hReference3Ideal := Cert.Reference3Ideal.Gen.facts) := by
  intro m g _
  exact (θ_run _ _ _).mono (fun r h => ⟨fun c => (h c).2, sem_eq_zero_of_no_sems (by decide) r.2⟩)
    (Cert.Reference3Ideal.Value.run m g)

end Cert.Out
-- ==== Proof.Ctx.Blocks.lean ====
/-
  The context's key and value call, one grid point at a time, over the extended reals: what a point leaves in its two output
  blocks, as sums over the point's blocks, and what these blocks are in the arguments' arrays.
-/
module

public import proofs.«01_k».proof.Proof.Gen.Kernel4Ideal.Value
public import Idealize.ShloMosaic.Lib.Pointwise
public import Idealize.ShloMosaic.Lib.Pipeline.ValueKit

@[expose] public section

/-! The grid is the two batches: point `t` works on the 256 context rows of batch `t`. -/

set_option maxRecDepth 16384

noncomputable section

namespace Cert.Ctx

open Cert.Kernel4Ideal Cert.Kernel4Ideal.Gen Idealize.ShloMosaic Idealize.ShloMosaic.TcCoe Idealize.ShloMosaic.Pipeline Idealize.SL.Sem

/-- Entry `d` of a context row `x` after the root-mean-square norm with gain `g` and the modulation by `sc` and `sh`. -/
def hid (x g sc sh : Fin 2048 → EReal) (d : Fin 2048) : EReal :=
  x d * Ideal.rsqrt (Ideal.div (∑ k, x k * x k) (Ideal.ofBits FTy.f32 1157627904#32) + Ideal.ofBits FTy.f32 897988541#32)
    * g d * (1 + sc d) + sh d

/-- Column `f` of the projection of a row `h`. -/
def prj (h : Fin 2048 → EReal) (w : Fin 2048 → Fin 512 → EReal) (f : Fin 512) : EReal := ∑ d, h d * w d f

/-- Lane `b` of one head `u` after the root-mean-square norm with gain `g`. -/
def headNrm (u g : Fin 128 → EReal) (b : Fin 128) : EReal :=
  u b * Ideal.rsqrt (Ideal.div (∑ k, u k * u k) (Ideal.ofBits FTy.f32 1124073472#32) + Ideal.ofBits FTy.f32 897988541#32) * g b

/-- Column `n` of the keys: the projection's first 256 columns are two heads of 128, each normed. -/
def keyOf (p : Fin 512 → EReal) (g : Fin 128 → EReal) (n : Fin 256) : EReal :=
  headNrm (fun k => p ⟨n / 128 * 128 + k, by omega⟩) g ⟨n % 128, by omega⟩

theorem keyOf_lo (p : Fin 512 → EReal) (g : Fin 128 → EReal) (b : Fin 128) (h : b.val < 256) :
    keyOf p g ⟨b, h⟩ = headNrm (fun k => p ⟨k, by omega⟩) g b := by
  unfold keyOf
  congr 1
  · funext k; exact congrArg p (Fin.ext (by dsimp only; omega))
  · exact Fin.ext (by dsimp only; omega)

theorem keyOf_hi (p : Fin 512 → EReal) (g : Fin 128 → EReal) (b : Fin 128) (h : 128 + b.val < 256) :
    keyOf p g ⟨128 + b, h⟩ = headNrm (fun k => p ⟨128 + k, by omega⟩) g b := by
  unfold keyOf
  congr 1
  · funext k; exact congrArg p (Fin.ext (by dsimp only; omega))
  · exact Fin.ext (by dsimp only; omega)

/-- Row `r` of the point's projection. -/
abbrev prjRow (x0 : Vec Ideal S256x2048 .f32) (x1 x2 : Vec Ideal S1x1x2048 .f32) (x3 : Vec Ideal S1x2048 .f32)
    (x4 : Vec Ideal S2048x512 .bf16) (r : Fin 256) : Fin 512 → EReal :=
  prj (hid (fun k => x0 (ix2 r k)) (fun k => x3 (ix2 0 k)) (fun k => x2 (ix3 0 0 k)) (fun k => x1 (ix3 0 0 k))) (fun d f => x4 (ix2 d f))

/-- The projection, computed from the point's blocks. -/
theorem pay4_apply (x0 : Vec Ideal S256x2048 .f32) (x1 x2 : Vec Ideal S1x1x2048 .f32) (x3 : Vec Ideal S1x2048 .f32)
    (x4 : Vec Ideal S2048x512 .bf16) (r : Fin 256) (f : Fin 512) :
    k0_pay4 x0 x3 x2 x1 x4 (ix2 r f) = prjRow x0 x1 x2 x3 x4 r f := by
  unfold k0_pay4
  pointwise [prj, hid]

/-- The second head's keys, from the projection. -/
theorem pay2_apply (v : FVec Ideal S256x512 .f32) (x5 : Vec Ideal S1x128 .f32) (r : Fin 256) (b : Fin 128) :
    k0_pay2 v x5 (ix3 0 r b) = headNrm (fun k => v (ix2 r ⟨128 + k, by omega⟩)) (fun k => x5 (ix2 0 k)) b := by
  unfold k0_pay2
  pointwise [headNrm]

/-- The first head's keys, from the projection. -/
theorem pay1_apply (x0 : Vec Ideal S256x2048 .f32) (x1 x2 : Vec Ideal S1x1x2048 .f32) (x3 : Vec Ideal S1x2048 .f32)
    (x4 : Vec Ideal S2048x512 .bf16) (x5 : Vec Ideal S1x128 .f32) (r : Fin 256) (b : Fin 128) :
    k0_pay1 (k0_pay5 x0 x3 x2 x1 x4) (k0_pay6 x0 x3 x2 x1 x4) x5 (ix3 0 r b)
      = headNrm (fun k => k0_pay4 x0 x3 x2 x1 x4 (ix2 r ⟨k, by omega⟩)) (fun k => x5 (ix2 0 k)) b := by
  unfold k0_pay1 k0_pay6 k0_pay5
  generalize k0_pay4 x0 x3 x2 x1 x4 = v
  pointwise [headNrm]

/-- The values, from the projection. -/
theorem pay3_apply (v : FVec Ideal S256x512 .f32) (r n : Fin 256) : k0_pay3 v (ix3 0 r n) = v (ix2 r ⟨256 + n, by omega⟩) := by
  unfold k0_pay3
  pointwise []

/-- The keys' columns of the second head. -/
theorem case_hi (x0 : Vec Ideal S256x2048 .f32) (x1 x2 : Vec Ideal S1x1x2048 .f32) (x3 : Vec Ideal S1x2048 .f32)
    (x4 : Vec Ideal S2048x512 .bf16) (x5 : Vec Ideal S1x128 .f32) (r n : Fin 256) (x : S1x256x128.Idx) (h1 : r.val = (x 1).val)
    (h2 : n.val = 128 + (x 2).val) :
    k0_pay2 (k0_pay4 x0 x3 x2 x1 x4) x5 x = keyOf (prjRow x0 x1 x2 x3 x4 r) (fun k => x5 (ix2 0 k)) n := by
  obtain ⟨a0, a, b, rfl⟩ : ∃ (a0 : Fin 1) (a : Fin 256) (b : Fin 128), x = ix3 a0 a b := ⟨x 0, x 1, x 2, eq_ix3 x⟩
  obtain rfl : a0 = 0 := Subsingleton.elim _ _
  obtain rfl : r = a := Fin.ext h1
  obtain rfl : n = ⟨128 + b.val, Nat.add_lt_add_left b.isLt 128⟩ := Fin.ext h2
  rw [keyOf_hi, pay2_apply]
  simp only [pay4_apply]

/-- The keys' columns of the first head. -/
theorem case_lo (x0 : Vec Ideal S256x2048 .f32) (x1 x2 : Vec Ideal S1x1x2048 .f32) (x3 : Vec Ideal S1x2048 .f32)
    (x4 : Vec Ideal S2048x512 .bf16) (x5 : Vec Ideal S1x128 .f32) (r n : Fin 256) (x : S1x256x128.Idx) (h1 : r.val = (x 1).val)
    (h2 : n.val = (x 2).val) :
    k0_pay1 (k0_pay5 x0 x3 x2 x1 x4) (k0_pay6 x0 x3 x2 x1 x4) x5 x = keyOf (prjRow x0 x1 x2 x3 x4 r) (fun k => x5 (ix2 0 k)) n := by
  obtain ⟨a0, a, b, rfl⟩ : ∃ (a0 : Fin 1) (a : Fin 256) (b : Fin 128), x = ix3 a0 a b := ⟨x 0, x 1, x 2, eq_ix3 x⟩
  obtain rfl : a0 = 0 := Subsingleton.elim _ _
  obtain rfl : r = a := Fin.ext h1
  obtain rfl : n = ⟨b.val, lt_trans b.isLt (by decide)⟩ := Fin.ext h2
  rw [keyOf_lo, pay1_apply]
  simp only [pay4_apply]

/-- What a point leaves in the keys' block. -/
theorem out6_apply (c : Dev nD) (i : grid0.Coords) (arg1 : Memref sig .tc .vmem S256x2048 .f32) (harg1 : arg1.IsWhole) (arg2 : Memref sig .tc .vmem S1x1x2048 .f32) (harg2 : arg2.IsWhole) (arg3 : Memref sig .tc .vmem S1x1x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1x128 .f32) (harg6 : arg6.IsWhole) (arg9 : Memref sig .tc .vmem S1x256x256 .bf16) (harg9 : arg9.IsWhole) (arg10 : Memref sig .tc .vmem S1x256x256 .bf16) (harg10 : arg10.IsWhole)
    (x0 : Vec Ideal S256x2048 .f32) (x1 x2 : Vec Ideal S1x1x2048 .f32) (x3 : Vec Ideal S1x2048 .f32) (x4 : Vec Ideal S2048x512 .bf16) (x5 : Vec Ideal S1x128 .f32) (r : Fin 256) (n : Fin 256) :
    out0_A_6 c i arg1 harg1 arg2 harg2 arg3 harg3 arg4 harg4 arg5 harg5 arg6 harg6 arg9 harg9 arg10 harg10 x0 x1 x2 x3 x4 x5 (ix3 0 r n)
      = keyOf (prjRow x0 x1 x2 x3 x4 r) (fun k => x5 (ix2 0 k)) n := by
  frame_out
  canon_tiles x h
  case piece0 => exact case_hi x0 x1 x2 x3 x4 x5 r n x h1 h2
  case piece1 => exact case_lo x0 x1 x2 x3 x4 x5 r n x h1 h2

/-- What a point leaves in the values' block. -/
theorem out7_apply (c : Dev nD) (i : grid0.Coords) (arg1 : Memref sig .tc .vmem S256x2048 .f32) (harg1 : arg1.IsWhole) (arg2 : Memref sig .tc .vmem S1x1x2048 .f32) (harg2 : arg2.IsWhole) (arg3 : Memref sig .tc .vmem S1x1x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S1x128 .f32) (harg6 : arg6.IsWhole) (arg9 : Memref sig .tc .vmem S1x256x256 .bf16) (harg9 : arg9.IsWhole) (arg10 : Memref sig .tc .vmem S1x256x256 .bf16) (harg10 : arg10.IsWhole)
    (x0 : Vec Ideal S256x2048 .f32) (x1 x2 : Vec Ideal S1x1x2048 .f32) (x3 : Vec Ideal S1x2048 .f32) (x4 : Vec Ideal S2048x512 .bf16) (x5 : Vec Ideal S1x128 .f32) (r : Fin 256) (n : Fin 256) :
    out0_A_7 c i arg1 harg1 arg2 harg2 arg3 harg3 arg4 harg4 arg5 harg5 arg6 harg6 arg9 harg9 arg10 harg10 x0 x1 x2 x3 x4 x5 (ix3 0 r n)
      = prjRow x0 x1 x2 x3 x4 r ⟨256 + n, by omega⟩ := by
  frame_out
  rw [pay3_apply, pay4_apply]

variable (m : (ℓ : Loc nD τ sig) → Buf (Elt Ideal) ℓ) (c : Dev nD)

/-- The index maps of all windows, decided over the grid. -/
theorem idx_all : ∀ t : Fin cfg0.N,
    win0_0.index t = ![t.val, 0] ∧ win0_1.index t = ![2, 0, 3] ∧ win0_2.index t = ![2, 0, 4] ∧ win0_3.index t = ![0, 0]
    ∧ win0_4.index t = ![0, 0] ∧ win0_5.index t = ![0, 0] ∧ win0_6.index t = ![t.val, 32, 0] ∧ win0_7.index t = ![t.val, 32, 0] := by
  decide +kernel

/-- Row `R` of the context, both batches counted through. -/
abbrev xAt (R : Fin 512) (k : Fin 2048) : EReal := m ((c.tc : Thread nD τ).loc main_arg0) (ix2 R k)

/-- Entry `k` of chunk `q` of the context's modulation, row 2 of the table. -/
abbrev modAt (q : Fin 9) (k : Fin 2048) : EReal :=
  m ((c.tc : Thread nD τ).loc main_arg1) (ix3 (2 : Fin 8) (0 : Fin 1) (⟨q * 2048 + k, by omega⟩ : Fin 18432))

/-- The gain before the projection. -/
abbrev gAt (k : Fin 2048) : EReal := m ((c.tc : Thread nD τ).loc main_arg2) (ix1 k)

/-- The projection's columns for keys and values: columns 1024 to 1535 of the input projection. -/
abbrev wAt (d : Fin 2048) (f : Fin 512) : EReal := m ((c.tc : Thread nD τ).loc main_arg3) (ix2 d (⟨1024 + f, by omega⟩ : Fin 4608))

/-- The keys' gain. -/
abbrev knAt (k : Fin 128) : EReal := m ((c.tc : Thread nD τ).loc main_arg4) (ix1 k)

/-- Row `r` of batch `t`'s context. -/
abbrev rowOf (t : Fin cfg0.N) (r : Fin 256) : Fin 512 :=
  ⟨t.val * 256 + r, by have := lt_of_lt_of_eq t.isLt (show cfg0.N = 2 from N_0); omega⟩

theorem blk0 (t : Fin cfg0.N) (r : Fin 256) (k : Fin 2048) : iblk m c 0 t (ix2 r k) = xAt m c (rowOf t r) k := by
  have hi := idx_all t
  have hN := lt_of_lt_of_eq t.isLt (show cfg0.N = 2 from N_0)
  blk_ext [iblk, hi]

theorem blk1 (t : Fin cfg0.N) (k : Fin 2048) : iblk m c 1 t (ix3 0 0 k) = modAt m c 3 k := by
  have hi := idx_all t
  blk_ext [iblk, hi]

theorem blk2 (t : Fin cfg0.N) (k : Fin 2048) : iblk m c 2 t (ix3 0 0 k) = modAt m c 4 k := by
  have hi := idx_all t
  blk_ext [iblk, hi]

theorem blk3 (t : Fin cfg0.N) (k : Fin 2048) : iblk m c 3 t (ix2 0 k) = gAt m c k := by
  have hi := idx_all t
  blk_ext! [iblk, hi]

theorem blk4 (t : Fin cfg0.N) (d : Fin 2048) (f : Fin 512) : iblk m c 4 t (ix2 d f) = wAt m c d f := by
  have hi := idx_all t
  blk_ext! [iblk, hi]

theorem blk5 (t : Fin cfg0.N) (k : Fin 128) : iblk m c 5 t (ix2 0 k) = knAt m c k := by
  have hi := idx_all t
  blk_ext! [iblk, hi]

/-! ## The whole results -/

/-- Row `R` of the context's projection, in the arguments' arrays. -/
def prjAt (R : Fin 512) : Fin 512 → EReal := prj (hid (xAt m c R) (gAt m c) (modAt m c 4) (modAt m c 3)) (wAt m c)

/-- Batch `b`'s keys at row `s` and column `n`: the argument's in the first 8192 rows, the context's below. -/
def kAt (b : Fin 2) (s : Fin 8448) (n : Fin 256) : EReal :=
  if h : s.val < 8192 then m ((c.tc : Thread nD τ).loc main_arg5) (ix3 b s n)
  else keyOf (prjAt m c ⟨b * 256 + (s - 8192), by omega⟩) (knAt m c) n

/-- Batch `b`'s values at row `s` and column `n`: the argument's in the first 8192 rows, the context's below. -/
def vAt (b : Fin 2) (s : Fin 8448) (n : Fin 256) : EReal :=
  if h : s.val < 8192 then m ((c.tc : Thread nD τ).loc main_arg6) (ix3 b s n)
  else prjAt m c ⟨b * 256 + (s - 8192), by omega⟩ ⟨256 + n, by omega⟩

/-- The keys as one array. -/
def G6 : Vec Ideal S2x8448x256 .bf16 := fun i => kAt m c (i 0) (i 1) (i 2)

/-- The values as one array. -/
def G7 : Vec Ideal S2x8448x256 .bf16 := fun i => vAt m c (i 0) (i 1) (i 2)

theorem prjRow_eq (t : Fin cfg0.N) (r : Fin 256) :
    prjRow (iblk m c 0 t) (iblk m c 1 t) (iblk m c 2 t) (iblk m c 3 t) (iblk m c 4 t) r = prjAt m c (rowOf t r) := by
  unfold prjRow prjAt
  congr 1
  · congr 1 <;> funext k
    · exact blk0 m c t r k
    · exact blk3 m c t k
    · exact blk2 m c t k
    · exact blk1 m c t k
  · funext d f
    exact blk4 m c t d f

theorem point6 (t : Fin cfg0.N) (r : Fin 256) (n : Fin 256) (b : Fin 2) (s : Fin 8448) (hb : b.val = t.val) (hs : s.val = 8192 + r.val) :
    (outsAt0 m c t).1 (ix3 0 r n) = kAt m c b s n := by
  have hR : (⟨b.val * 256 + (s.val - 8192), by omega⟩ : Fin 512) = rowOf t r := Fin.ext (by dsimp only [rowOf]; omega)
  unfold kAt
  rw [dif_neg (by omega), hR]
  simp only [outsAt0]
  refine (out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) r n).trans ?_
  rw [prjRow_eq, show (fun k => iblk m c 5 t (ix2 0 k)) = knAt m c from funext fun k => blk5 m c t k]

theorem entry6 : V m c main_v4_0 = m ((c.tc : Thread nD τ).loc main_arg5) := by
  unfold V
  after_results
  rfl

/-- The result's array after the run: the rows the call writes, and the rows it leaves. -/
theorem arr6 : (dats m 0 c).arrAt 6 cfg0.N = G6 m c := by
  refine (dats m 0 c).arrAt_eq_of_coversWhere_of_agree 6 _ (fun β => 32 ≤ β (1 : Fin 3)) (by decide +kernel) (fun t hf y => ?_) (fun j hj => ?_)
  · obtain ⟨-, -, -, -, -, -, h6, h7⟩ := idx_all t
    have hN := lt_of_lt_of_eq t.isLt (show cfg0.N = 2 from N_0)
    have hy0 : (y 0).val < 1 := (y 0).isLt
    have hy1 : (y 1).val < 256 := (y 1).isLt
    have hy2 : (y 2).val < 256 := (y 2).isLt
    have hx : (cfg0.win 6).xinj (grid0.coords t) y = ix3 (0 : Fin 1) (⟨(y 1).val, hy1⟩ : Fin 256) (⟨(y 2).val, hy2⟩ : Fin 256) := by
      funext a; apply Fin.ext
      match a with
      | ⟨0, _⟩ => show (y 0).val = 0; omega
      | ⟨1, _⟩ => rfl
      | ⟨2, _⟩ => rfl
    have hb0 : (((cfg0.win 6).blk t).view.emb y 0).val = t.val := by
      show win0_6.index t (0 : Fin 3) * 1 + 1 * (y 0).val = _
      rw [h6]; show t.val * 1 + 1 * (y 0).val = _; omega
    have hb1 : (((cfg0.win 6).blk t).view.emb y 1).val = 8192 + (y 1).val := by
      show win0_6.index t (1 : Fin 3) * 256 + 1 * (y 1).val = _
      rw [h6]; show 32 * 256 + 1 * (y 1).val = _; omega
    have hb2 : (((cfg0.win 6).blk t).view.emb y 2).val = (y 2).val := by
      show win0_6.index t (2 : Fin 3) * 256 + 1 * (y 2).val = _
      rw [h6]; show 0 * 256 + 1 * (y 2).val = _; omega
    have e := point6 m c t ⟨(y 1).val, hy1⟩ ⟨(y 2).val, hy2⟩ (((cfg0.win 6).blk t).view.emb y 0) (((cfg0.win 6).blk t).view.emb y 1) hb0 hb1
    have e2 : (⟨(y 2).val, hy2⟩ : Fin 256) = ((cfg0.win 6).blk t).view.emb y 2 := Fin.ext hb2.symm
    refine Eq.trans ?_ (e.trans (congrArg (fun z => kAt m c _ _ z) e2))
    show (dats m 0 c).after 6 t ((cfg0.win 6).xinj (grid0.coords t) y) = _
    rw [after0_6]
    exact congrArg (outsAt0 m c t).1 hx
  · have hj1 : (j 1).val < 8192 := by
      have : ¬ 32 ≤ (j 1).val / 256 := hj
      omega
    show V m c main_v4_0 j = kAt m c (j 0) (j 1) (j 2)
    unfold kAt
    rw [dif_pos hj1, entry6]
    exact congrArg _ (eq_ix3 j)

theorem point7 (t : Fin cfg0.N) (r : Fin 256) (n : Fin 256) (b : Fin 2) (s : Fin 8448) (hb : b.val = t.val) (hs : s.val = 8192 + r.val) :
    (outsAt0 m c t).2 (ix3 0 r n) = vAt m c b s n := by
  have hR : (⟨b.val * 256 + (s.val - 8192), by omega⟩ : Fin 512) = rowOf t r := Fin.ext (by dsimp only [rowOf]; omega)
  unfold vAt
  rw [dif_neg (by omega), hR]
  simp only [outsAt0]
  refine (out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) r n).trans ?_
  rw [prjRow_eq]

theorem entry7 : V m c main_v4_1 = m ((c.tc : Thread nD τ).loc main_arg6) := by
  unfold V
  after_results
  rfl

/-- The result's array after the run: the rows the call writes, and the rows it leaves. -/
theorem arr7 : (dats m 0 c).arrAt 7 cfg0.N = G7 m c := by
  refine (dats m 0 c).arrAt_eq_of_coversWhere_of_agree 7 _ (fun β => 32 ≤ β (1 : Fin 3)) (by decide +kernel) (fun t hf y => ?_) (fun j hj => ?_)
  · obtain ⟨-, -, -, -, -, -, h6, h7⟩ := idx_all t
    have hN := lt_of_lt_of_eq t.isLt (show cfg0.N = 2 from N_0)
    have hy0 : (y 0).val < 1 := (y 0).isLt
    have hy1 : (y 1).val < 256 := (y 1).isLt
    have hy2 : (y 2).val < 256 := (y 2).isLt
    have hx : (cfg0.win 7).xinj (grid0.coords t) y = ix3 (0 : Fin 1) (⟨(y 1).val, hy1⟩ : Fin 256) (⟨(y 2).val, hy2⟩ : Fin 256) := by
      funext a; apply Fin.ext
      match a with
      | ⟨0, _⟩ => show (y 0).val = 0; omega
      | ⟨1, _⟩ => rfl
      | ⟨2, _⟩ => rfl
    have hb0 : (((cfg0.win 7).blk t).view.emb y 0).val = t.val := by
      show win0_7.index t (0 : Fin 3) * 1 + 1 * (y 0).val = _
      rw [h7]; show t.val * 1 + 1 * (y 0).val = _; omega
    have hb1 : (((cfg0.win 7).blk t).view.emb y 1).val = 8192 + (y 1).val := by
      show win0_7.index t (1 : Fin 3) * 256 + 1 * (y 1).val = _
      rw [h7]; show 32 * 256 + 1 * (y 1).val = _; omega
    have hb2 : (((cfg0.win 7).blk t).view.emb y 2).val = (y 2).val := by
      show win0_7.index t (2 : Fin 3) * 256 + 1 * (y 2).val = _
      rw [h7]; show 0 * 256 + 1 * (y 2).val = _; omega
    have e := point7 m c t ⟨(y 1).val, hy1⟩ ⟨(y 2).val, hy2⟩ (((cfg0.win 7).blk t).view.emb y 0) (((cfg0.win 7).blk t).view.emb y 1) hb0 hb1
    have e2 : (⟨(y 2).val, hy2⟩ : Fin 256) = ((cfg0.win 7).blk t).view.emb y 2 := Fin.ext hb2.symm
    refine Eq.trans ?_ (e.trans (congrArg (fun z => vAt m c _ _ z) e2))
    show (dats m 0 c).after 7 t ((cfg0.win 7).xinj (grid0.coords t) y) = _
    rw [after0_7]
    exact congrArg (outsAt0 m c t).2 hx
  · have hj1 : (j 1).val < 8192 := by
      have : ¬ 32 ≤ (j 1).val / 256 := hj
      omega
    show V m c main_v4_1 j = vAt m c (j 0) (j 1) (j 2)
    unfold vAt
    rw [dif_pos hj1, entry7]
    exact congrArg _ (eq_ix3 j)

end Cert.Ctx
-- ==== Proof.Ctx.Ref.lean ====
/-
  What the reference of the context's keys and values computes, over the extended reals, at one index.
-/
module

public import proofs.«01_k».proof.Proof.Gen.Reference4Ideal.Run
public import proofs.«01_k».proof.Proof.Ctx.Blocks
public import Idealize.ShloMosaic.Lib.Claim

@[expose] public section

/-! The reference's two results in steps: modulated rows, their projection, the heads, and the context below the latent rows. -/

noncomputable section

namespace Cert.Ctx.Ref

open Cert.Reference4Ideal Cert.Reference4Ideal.Gen Idealize.ShloMosaic Idealize.ShloMosaic.TcCoe Idealize.ShloMosaic.Pipeline Idealize.SL.Sem

/-- The context's rows with the batch as an axis. -/
def rowArr (x0 : FVec Ideal S512x2048 .f32) : FVec Ideal S2x256x2048 .f32 := shapeCast _ x0 shapeCasts_S512x2048_S2x256x2048

/-- The normed and modulated rows. -/
def hidArr (a : FVec Ideal S2x256x2048 .f32) (x1 : FVec Ideal S8x1x18432 .f32) (x2 : FVec Ideal S2048 .f32) : FVec Ideal S2x256x2048 .f32 :=
  addf (mulf (mulf (mulf a (broadcastInDim S2x256x2048 ![0, 1, 2] bcast_S2x256x1_S2x256x2048_0_1_2 (Host.rsqrt (addf (Host.divf (broadcastInDim S2x256x1 ![0, 1] bcast_S2x256_S2x256x1_0_1 (Host.reduceAdd (mulf a a) (constant S_ .f32 0x00000000#32) reducesTo_S2x256x2048_S2x256_d2 h_S_)) (broadcastInDim S2x256x1 ![] bcast_S_S2x256x1 (constant S_ .f32 0x45000000#32))) (broadcastInDim S2x256x1 ![] bcast_S_S2x256x1 (constant S_ .f32 0x358637BD#32)))))) (broadcastInDim S2x256x2048 ![0, 1, 2] bcast_S1x1x2048_S2x256x2048_0_1_2 (broadcastInDim S1x1x2048 ![2] bcast_S2048_S1x1x2048_2 x2))) (broadcastInDim S2x256x2048 ![0, 1, 2] bcast_S1x1x2048_S2x256x2048_0_1_2 (addf (broadcastInDim S1x1x2048 ![] bcast_S_S1x1x2048 (constant S_ .f32 0x3F800000#32)) (extractStridedSlice S1x1x2048 ![0, 0, 8192] (extractStridedSlice S1x1x18432 ![2, 0, 0] x1 slices_S8x1x18432_S1x1x18432_2_0_0) slices_S1x1x18432_S1x1x2048_0_0_8192)))) (broadcastInDim S2x256x2048 ![0, 1, 2] bcast_S1x1x2048_S2x256x2048_0_1_2 (extractStridedSlice S1x1x2048 ![0, 0, 6144] (extractStridedSlice S1x1x18432 ![2, 0, 0] x1 slices_S8x1x18432_S1x1x18432_2_0_0) slices_S1x1x18432_S1x1x2048_0_0_6144))

/-- Their projection to keys and values. -/
def prjArr (h : FVec Ideal S2x256x2048 .f32) (x3 : FVec Ideal S2048x4608 .f32) : FVec Ideal S2x256x512 .f32 :=
  Host.dotGeneral dot_S2x256x2048_S2048x512_S2x256x512_2_0_01_1_n_n none h (extractStridedSlice S2048x512 ![0, 1024] x3 slices_S2048x4608_S2048x512_0_1024)

/-- The keys' half of the projection, by heads. -/
def headArr (p : FVec Ideal S2x256x512 .f32) : FVec Ideal S2x256x2x128 .f32 :=
  shapeCast _ (extractStridedSlice S2x256x256 ![0, 0, 0] p slices_S2x256x512_S2x256x256_0_0_0) shapeCasts_S2x256x256_S2x256x2x128

/-- The normed heads. -/
def nrmArr (u : FVec Ideal S2x256x2x128 .f32) (x4 : FVec Ideal S128 .f32) : FVec Ideal S2x256x2x128 .f32 :=
  mulf (mulf u (broadcastInDim S2x256x2x128 ![0, 1, 2, 3] bcast_S2x256x2x1_S2x256x2x128_0_1_2_3 (Host.rsqrt (addf (Host.divf (broadcastInDim S2x256x2x1 ![0, 1, 2] bcast_S2x256x2_S2x256x2x1_0_1_2 (Host.reduceAdd (mulf u u) (constant S_ .f32 0x00000000#32) reducesTo_S2x256x2x128_S2x256x2_d3 h_S_)) (broadcastInDim S2x256x2x1 ![] bcast_S_S2x256x2x1 (constant S_ .f32 0x43000000#32))) (broadcastInDim S2x256x2x1 ![] bcast_S_S2x256x2x1 (constant S_ .f32 0x358637BD#32)))))) (broadcastInDim S2x256x2x128 ![0, 1, 2, 3] bcast_S1x1x1x128_S2x256x2x128_0_1_2_3 (broadcastInDim S1x1x1x128 ![3] bcast_S128_S1x1x1x128_3 x4))

/-- The heads side by side again, in bfloat16. -/
def flatArr (w : FVec Ideal S2x256x2x128 .f32) : FVec Ideal S2x256x256 .bf16 :=
  truncf .bf16 (shapeCast _ w shapeCasts_S2x256x2x128_S2x256x256) bitsLt_bf16_f32

/-- The values' half of the projection, in bfloat16. -/
def valArr (p : FVec Ideal S2x256x512 .f32) : FVec Ideal S2x256x256 .bf16 :=
  truncf .bf16 (shapeCast _ (shapeCast _ (extractStridedSlice S2x256x256 ![0, 0, 256] p slices_S2x256x512_S2x256x256_0_0_256) shapeCasts_S2x256x256_S2x256x2x128) shapeCasts_S2x256x2x128_S2x256x256) bitsLt_bf16_f32

/-- The context's rows `k` below the latent rows of `x5`. -/
def catArr (x5 : FVec Ideal S2x8448x256 .bf16) (k : FVec Ideal S2x256x256 .bf16) : FVec Ideal S2x8448x256 .bf16 :=
  concatenate S2x8448x256 1 [⟨S2x8192x256, (extractStridedSlice S2x8192x256 ![0, 0, 0] x5 slices_S2x8448x256_S2x8192x256_0_0_0)⟩, ⟨S2x256x256, k⟩] concatenates_S2x8192x256_S2x256x256_S2x8448x256_d1

/-- The projection, from the arguments. -/
def pArr (x0 : FVec Ideal S512x2048 .f32) (x1 : FVec Ideal S8x1x18432 .f32) (x2 : FVec Ideal S2048 .f32) (x3 : FVec Ideal S2048x4608 .f32) :
    FVec Ideal S2x256x512 .f32 := prjArr (hidArr (rowArr x0) x1 x2) x3

/-- The reference's keys. -/
def refK (x0 : FVec Ideal S512x2048 .f32) (x1 : FVec Ideal S8x1x18432 .f32) (x2 : FVec Ideal S2048 .f32) (x3 : FVec Ideal S2048x4608 .f32)
    (x4 : FVec Ideal S128 .f32) (x5 : FVec Ideal S2x8448x256 .bf16) : FVec Ideal S2x8448x256 .bf16 :=
  catArr x5 (flatArr (nrmArr (headArr (pArr x0 x1 x2 x3)) x4))

/-- The reference's values. -/
def refV (x0 : FVec Ideal S512x2048 .f32) (x1 : FVec Ideal S8x1x18432 .f32) (x2 : FVec Ideal S2048 .f32) (x3 : FVec Ideal S2048x4608 .f32)
    (x6 : FVec Ideal S2x8448x256 .bf16) : FVec Ideal S2x8448x256 .bf16 :=
  catArr x6 (valArr (pArr x0 x1 x2 x3))

theorem rowArr_apply (x0 : FVec Ideal S512x2048 .f32) (b : Fin 2) (r : Fin 256) (k : Fin 2048) :
    rowArr x0 (ix3 b r k) = x0 (ix2 (⟨b * 256 + r, by omega⟩ : Fin 512) k) := by
  unfold rowArr
  pointwise []

theorem hidArr_apply (a : FVec Ideal S2x256x2048 .f32) (x1 : FVec Ideal S8x1x18432 .f32) (x2 : FVec Ideal S2048 .f32)
    (b : Fin 2) (r : Fin 256) (d : Fin 2048) :
    hidArr a x1 x2 (ix3 b r d) = hid (fun k => a (ix3 b r k)) (fun k => x2 (ix1 k))
      (fun k => x1 (ix3 (2 : Fin 8) (0 : Fin 1) (⟨4 * 2048 + k, by omega⟩ : Fin 18432)))
      (fun k => x1 (ix3 (2 : Fin 8) (0 : Fin 1) (⟨3 * 2048 + k, by omega⟩ : Fin 18432))) d := by
  unfold hidArr
  pointwise [hid]

theorem prjArr_apply (h : FVec Ideal S2x256x2048 .f32) (x3 : FVec Ideal S2048x4608 .f32) (b : Fin 2) (r : Fin 256) (f : Fin 512) :
    prjArr h x3 (ix3 b r f) = prj (fun d => h (ix3 b r d)) (fun d e => x3 (ix2 d (⟨1024 + e, by omega⟩ : Fin 4608))) f := by
  unfold prjArr
  pointwise [prj]

theorem headArr_apply (p : FVec Ideal S2x256x512 .f32) (b : Fin 2) (r : Fin 256) (a : Fin 2) (k : Fin 128) :
    headArr p (ix4 b r a k) = p (ix3 b r (⟨a * 128 + k, by omega⟩ : Fin 512)) := by
  unfold headArr
  pointwise []

theorem nrmArr_apply (u : FVec Ideal S2x256x2x128 .f32) (x4 : FVec Ideal S128 .f32) (b : Fin 2) (r : Fin 256) (a : Fin 2) (k : Fin 128) :
    nrmArr u x4 (ix4 b r a k) = headNrm (fun e => u (ix4 b r a e)) (fun e => x4 (ix1 e)) k := by
  unfold nrmArr
  pointwise [headNrm]

theorem flatArr_apply (w : FVec Ideal S2x256x2x128 .f32) (b : Fin 2) (r : Fin 256) (n : Fin 256) :
    flatArr w (ix3 b r n) = w (ix4 b r (⟨n / 128, by omega⟩ : Fin 2) (⟨n % 128, by omega⟩ : Fin 128)) := by
  unfold flatArr
  pointwise []

theorem valArr_apply (p : FVec Ideal S2x256x512 .f32) (b : Fin 2) (r : Fin 256) (n : Fin 256) :
    valArr p (ix3 b r n) = p (ix3 b r (⟨256 + n, by omega⟩ : Fin 512)) := by
  unfold valArr
  pointwise []

theorem catArr_top (x5 : FVec Ideal S2x8448x256 .bf16) (k : FVec Ideal S2x256x256 .bf16) (b : Fin 2) (s : Fin 8192) (n : Fin 256) :
    catArr x5 k (ix3 b (⟨s, by omega⟩ : Fin 8448) n) = x5 (ix3 b (⟨s, by omega⟩ : Fin 8448) n) := by
  unfold catArr
  pointwise []

theorem catArr_bottom (x5 : FVec Ideal S2x8448x256 .bf16) (k : FVec Ideal S2x256x256 .bf16) (b : Fin 2) (s : Fin 256) (n : Fin 256) :
    catArr x5 k (ix3 b (⟨8192 + s, by omega⟩ : Fin 8448) n) = k (ix3 b s n) := by
  unfold catArr
  pointwise []

/-- The projection of row `r` of batch `b`. -/
theorem pArr_apply (x0 : FVec Ideal S512x2048 .f32) (x1 : FVec Ideal S8x1x18432 .f32) (x2 : FVec Ideal S2048 .f32)
    (x3 : FVec Ideal S2048x4608 .f32) (b : Fin 2) (r : Fin 256) (f : Fin 512) :
    pArr x0 x1 x2 x3 (ix3 b r f) = prj (hid (fun k => x0 (ix2 (⟨b * 256 + r, by omega⟩ : Fin 512) k)) (fun k => x2 (ix1 k))
      (fun k => x1 (ix3 (2 : Fin 8) (0 : Fin 1) (⟨4 * 2048 + k, by omega⟩ : Fin 18432)))
      (fun k => x1 (ix3 (2 : Fin 8) (0 : Fin 1) (⟨3 * 2048 + k, by omega⟩ : Fin 18432))))
      (fun d e => x3 (ix2 d (⟨1024 + e, by omega⟩ : Fin 4608))) f := by
  refine (prjArr_apply _ _ b r f).trans ?_
  simp only [hidArr_apply, rowArr_apply]

end Cert.Ctx.Ref
-- ==== Proof.Ctx.Equal.lean ====
module

public import proofs.«01_k».proof.Defs
public import proofs.«01_k».proof.Proof.Ctx.Blocks
public import proofs.«01_k».proof.Proof.Ctx.Ref

@[expose] public section

/-! # The context's keys and values are the reference's

Both arrays hold the passed latent rows first; below them the kernel writes what the reference concatenates. -/

noncomputable section

namespace Cert.Ctx

open Cert.Kernel4Ideal Cert.Kernel4Ideal.Gen Idealize.ShloMosaic Idealize.ShloMosaic.TcCoe Idealize.ShloMosaic.Pipeline Idealize.SL.Sem

variable (m : (ℓ : Loc nD τ sig) → Buf (Elt Ideal) ℓ) (c : Dev nD)

/-- The reference's projection, from the kernel's arguments. -/
theorem pArr_eq (b : Fin 2) (r : Fin 256) (f : Fin 512) (R : Fin 512) (hR : R.val = b.val * 256 + r.val) :
    Ref.pArr (m ((c.tc : Thread nD τ).loc main_arg0)) (m ((c.tc : Thread nD τ).loc main_arg1)) (m ((c.tc : Thread nD τ).loc main_arg2))
      (m ((c.tc : Thread nD τ).loc main_arg3)) (ix3 b r f) = prjAt m c R f := by
  have e : (⟨b.val * 256 + r.val, by omega⟩ : Fin 512) = R := Fin.ext hR.symm
  rw [← e]
  exact Ref.pArr_apply _ _ _ _ b r f

/-- From the kernel's arguments, the reference's keys are the kernel's. -/
theorem sameK : Ref.refK (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) = G6 m c := by
  refine funext fun i => ?_
  obtain ⟨b, s, n, rfl⟩ : ∃ (b : Fin 2) (s : Fin 8448) (n : Fin 256), i = ix3 b s n := ⟨i 0, i 1, i 2, eq_ix3 i⟩
  show _ = kAt m c b s n
  unfold kAt Ref.refK
  by_cases h : s.val < 8192
  · rw [dif_pos h]
    exact Ref.catArr_top _ _ b ⟨s, h⟩ n
  · rw [dif_neg h]
    have hs : s = (⟨8192 + (⟨s.val - 8192, by omega⟩ : Fin 256).val, by dsimp only; omega⟩ : Fin 8448) := Fin.ext (by dsimp only; omega)
    refine (congrArg (fun z => Ref.catArr _ _ (ix3 b z n)) hs).trans ((Ref.catArr_bottom _ _ b _ n).trans ?_)
    rw [Ref.flatArr_apply, Ref.nrmArr_apply]
    unfold keyOf
    refine congrArg (fun u => headNrm u _ _) (funext fun k => ?_)
    exact (Ref.headArr_apply _ b _ _ k).trans (pArr_eq m c b _ _ _ rfl)

/-- From the kernel's arguments, the reference's values are the kernel's. -/
theorem sameV : Ref.refV (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg6)) = G7 m c := by
  refine funext fun i => ?_
  obtain ⟨b, s, n, rfl⟩ : ∃ (b : Fin 2) (s : Fin 8448) (n : Fin 256), i = ix3 b s n := ⟨i 0, i 1, i 2, eq_ix3 i⟩
  show _ = vAt m c b s n
  unfold vAt Ref.refV
  by_cases h : s.val < 8192
  · rw [dif_pos h]
    exact Ref.catArr_top _ _ b ⟨s, h⟩ n
  · rw [dif_neg h]
    have hs : s = (⟨8192 + (⟨s.val - 8192, by omega⟩ : Fin 256).val, by dsimp only; omega⟩ : Fin 8448) := Fin.ext (by dsimp only; omega)
    refine (congrArg (fun z => Ref.catArr _ _ (ix3 b z n)) hs).trans ((Ref.catArr_bottom _ _ b _ n).trans ?_)
    exact (Ref.valArr_apply _ b _ n).trans (pArr_eq m c b _ _ _ rfl)

/-- The value claim: both programs run, and end with the same keys and values. -/
theorem algebraic : Cert.algebraic_Kernel4Ideal_Reference4Ideal (hKernel4Ideal := Cert.Kernel4Ideal.Gen.facts)
    (hReference4Ideal := Cert.Reference4Ideal.Gen.facts) := by
  intro m g m' g' _ hm
  refine ⟨fun c => G6 m c, fun c => G7 m c,
    (θ_run _ _ _).mono (fun r h c => ⟨(h c).1.trans (arr6 m c), (h c).2.1.trans (arr7 m c), (h c).2.2⟩) (Cert.Kernel4Ideal.Value.run_blocks m g),
    (θ_run _ _ _).mono (fun r h c => ?_) (Cert.Reference4Ideal.Value.run m' g')⟩
  obtain ⟨h0, h1, h2, h3, h4, h5, h6⟩ := hm c
  refine ⟨(h c).1.trans (Eq.trans ?_ (sameK m c)), (h c).2.1.trans (Eq.trans ?_ (sameV m c)), (h c).2.2⟩
  · show Ref.refK _ _ _ _ _ _ = _
    rw [h0, h1, h2, h3, h4, h5]
  · show Ref.refV _ _ _ _ _ = _
    rw [h0, h1, h2, h3, h6]

/-- The reference runs, leaves its arguments and ends with every counter at zero. -/
theorem frameRef : Cert.quiescent_Reference4Ideal (hReference4Ideal := Cert.Reference4Ideal.Gen.facts) := by
  intro m g _
  exact (θ_run _ _ _).mono (fun r h => ⟨fun c => (h c).2.2, sem_eq_zero_of_no_sems (by decide) r.2⟩)
    (Cert.Reference4Ideal.Value.run m g)

end Cert.Ctx
-- ==== Proof.Attn.Bits.Frame.lean ====
/- The frame of the attention kernel as it runs: the pipeline's run, the outputs and the score buffers at whatever the body
   leaves in them. -/
module

public import proofs.«01_k».proof.Proof.Attn.Bits.RunA
public import proofs.«01_k».proof.Proof.Attn.Bits.RunB
public import proofs.«01_k».proof.Proof.Attn.Bits.RunC
public import proofs.«01_k».proof.Proof.Attn.Bits.RunD
public import Idealize.ShloMosaic.Lib.Claim

@[expose] public section

set_option maxRecDepth 16384

noncomputable section

namespace Cert.Kernel.Attn

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents are not followed: the three outputs. -/
def loose (w : Fin cfg0.W) : Bool := match w with
  | ⟨5, _⟩ => true
  | ⟨6, _⟩ => true
  | ⟨7, _⟩ => true
  | _ => false

/-- The pipeline's data: inputs stay at their blocks; of the outputs nothing is said (their entries here are placeholders). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => VO0_5.read (Elt F) VO0_5.junk
    | ⟨6, _⟩ => VO0_6.read (Elt F) VO0_6.junk
    | ⟨7, _⟩ => VO0_7.read (Elt F) VO0_7.junk
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-! An input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! What an input's window is left with. -/
theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]

/-- What the body is given at a point, -/
def bodyPre (c : Dev nD) (t : Fin cfg0.N) : sProp 𝕄 :=
  iprop(Pipeline.ΦA spec0 c ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ X, owns (c : Thread nD τ) (ms0_5 t) fullShare X)
    ∗ (∃ X, owns (c : Thread nD τ) (ms0_6 t) fullShare X)
    ∗ (∃ X, owns (c : Thread nD τ) (ms0_7 t) fullShare X))

/-- and what it returns. -/
def bodyPost (c : Dev nD) (t : Fin cfg0.N) : sProp 𝕄 :=
  iprop(Pipeline.ΦA spec0 c ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ X, owns (c : Thread nD τ) (ms0_5 t) fullShare X)
    ∗ (∃ X, owns (c : Thread nD τ) (ms0_6 t) fullShare X)
    ∗ (∃ X, owns (c : Thread nD τ) (ms0_7 t) fullShare X))

set_option maxHeartbeats 4000000 in
/-- The first point of a head. -/
theorem sound_A (c : Dev nD) (t : Fin cfg0.N) (h : t.val % 65 = 0) :
    bodyPre m c t ⊢ wp frame (wpE (defs₀ (F := F)) Variants.none c none) Set.univ (bodyAt0 t) (fun _ => bodyPost m c t) := by
  have hc0 : cond0_0 (grid0.coords t) := ((hcond0_0 t).mpr (by omega))
  have hc1 : ¬cond0_1 (grid0.coords t) := (fun h' => by have := (hcond0_1 t).mp h'; omega)
  have hc2 : ¬cond0_2 (grid0.coords t) := (fun h' => by have := (hcond0_2 t).mp h'; omega)
  have hc3 : ¬cond0_3 (grid0.coords t) := (fun h' => by have := (hcond0_3 t).mp h'; omega)
  unfold bodyPre bodyPost bodyAt0
  simp only [before0_0, before0_1, before0_2, before0_3, before0_4]
  rw [show (dats m 0 c).owesAt () t.succ = (dats m 0 c).owesAt () t.castSucc from rfl]
  rw [leaves0_0, leaves0_1, leaves0_2, leaves0_3, leaves0_4, PhiA0_eq]
  iintro ⟨⟨⟨⟨%s0, HS0⟩, ⟨%s1, HS1⟩, HS2, ⟨%s3, HS3⟩, HS4, HS5⟩, Hg⟩, Ho, ⟨%d0, H0⟩, ⟨%d1, H1⟩, ⟨%d2, H2⟩, ⟨%d3, H3⟩, ⟨%d4, H4⟩, ⟨%X5, H5⟩, H6, H7⟩
  iapply ((kernelRun0_A c (grid0.coords t) _ _ _ _ _ _ _ _ _ _ _ _ _ _ _ _ _ _ _ _ _ _ _ _ _ _ _ _ hc0 hc1 hc2 hc3 (iblk m c 0 t) (iblk m c 1 t) (iblk m c 2 t) (iblk m c 3 t) (iblk m c 4 t) s0).2.2.2.2.2.2.2.2.2 s1 s3 X5 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%e6, H6⟩, ⟨%e7, H7⟩, HS0, HS1, ⟨%es2, HS2⟩, HS3, HS4, HS5⟩
  isplitl [HS0 HS1 HS2 HS3 HS4 HS5 Hg]
  · isplitl [HS0 HS1 HS2 HS3 HS4 HS5]
    · isplitl [HS0]
      · iexists _; unfold owns; iexists _; isplitr; swap; · iexact HS0
        ipureintro; rfl
      isplitl [HS1]
      · iexists _; iexact HS1
      isplitl [HS2]
      · iexists _; unfold owns; iexists _; isplitr; swap; · iexact HS2
        ipureintro; rfl
      isplitl [HS3]
      · iexists _; iexact HS3
      isplitl [HS4]
      · iexact HS4
      iexact HS5
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexists _; iexact H5
  isplitl [H6]
  · iexists _; unfold owns; iexists _; isplitr; swap; · iexact H6
    ipureintro; rfl
  iexists _; unfold owns; iexists _; isplitr; swap; · iexact H7
  ipureintro; rfl

set_option maxHeartbeats 4000000 in
/-- An odd point. -/
theorem sound_B (c : Dev nD) (t : Fin cfg0.N) (h : t.val % 65 % 2 = 1) :
    bodyPre m c t ⊢ wp frame (wpE (defs₀ (F := F)) Variants.none c none) Set.univ (bodyAt0 t) (fun _ => bodyPost m c t) := by
  have hc0 : ¬cond0_0 (grid0.coords t) := (fun h' => by have := (hcond0_0 t).mp h'; omega)
  have hc1 : ¬cond0_1 (grid0.coords t) := (fun h' => by have := (hcond0_1 t).mp h'; omega)
  have hc2 : cond0_2 (grid0.coords t) := ((hcond0_2 t).mpr (by omega))
  have hc3 : ¬cond0_3 (grid0.coords t) := (fun h' => by have := (hcond0_3 t).mp h'; omega)
  unfold bodyPre bodyPost bodyAt0
  simp only [before0_0, before0_1, before0_2, before0_3, before0_4]
  rw [show (dats m 0 c).owesAt () t.succ = (dats m 0 c).owesAt () t.castSucc from rfl]
  rw [leaves0_0, leaves0_1, leaves0_2, leaves0_3, leaves0_4, PhiA0_eq]
  iintro ⟨⟨⟨⟨%s0, HS0⟩, HS1, ⟨%s2, HS2⟩, HS3, HS4, HS5⟩, Hg⟩, Ho, ⟨%d0, H0⟩, ⟨%d1, H1⟩, ⟨%d2, H2⟩, ⟨%d3, H3⟩, ⟨%d4, H4⟩, H5, H6, H7⟩
  iapply ((kernelRun0_B c (grid0.coords t) _ _ _ _ _ _ _ _ _ _ _ _ _ _ _ _ _ _ _ _ _ _ _ _ _ _ _ _ hc0 hc1 hc2 hc3 (iblk m c 0 t) (iblk m c 1 t) (iblk m c 2 t) (iblk m c 3 t) (iblk m c 4 t) s0 s2).2.2.2.2.2.2.2.2.2  Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%e5, H5⟩, ⟨%e6, H6⟩, ⟨%e7, H7⟩, HS0, ⟨%es1, HS1⟩, HS2, ⟨%es3, HS3⟩, ⟨%es4, HS4⟩, ⟨%es5, HS5⟩⟩
  isplitl [HS0 HS1 HS2 HS3 HS4 HS5 Hg]
  · isplitl [HS0 HS1 HS2 HS3 HS4 HS5]
    · isplitl [HS0]
      · iexists _; iexact HS0
      isplitl [HS1]
      · iexists _; unfold owns; iexists _; isplitr; swap; · iexact HS1
        ipureintro; rfl
      isplitl [HS2]
      · iexists _; iexact HS2
      isplitl [HS3]
      · iexists _; unfold owns; iexists _; isplitr; swap; · iexact HS3
        ipureintro; rfl
      isplitl [HS4]
      · iexists _; unfold owns; iexists _; isplitr; swap; · iexact HS4
        ipureintro; rfl
      iexists _; unfold owns; iexists _; isplitr; swap; · iexact HS5
      ipureintro; rfl
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexists _; unfold owns; iexists _; isplitr; swap; · iexact H5
    ipureintro; rfl
  isplitl [H6]
  · iexists _; unfold owns; iexists _; isplitr; swap; · iexact H6
    ipureintro; rfl
  iexists _; unfold owns; iexists _; isplitr; swap; · iexact H7
  ipureintro; rfl

set_option maxHeartbeats 4000000 in
/-- An even point, neither first nor last. -/
theorem sound_C (c : Dev nD) (t : Fin cfg0.N) (h : t.val % 65 % 2 = 0 ∧ t.val % 65 ≠ 0 ∧ t.val % 65 ≠ 64) :
    bodyPre m c t ⊢ wp frame (wpE (defs₀ (F := F)) Variants.none c none) Set.univ (bodyAt0 t) (fun _ => bodyPost m c t) := by
  have hc0 : ¬cond0_0 (grid0.coords t) := (fun h' => by have := (hcond0_0 t).mp h'; omega)
  have hc1 : cond0_1 (grid0.coords t) := ((hcond0_1 t).mpr (by omega))
  have hc2 : ¬cond0_2 (grid0.coords t) := (fun h' => by have := (hcond0_2 t).mp h'; omega)
  have hc3 : ¬cond0_3 (grid0.coords t) := (fun h' => by have := (hcond0_3 t).mp h'; omega)
  unfold bodyPre bodyPost bodyAt0
  simp only [before0_0, before0_1, before0_2, before0_3, before0_4]
  rw [show (dats m 0 c).owesAt () t.succ = (dats m 0 c).owesAt () t.castSucc from rfl]
  rw [leaves0_0, leaves0_1, leaves0_2, leaves0_3, leaves0_4, PhiA0_eq]
  iintro ⟨⟨⟨HS0, ⟨%s1, HS1⟩, HS2, ⟨%s3, HS3⟩, HS4, HS5⟩, Hg⟩, Ho, ⟨%d0, H0⟩, ⟨%d1, H1⟩, ⟨%d2, H2⟩, ⟨%d3, H3⟩, ⟨%d4, H4⟩, H5, H6, H7⟩
  iapply ((kernelRun0_C c (grid0.coords t) _ _ _ _ _ _ _ _ _ _ _ _ _ _ _ _ _ _ _ _ _ _ _ _ _ _ _ _ hc0 hc1 hc2 hc3 (iblk m c 0 t) (iblk m c 1 t) (iblk m c 2 t) (iblk m c 3 t) (iblk m c 4 t) s1 s3).2.2.2.2.2.2.2.2.2  Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%e5, H5⟩, ⟨%e6, H6⟩, ⟨%e7, H7⟩, ⟨%es0, HS0⟩, HS1, ⟨%es2, HS2⟩, HS3, ⟨%es4, HS4⟩, ⟨%es5, HS5⟩⟩
  isplitl [HS0 HS1 HS2 HS3 HS4 HS5 Hg]
  · isplitl [HS0 HS1 HS2 HS3 HS4 HS5]
    · isplitl [HS0]
      · iexists _; unfold owns; iexists _; isplitr; swap; · iexact HS0
        ipureintro; rfl
      isplitl [HS1]
      · iexists _; iexact HS1
      isplitl [HS2]
      · iexists _; unfold owns; iexists _; isplitr; swap; · iexact HS2
        ipureintro; rfl
      isplitl [HS3]
      · iexists _; iexact HS3
      isplitl [HS4]
      · iexists _; unfold owns; iexists _; isplitr; swap; · iexact HS4
        ipureintro; rfl
      iexists _; unfold owns; iexists _; isplitr; swap; · iexact HS5
      ipureintro; rfl
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexists _; unfold owns; iexists _; isplitr; swap; · iexact H5
    ipureintro; rfl
  isplitl [H6]
  · iexists _; unfold owns; iexists _; isplitr; swap; · iexact H6
    ipureintro; rfl
  iexists _; unfold owns; iexists _; isplitr; swap; · iexact H7
  ipureintro; rfl

set_option maxHeartbeats 4000000 in
/-- The last point of a head. -/
theorem sound_D (c : Dev nD) (t : Fin cfg0.N) (h : t.val % 65 = 64) :
    bodyPre m c t ⊢ wp frame (wpE (defs₀ (F := F)) Variants.none c none) Set.univ (bodyAt0 t) (fun _ => bodyPost m c t) := by
  have hc0 : ¬cond0_0 (grid0.coords t) := (fun h' => by have := (hcond0_0 t).mp h'; omega)
  have hc1 : ¬cond0_1 (grid0.coords t) := (fun h' => by have := (hcond0_1 t).mp h'; omega)
  have hc2 : ¬cond0_2 (grid0.coords t) := (fun h' => by have := (hcond0_2 t).mp h'; omega)
  have hc3 : cond0_3 (grid0.coords t) := ((hcond0_3 t).mpr (by omega))
  unfold bodyPre bodyPost bodyAt0
  simp only [before0_0, before0_1, before0_2, before0_3, before0_4]
  rw [show (dats m 0 c).owesAt () t.succ = (dats m 0 c).owesAt () t.castSucc from rfl]
  rw [leaves0_0, leaves0_1, leaves0_2, leaves0_3, leaves0_4, PhiA0_eq]
  iintro ⟨⟨⟨⟨%s0, HS0⟩, ⟨%s1, HS1⟩, ⟨%s2, HS2⟩, ⟨%s3, HS3⟩, HS4, HS5⟩, Hg⟩, Ho, ⟨%d0, H0⟩, ⟨%d1, H1⟩, ⟨%d2, H2⟩, ⟨%d3, H3⟩, ⟨%d4, H4⟩, H5, H6, H7⟩
  iapply ((kernelRun0_D c (grid0.coords t) _ _ _ _ _ _ _ _ _ _ _ _ _ _ _ _ _ _ _ _ _ _ _ _ _ _ _ _ hc0 hc1 hc2 hc3 (iblk m c 0 t) (iblk m c 1 t) (iblk m c 2 t) (iblk m c 3 t) (iblk m c 4 t) s1 s3).2.2.2.2.2.2.2.2.2 s0 s2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%e5, H5⟩, ⟨%e6, H6⟩, ⟨%e7, H7⟩, HS0, HS1, HS2, HS3, HS4, HS5⟩
  isplitl [HS0 HS1 HS2 HS3 HS4 HS5 Hg]
  · isplitl [HS0 HS1 HS2 HS3 HS4 HS5]
    · isplitl [HS0]
      · iexists _; iexact HS0
      isplitl [HS1]
      · iexists _; iexact HS1
      isplitl [HS2]
      · iexists _; iexact HS2
      isplitl [HS3]
      · iexists _; iexact HS3
      isplitl [HS4]
      · iexact HS4
      iexact HS5
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexists _; unfold owns; iexists _; isplitr; swap; · iexact H5
    ipureintro; rfl
  isplitl [H6]
  · iexists _; unfold owns; iexists _; isplitr; swap; · iexact H6
    ipureintro; rfl
  iexists _; unfold owns; iexists _; isplitr; swap; · iexact H7
  ipureintro; rfl

theorem sound_body (c : Dev nD) (t : Fin cfg0.N) :
    bodyPre m c t ⊢ wp frame (wpE (defs₀ (F := F)) Variants.none c none) Set.univ (bodyAt0 t) (fun _ => bodyPost m c t) := by
  by_cases hA : t.val % 65 = 0
  · exact sound_A m c t hA
  by_cases hB : t.val % 65 % 2 = 1
  · exact sound_B m c t hB
  by_cases hD : t.val % 65 = 64
  · exact sound_D m c t hD
  exact sound_C m c t ⟨by omega, hA, hD⟩

/-- The body table's row at a point's slots is the body at that point. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ loose := fun t => by
  rw [bigSep_W0, bigSep_W0, defs₀_row]
  exact triple_restated (sound_body m c t) rfl .rfl fun _ => .rfl

set_option backward.isDefEq.respectTransparency.types false in
/-- Every execution ends, with the inputs' arrays as they were and every semaphore at zero. -/
theorem run_main_quiescent : θ_run defs (onTc (τ := τ) (main (F := F))) (s₀ m ρ) (fun r => (RDat.FramePost cfg0 (fun c => (dats m 0 c).toRForget loose) (V m)) r ∧ r.2.sem = fun _ => 0) :=
  Pipeline.θ_run_frame_forget (Q' := _) cfgs (dats m) (0 : Fin 1) launch0 defs₀ Variants.none loose m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    have e (w : Fin cfg0.W) (hw : loose w = false) := ((dats m 0 c).toRForget_arrAt_iff hw _ _).mp ((h.1 c).1 w)
    ⟨((h.1 c).2 main_arg0 (Pipeline.mem_restRefs_of main_arg0 (by decide) (by decide))).trans (V_main_arg0 m c),
      (e 1 rfl).trans (((dats m 0 c).arrAt_in 1 rfl _).trans ((A_eq m c 1).trans (V_main_arg1 m c))),
      (e 2 rfl).trans (((dats m 0 c).arrAt_in 2 rfl _).trans ((A_eq m c 2).trans (V_main_arg2 m c))),
      (e 3 rfl).trans (((dats m 0 c).arrAt_in 3 rfl _).trans ((A_eq m c 3).trans (V_main_arg3 m c))),
      (e 4 rfl).trans (((dats m 0 c).arrAt_in 4 rfl _).trans ((A_eq m c 4).trans (V_main_arg4 m c)))⟩, h.2⟩) (run_main_quiescent m ρ)

end Cert.Kernel.Attn
end
-- ==== Proof.Attn.Ideal.Runs.lean ====
/- What the four runs of the attention kernel's body are stated over: which branch of the body each grid point takes, in
   closed form over the points; the windows' staging buffers and the scratch buffers as the body is handed them. -/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 65) — by arithmetic of the point. -/
theorem hcond0_0 : ∀ t : Fin cfg0.N, cond0_0 (grid0.coords t) ↔ t.val % 65 = 0 :=
  (fun t => by
    have ht : t.val < 260 := Nat.lt_of_lt_of_eq t.isLt N_0
    have e0 : (grid0.coords t 0).val = t.val / 130 % 2 := Pipeline.Grid.coords_val t 0 (by decide) rfl
    have e1 : (grid0.coords t 1).val = t.val / 65 % 2 := Pipeline.Grid.coords_val t 1 (by decide) rfl
    have e2 : (grid0.coords t 2).val = t.val / 1 % 65 := Pipeline.Grid.coords_val t 2 (by decide) rfl
    simp only [cond0_0, k0_cond1, e0, e1, e2]
    word_cmp
   : ∀ t : Fin grid0.N, cond0_0 (grid0.coords t) ↔ t.val % 65 = 0)

/-- The condition of the body's `scf.if` 1 (`k0_h2`), from the grid coordinates (the skeleton's scalar
    chain substituted). -/
abbrev cond0_1 (i : grid0.Coords) : Prop := k0_cond2 i = 1#1
/-- It holds at the points ≡ 2, 4, 6, 8, 10, 12, 14, 16, 18, 20, 22, 24, 26, 28, 30, 32, 34, 36, 38, 40, 42, 44, 46, 48, 50, 52, 54, 56, 58, 60 or 62 (mod 65) — decided over the grid. -/
theorem hcond0_1 : ∀ t : Fin cfg0.N, cond0_1 (grid0.coords t) ↔ (t.val % 65 = 2 ∨ t.val % 65 = 4 ∨ t.val % 65 = 6 ∨ t.val % 65 = 8 ∨ t.val % 65 = 10 ∨ t.val % 65 = 12 ∨ t.val % 65 = 14 ∨ t.val % 65 = 16 ∨ t.val % 65 = 18 ∨ t.val % 65 = 20 ∨ t.val % 65 = 22 ∨ t.val % 65 = 24 ∨ t.val % 65 = 26 ∨ t.val % 65 = 28 ∨ t.val % 65 = 30 ∨ t.val % 65 = 32 ∨ t.val % 65 = 34 ∨ t.val % 65 = 36 ∨ t.val % 65 = 38 ∨ t.val % 65 = 40 ∨ t.val % 65 = 42 ∨ t.val % 65 = 44 ∨ t.val % 65 = 46 ∨ t.val % 65 = 48 ∨ t.val % 65 = 50 ∨ t.val % 65 = 52 ∨ t.val % 65 = 54 ∨ t.val % 65 = 56 ∨ t.val % 65 = 58 ∨ t.val % 65 = 60 ∨ t.val % 65 = 62) :=
  (by decide +kernel : ∀ t : Fin grid0.N, cond0_1 (grid0.coords t) ↔ (t.val % 65 = 2 ∨ t.val % 65 = 4 ∨ t.val % 65 = 6 ∨ t.val % 65 = 8 ∨ t.val % 65 = 10 ∨ t.val % 65 = 12 ∨ t.val % 65 = 14 ∨ t.val % 65 = 16 ∨ t.val % 65 = 18 ∨ t.val % 65 = 20 ∨ t.val % 65 = 22 ∨ t.val % 65 = 24 ∨ t.val % 65 = 26 ∨ t.val % 65 = 28 ∨ t.val % 65 = 30 ∨ t.val % 65 = 32 ∨ t.val % 65 = 34 ∨ t.val % 65 = 36 ∨ t.val % 65 = 38 ∨ t.val % 65 = 40 ∨ t.val % 65 = 42 ∨ t.val % 65 = 44 ∨ t.val % 65 = 46 ∨ t.val % 65 = 48 ∨ t.val % 65 = 50 ∨ t.val % 65 = 52 ∨ t.val % 65 = 54 ∨ t.val % 65 = 56 ∨ t.val % 65 = 58 ∨ t.val % 65 = 60 ∨ t.val % 65 = 62))

/-- The condition of the body's `scf.if` 2 (`k0_h3`), from the grid coordinates (the skeleton's scalar
    chain substituted). -/
abbrev cond0_2 (i : grid0.Coords) : Prop := k0_cond3 i = 1#1
/-- It holds at the points ≡ 1, 3, 5, 7, 9, 11, 13, 15, 17, 19, 21, 23, 25, 27, 29, 31, 33, 35, 37, 39, 41, 43, 45, 47, 49, 51, 53, 55, 57, 59, 61 or 63 (mod 65) — decided over the grid. -/
theorem hcond0_2 : ∀ t : Fin cfg0.N, cond0_2 (grid0.coords t) ↔ (t.val % 65 = 1 ∨ t.val % 65 = 3 ∨ t.val % 65 = 5 ∨ t.val % 65 = 7 ∨ t.val % 65 = 9 ∨ t.val % 65 = 11 ∨ t.val % 65 = 13 ∨ t.val % 65 = 15 ∨ t.val % 65 = 17 ∨ t.val % 65 = 19 ∨ t.val % 65 = 21 ∨ t.val % 65 = 23 ∨ t.val % 65 = 25 ∨ t.val % 65 = 27 ∨ t.val % 65 = 29 ∨ t.val % 65 = 31 ∨ t.val % 65 = 33 ∨ t.val % 65 = 35 ∨ t.val % 65 = 37 ∨ t.val % 65 = 39 ∨ t.val % 65 = 41 ∨ t.val % 65 = 43 ∨ t.val % 65 = 45 ∨ t.val % 65 = 47 ∨ t.val % 65 = 49 ∨ t.val % 65 = 51 ∨ t.val % 65 = 53 ∨ t.val % 65 = 55 ∨ t.val % 65 = 57 ∨ t.val % 65 = 59 ∨ t.val % 65 = 61 ∨ t.val % 65 = 63) :=
  (by decide +kernel : ∀ t : Fin grid0.N, cond0_2 (grid0.coords t) ↔ (t.val % 65 = 1 ∨ t.val % 65 = 3 ∨ t.val % 65 = 5 ∨ t.val % 65 = 7 ∨ t.val % 65 = 9 ∨ t.val % 65 = 11 ∨ t.val % 65 = 13 ∨ t.val % 65 = 15 ∨ t.val % 65 = 17 ∨ t.val % 65 = 19 ∨ t.val % 65 = 21 ∨ t.val % 65 = 23 ∨ t.val % 65 = 25 ∨ t.val % 65 = 27 ∨ t.val % 65 = 29 ∨ t.val % 65 = 31 ∨ t.val % 65 = 33 ∨ t.val % 65 = 35 ∨ t.val % 65 = 37 ∨ t.val % 65 = 39 ∨ t.val % 65 = 41 ∨ t.val % 65 = 43 ∨ t.val % 65 = 45 ∨ t.val % 65 = 47 ∨ t.val % 65 = 49 ∨ t.val % 65 = 51 ∨ t.val % 65 = 53 ∨ t.val % 65 = 55 ∨ t.val % 65 = 57 ∨ t.val % 65 = 59 ∨ t.val % 65 = 61 ∨ t.val % 65 = 63))

/-- The condition of the body's `scf.if` 3 (`k0_h4`), from the grid coordinates (the skeleton's scalar
    chain substituted). -/
abbrev cond0_3 (i : grid0.Coords) : Prop := k0_cond4 i = 1#1
/-- It holds at the points ≡ 64 (mod 65) — by arithmetic of the point. -/
theorem hcond0_3 : ∀ t : Fin cfg0.N, cond0_3 (grid0.coords t) ↔ t.val % 65 = 64 :=
  (fun t => by
    have ht : t.val < 260 := Nat.lt_of_lt_of_eq t.isLt N_0
    have e0 : (grid0.coords t 0).val = t.val / 130 % 2 := Pipeline.Grid.coords_val t 0 (by decide) rfl
    have e1 : (grid0.coords t 1).val = t.val / 65 % 2 := Pipeline.Grid.coords_val t 1 (by decide) rfl
    have e2 : (grid0.coords t 2).val = t.val / 1 % 65 := Pipeline.Grid.coords_val t 2 (by decide) rfl
    simp only [cond0_3, k0_cond4, e0, e1, e2]
    word_cmp
   : ∀ t : Fin grid0.N, cond0_3 (grid0.coords t) ↔ t.val % 65 = 64)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ ¬cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ ¬cond0_1 i ∧ cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ cond0_1 i ∧ ¬cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ ¬cond0_1 i ∧ ¬cond0_2 i ∧ cond0_3 i
instance conds0_D.dec (i : grid0.Coords) : Decidable (conds0_D i) :=
  @instDecidableAnd _ _ inferInstance (@instDecidableAnd _ _ inferInstance (@instDecidableAnd _ _ inferInstance inferInstance))
/-- At the points of case A the printed configuration (`Cfg.idle`) calls output 5 idle: the case stores nothing into it. -/
theorem idleAt0_5_A : ∀ t : Fin cfg0.N, cond0_0 (grid0.coords t) → ¬cond0_1 (grid0.coords t) → ¬cond0_2 (grid0.coords t) → ¬cond0_3 (grid0.coords t) → cfg0.idle 5 (grid0.coords t) = true :=
  fun t h0 h1 h2 h3 => (by decide +kernel : ∀ t : Fin cfg0.N, conds0_A (grid0.coords t) → cfg0.idle 5 (grid0.coords t) = true) t ⟨h0, h1, h2, h3⟩
/-- At the points of case A the pipeline does not write output 5's block back. -/
theorem noFlush0_5_A : ∀ t : Fin cfg0.N, cond0_0 (grid0.coords t) → ¬cond0_1 (grid0.coords t) → ¬cond0_2 (grid0.coords t) → ¬cond0_3 (grid0.coords t) → (cfg0.win 5).flush t = false :=
  fun t h0 h1 h2 h3 => (by decide +kernel : ∀ t : Fin cfg0.N, conds0_A (grid0.coords t) → (cfg0.win 5).flush t = false) t ⟨h0, h1, h2, h3⟩
/-- At the points of case B the printed configuration (`Cfg.idle`) calls output 5 live: the case stores into it. -/
theorem liveAt0_5_B : ∀ t : Fin cfg0.N, ¬cond0_0 (grid0.coords t) → ¬cond0_1 (grid0.coords t) → cond0_2 (grid0.coords t) → ¬cond0_3 (grid0.coords t) → cfg0.idle 5 (grid0.coords t) = false :=
  fun t h0 h1 h2 h3 => (by decide +kernel : ∀ t : Fin cfg0.N, conds0_B (grid0.coords t) → cfg0.idle 5 (grid0.coords t) = false) t ⟨h0, h1, h2, h3⟩
/-- At the points of case C the printed configuration (`Cfg.idle`) calls output 5 live: the case stores into it. -/
theorem liveAt0_5_C : ∀ t : Fin cfg0.N, ¬cond0_0 (grid0.coords t) → cond0_1 (grid0.coords t) → ¬cond0_2 (grid0.coords t) → ¬cond0_3 (grid0.coords t) → cfg0.idle 5 (grid0.coords t) = false :=
  fun t h0 h1 h2 h3 => (by decide +kernel : ∀ t : Fin cfg0.N, conds0_C (grid0.coords t) → cfg0.idle 5 (grid0.coords t) = false) t ⟨h0, h1, h2, h3⟩
/-- At the points of case D the printed configuration (`Cfg.idle`) calls output 5 live: the case stores into it. -/
theorem liveAt0_5_D : ∀ t : Fin cfg0.N, ¬cond0_0 (grid0.coords t) → ¬cond0_1 (grid0.coords t) → ¬cond0_2 (grid0.coords t) → cond0_3 (grid0.coords t) → cfg0.idle 5 (grid0.coords t) = false :=
  fun t h0 h1 h2 h3 => (by decide +kernel : ∀ t : Fin cfg0.N, conds0_D (grid0.coords t) → cfg0.idle 5 (grid0.coords t) = false) t ⟨h0, h1, h2, h3⟩

/-! ## The kernel body on any staging memrefs: a subtype the run finds -/

/-- One staging buffer of output window 5, through which its contents are stated (`View.read_writes_of_cover`: the
    choice does not matter). -/
abbrev VO0_5 : View sig .tc .vmem S128x512 .bf16 := (Memref.whole cc0_stg5_0 : Memref sig .tc .vmem S128x512 .bf16).view
/-- One staging buffer of output window 6, through which its contents are stated (`View.read_writes_of_cover`: the
    choice does not matter). -/
abbrev VO0_6 : View sig .tc .vmem S16x11264 .bf16 := (Memref.whole cc0_stg6_0 : Memref sig .tc .vmem S16x11264 .bf16).view
/-- One staging buffer of output window 7, through which its contents are stated (`View.read_writes_of_cover`: the
    choice does not matter). -/
abbrev VO0_7 : View sig .tc .vmem S32x2048 .bf16 := (Memref.whole cc0_stg7_0 : Memref sig .tc .vmem S32x2048 .bf16).view
/-- Each window's current staging memref at point `t`, spelled as the pipeline passes it (`bodyAt0`), and its wholeness. -/
abbrev ms0_0 (t : Fin cfg0.N) : Memref sig .tc .vmem S128x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8448x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8448x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x11264 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S16x11264 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x2048 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S6x512x1408 .f32 := Memref.whole cc0_scratch0
abbrev scM0_1 : Memref sig .tc .vmem S6x512x1408 .f32 := Memref.whole cc0_scratch1
abbrev scM0_2 : Memref sig .tc .vmem S512x128 .f32 := Memref.whole cc0_scratch2
abbrev scM0_3 : Memref sig .tc .vmem S512x128 .f32 := Memref.whole cc0_scratch3
abbrev scM0_4 : Memref sig .tc .vmem S512x128 .f32 := Memref.whole cc0_scratch4
abbrev scM0_5 : Memref sig .tc .vmem S512x128 .f32 := Memref.whole cc0_scratch5
/-- The scratch `arg11` the kernel carries between points, as a view: what it holds is stated through it. -/
abbrev VS0_0 : View sig .tc .vmem S6x512x1408 .f32 := scM0_0.view
/-- The scratch `arg12` the kernel carries between points, as a view: what it holds is stated through it. -/
abbrev VS0_1 : View sig .tc .vmem S6x512x1408 .f32 := scM0_1.view
/-- The scratch `arg13` the kernel carries between points, as a view: what it holds is stated through it. -/
abbrev VS0_2 : View sig .tc .vmem S512x128 .f32 := scM0_2.view
/-- The scratch `arg14` the kernel carries between points, as a view: what it holds is stated through it. -/
abbrev VS0_3 : View sig .tc .vmem S512x128 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Attn

end
-- ==== Proof.Attn.Ideal.Steps.lean ====
/- One key block's share of the attention kernel's body, as functions of whole blocks: the scores of 512 stacked query
   rows against 1408 keys, the lane-wise maximum, the lane-wise sum of exponentials and the product with the values;
   each with its entry at an index. -/
module

public import proofs.«01_k».proof.Proof.Attn.Ideal.Runs
public import Idealize.ShloMosaic.Lib.Pipeline.ValueKit

@[expose] public section

set_option maxRecDepth 16384

noncomputable section

namespace Cert.KernelIdeal.Attn

open Cert.KernelIdeal.Gen Idealize.ShloMosaic Idealize.ShloMosaic.Pipeline Idealize.SL.Sem

/-- The four heads' 128 query rows, one head below the other. -/
def stackQ (a b c d : Vec Ideal S128x128 .bf16) : FVec Ideal S512x128 .bf16 :=
  concatenate S512x128 0 [⟨S128x128, shapeCast S128x128 a shapeCasts_S128x128_S128x128⟩,
    ⟨S128x128, shapeCast S128x128 b shapeCasts_S128x128_S128x128⟩,
    ⟨S128x128, shapeCast S128x128 c shapeCasts_S128x128_S128x128⟩,
    ⟨S128x128, shapeCast S128x128 d shapeCasts_S128x128_S128x128⟩] concatenates_S128x128_S128x128_S128x128_S128x128_S512x128_d0

/-- Entry `d` of the stacked query row `r`: the four heads of the group, 128 queries each. -/
def qRow (x0 : Vec Ideal S128x512 .bf16) (r : Fin 512) (d : Fin 128) : EReal :=
  x0 (ix2 (⟨r % 128, by omega⟩ : Fin 128) (⟨r / 128 * 128 + d, by omega⟩ : Fin 512))

/-- The scores of the stacked query rows against one block of keys. -/
def scoreStep (q : FVec Ideal S512x128 .bf16) (k : Vec Ideal S1x1408x128 .bf16) : FVec Ideal S512x1408 .f32 :=
  matmul (φ₂ := .bf16) dot_S512x128_S1408x128_S512x1408_1_1_0_0_n_n none q
    (shapeCast S1408x128 k shapeCasts_S1x1408x128_S1408x128) (constant S512x1408 .f32 0x00000000#32)

/-- The running lane-wise maximum after one block of scores. -/
def maxStep (s : FVec Ideal S512x1408 .f32) (m : Vec Ideal S512x128 .f32) : FVec Ideal S512x128 .f32 :=
  shapeCast S512x128 (maximumf (maximumf (maximumf (maximumf (maximumf (maximumf (maximumf (maximumf (maximumf (maximumf (maximumf m (extractStridedSlice S512x128 ![0, 0] s slices_S512x1408_o0_0_S512x128)) (extractStridedSlice S512x128 ![0, 128] s slices_S512x1408_o0_128_S512x128)) (extractStridedSlice S512x128 ![0, 256] s slices_S512x1408_o0_256_S512x128)) (extractStridedSlice S512x128 ![0, 384] s slices_S512x1408_o0_384_S512x128)) (extractStridedSlice S512x128 ![0, 512] s slices_S512x1408_o0_512_S512x128)) (extractStridedSlice S512x128 ![0, 640] s slices_S512x1408_o0_640_S512x128)) (extractStridedSlice S512x128 ![0, 768] s slices_S512x1408_o0_768_S512x128)) (extractStridedSlice S512x128 ![0, 896] s slices_S512x1408_o0_896_S512x128)) (extractStridedSlice S512x128 ![0, 1024] s slices_S512x1408_o0_1024_S512x128)) (extractStridedSlice S512x128 ![0, 1152] s slices_S512x1408_o0_1152_S512x128)) (extractStridedSlice S512x128 ![0, 1280] s slices_S512x1408_o0_1280_S512x128)) shapeCasts_S512x128_S512x128

/-- The running lane-wise maximum before any score. -/
def maxInit : FVec Ideal S512x128 .f32 :=
  shapeCast S512x128 (broadcast S512x128 (Scalar.ofBits (F := Ideal) .f32 0xFF800000#32)) shapeCasts_S512x128_S512x128

/-- A sum before any term. -/
def zeroInit : FVec Ideal S512x128 .f32 :=
  shapeCast S512x128 (broadcast S512x128 (Scalar.ofBits (F := Ideal) .f32 0x00000000#32)) shapeCasts_S512x128_S512x128

/-- The row's maximum, in every lane. -/
def maxSpread (m : Vec Ideal S512x128 .f32) : FVec Ideal S512x128 .f32 :=
  shapeCast S512x128 (broadcastTo S512x128 (shapeCast S512x1 (shapeCast S512x1
    (multiReduction (F := Ideal) .maximumf [1] S512 m 0xFF800000#32 reduces_S512x128_S512 (.inl rfl) rfl)
    shapeCasts_S512_S512x1) shapeCasts_S512x1_S512x1) broadcasts_S512x1_S512x128) shapeCasts_S512x128_S512x128

/-- The running lane-wise sum of exponentials after one block of scores. -/
def sumStep (s : Vec Ideal S1x512x1408 .f32) (m ls : Vec Ideal S512x128 .f32) : FVec Ideal S512x128 .f32 :=
  let t : FVec Ideal S512x1408 .f32 := shapeCast S512x1408 s shapeCasts_S1x512x1408_S512x1408
  let e0 : FVec Ideal S512x128 .f32 := exp2 (subf (extractStridedSlice S512x128 ![0, 0] t slices_S512x1408_o0_0_S512x128) m)
  let e1 : FVec Ideal S512x128 .f32 := exp2 (subf (extractStridedSlice S512x128 ![0, 128] t slices_S512x1408_o0_128_S512x128) m)
  let e2 : FVec Ideal S512x128 .f32 := exp2 (subf (extractStridedSlice S512x128 ![0, 256] t slices_S512x1408_o0_256_S512x128) m)
  let e3 : FVec Ideal S512x128 .f32 := exp2 (subf (extractStridedSlice S512x128 ![0, 384] t slices_S512x1408_o0_384_S512x128) m)
  let e4 : FVec Ideal S512x128 .f32 := exp2 (subf (extractStridedSlice S512x128 ![0, 512] t slices_S512x1408_o0_512_S512x128) m)
  let e5 : FVec Ideal S512x128 .f32 := exp2 (subf (extractStridedSlice S512x128 ![0, 640] t slices_S512x1408_o0_640_S512x128) m)
  let e6 : FVec Ideal S512x128 .f32 := exp2 (subf (extractStridedSlice S512x128 ![0, 768] t slices_S512x1408_o0_768_S512x128) m)
  let e7 : FVec Ideal S512x128 .f32 := exp2 (subf (extractStridedSlice S512x128 ![0, 896] t slices_S512x1408_o0_896_S512x128) m)
  let e8 : FVec Ideal S512x128 .f32 := exp2 (subf (extractStridedSlice S512x128 ![0, 1024] t slices_S512x1408_o0_1024_S512x128) m)
  let e9 : FVec Ideal S512x128 .f32 := exp2 (subf (extractStridedSlice S512x128 ![0, 1152] t slices_S512x1408_o0_1152_S512x128) m)
  let e10 : FVec Ideal S512x128 .f32 := exp2 (subf (extractStridedSlice S512x128 ![0, 1280] t slices_S512x1408_o0_1280_S512x128) m)
  shapeCast S512x128 (addf (addf (addf (addf (addf (addf (addf (addf (addf (addf (addf ls e0) e1) e2) e3) e4) e5) e6) e7) e8) e9) e10) shapeCasts_S512x128_S512x128

/-- One block's exponentials. -/
def expBlock (s : Vec Ideal S1x512x1408 .f32) (m : Vec Ideal S512x128 .f32) : FVec Ideal S512x1408 .bf16 :=
  let t : FVec Ideal S512x1408 .f32 := shapeCast S512x1408 s shapeCasts_S1x512x1408_S512x1408
  let e0 : FVec Ideal S512x128 .f32 := exp2 (subf (extractStridedSlice S512x128 ![0, 0] t slices_S512x1408_o0_0_S512x128) m)
  let e1 : FVec Ideal S512x128 .f32 := exp2 (subf (extractStridedSlice S512x128 ![0, 128] t slices_S512x1408_o0_128_S512x128) m)
  let e2 : FVec Ideal S512x128 .f32 := exp2 (subf (extractStridedSlice S512x128 ![0, 256] t slices_S512x1408_o0_256_S512x128) m)
  let e3 : FVec Ideal S512x128 .f32 := exp2 (subf (extractStridedSlice S512x128 ![0, 384] t slices_S512x1408_o0_384_S512x128) m)
  let e4 : FVec Ideal S512x128 .f32 := exp2 (subf (extractStridedSlice S512x128 ![0, 512] t slices_S512x1408_o0_512_S512x128) m)
  let e5 : FVec Ideal S512x128 .f32 := exp2 (subf (extractStridedSlice S512x128 ![0, 640] t slices_S512x1408_o0_640_S512x128) m)
  let e6 : FVec Ideal S512x128 .f32 := exp2 (subf (extractStridedSlice S512x128 ![0, 768] t slices_S512x1408_o0_768_S512x128) m)
  let e7 : FVec Ideal S512x128 .f32 := exp2 (subf (extractStridedSlice S512x128 ![0, 896] t slices_S512x1408_o0_896_S512x128) m)
  let e8 : FVec Ideal S512x128 .f32 := exp2 (subf (extractStridedSlice S512x128 ![0, 1024] t slices_S512x1408_o0_1024_S512x128) m)
  let e9 : FVec Ideal S512x128 .f32 := exp2 (subf (extractStridedSlice S512x128 ![0, 1152] t slices_S512x1408_o0_1152_S512x128) m)
  let e10 : FVec Ideal S512x128 .f32 := exp2 (subf (extractStridedSlice S512x128 ![0, 1280] t slices_S512x1408_o0_1280_S512x128) m)
  concatenate S512x1408 1 [⟨S512x128, truncf .bf16 e0 bitsLt_bf16_f32⟩, ⟨S512x128, truncf .bf16 e1 bitsLt_bf16_f32⟩, ⟨S512x128, truncf .bf16 e2 bitsLt_bf16_f32⟩, ⟨S512x128, truncf .bf16 e3 bitsLt_bf16_f32⟩, ⟨S512x128, truncf .bf16 e4 bitsLt_bf16_f32⟩, ⟨S512x128, truncf .bf16 e5 bitsLt_bf16_f32⟩, ⟨S512x128, truncf .bf16 e6 bitsLt_bf16_f32⟩, ⟨S512x128, truncf .bf16 e7 bitsLt_bf16_f32⟩, ⟨S512x128, truncf .bf16 e8 bitsLt_bf16_f32⟩, ⟨S512x128, truncf .bf16 e9 bitsLt_bf16_f32⟩, ⟨S512x128, truncf .bf16 e10 bitsLt_bf16_f32⟩] concatenates_S512x128_S512x128_S512x128_S512x128_S512x128_S512x128_S512x128_S512x128_S512x128_S512x128_S512x128_S512x1408_d1

/-- The running product with the values after one block. -/
def accStep (s : Vec Ideal S1x512x1408 .f32) (m : Vec Ideal S512x128 .f32) (v : Vec Ideal S1x1408x128 .bf16)
    (acc : Vec Ideal S512x128 .f32) : FVec Ideal S512x128 .f32 :=
  shapeCast S512x128 (addf acc (matmul (φ₂ := .bf16) dot_S512x1408_S1408x128_S512x128_1_0_0_1_n_n none (expBlock s m)
    (shapeCast S1408x128 v shapeCasts_S1x1408x128_S1408x128) (constant S512x128 .f32 0x00000000#32)))
    shapeCasts_S512x128_S512x128

/-- The product divided by the row's sum. -/
def quotient (acc ls : Vec Ideal S512x128 .f32) : FVec Ideal S512x128 .f32 :=
  divf acc (broadcastTo S512x128 (shapeCast S512x1
    (multiReduction (F := Ideal) .add [1] S512 ls 0x00000000#32 reduces_S512x128_S512 (.inl rfl) rfl)
    shapeCasts_S512_S512x1) broadcasts_S512x1_S512x128)

/-- Lane `l` of group `c` of a block of 1408 keys. -/
abbrev lane (c : Fin 11) (l : Fin 128) : Fin 1408 := ⟨c * 128 + l, by omega⟩

/-- Both branches of a case distinction have the value `x`. -/
theorem dite_all {α : Type} {p : Prop} [Decidable p] {a : p → α} {b : ¬ p → α} {x : α}
    (ha : ∀ h, a h = x) (hb : ∀ h, b h = x) : (if h : p then a h else b h) = x := by
  by_cases h : p
  · rw [dif_pos h]; exact ha h
  · rw [dif_neg h]; exact hb h

theorem scoreStep_apply (q : FVec Ideal S512x128 .bf16) (k : Vec Ideal S1x1408x128 .bf16) (r : Fin 512) (c : Fin 1408) :
    scoreStep q k (ix2 r c) = ∑ d : Fin 128, q (ix2 r d) * k (ix3 0 c d) := by
  pointwise [scoreStep]

/-- A finite supremum, its last term split off. -/
theorem sup_castSucc {n : Nat} (f : Fin (n + 1) → EReal) :
    Finset.univ.sup f = (Finset.univ.sup fun i : Fin n => f i.castSucc) ⊔ f (Fin.last n) := by
  rw [Fin.univ_castSuccEmb, Finset.sup_cons, Finset.sup_map, sup_comm]
  rfl

theorem maxStep_apply (s : FVec Ideal S512x1408 .f32) (m : Vec Ideal S512x128 .f32) (r : Fin 512) (l : Fin 128) :
    maxStep s m (ix2 r l) = m (ix2 r l) ⊔ Finset.univ.sup fun c : Fin 11 => s (ix2 r (lane c l)) := by
  pointwise [maxStep]
  simp only [sup_castSucc, Finset.univ_eq_empty, Finset.sup_empty, bot_sup_eq, ← sup_assoc,
    lane, Fin.val_castSucc, Fin.val_last, Nat.zero_mul, Nat.zero_add, Nat.reduceMul]

/-- The word a maximum starts from is read as `−∞`. -/
theorem negInf : Ideal.ofBits .f32 0xFF800000#32 = ⊥ := by simp [Ideal.ofBits, Ideal.ieee]

theorem maxInit_apply (r : Fin 512) (l : Fin 128) : maxInit (ix2 r l) = ⊥ := by
  pointwise [maxInit]
  exact negInf

theorem zeroInit_apply (r : Fin 512) (l : Fin 128) : zeroInit (ix2 r l) = 0 := by
  pointwise [zeroInit]

theorem maxSpread_apply (m : Vec Ideal S512x128 .f32) (r : Fin 512) (l : Fin 128) :
    maxSpread m (ix2 r l) = Finset.univ.sup fun e : Fin 128 => m (ix2 r e) := by
  pointwise [maxSpread]
  rw [negInf]
  rfl

theorem sumStep_apply (s : Vec Ideal S1x512x1408 .f32) (m ls : Vec Ideal S512x128 .f32) (r : Fin 512) (l : Fin 128) :
    sumStep s m ls (ix2 r l) = ls (ix2 r l) + ∑ c : Fin 11, Ideal.exp2 (s (ix3 0 r (lane c l)) - m (ix2 r l)) := by
  pointwise [sumStep]
  simp only [Fin.sum_univ_castSucc, Fin.sum_univ_zero, zero_add, ← add_assoc,
    lane, Fin.val_castSucc, Fin.val_last, Nat.zero_mul, Nat.zero_add, Nat.reduceMul]
  rfl

set_option maxHeartbeats 2000000 in
theorem expBlock_apply (s : Vec Ideal S1x512x1408 .f32) (m : Vec Ideal S512x128 .f32) (r : Fin 512) (k : Fin 1408) :
    expBlock s m (ix2 r k) = Ideal.exp2 (s (ix3 0 r k) - m (ix2 r ⟨k % 128, by omega⟩)) := by
  pointwise [expBlock]
  have key : ∀ (a : Nat) (ha : a < 1408) (b : Nat) (hb : b < 128), a = k.val → b = k.val % 128 →
      FloatOps.exp2 (F := Ideal) (φ := .f32) (s (ix3 0 r ⟨a, ha⟩) - m (ix2 r ⟨b, hb⟩))
        = Ideal.exp2 (s (ix3 0 r k) - m (ix2 r ⟨k % 128, by omega⟩)) := by
    rintro a ha b hb rfl rfl
    rfl
  repeat' refine dite_all (fun _ => ?_) (fun _ => ?_)
  all_goals (refine key _ _ _ _ ?_ ?_ <;> omega)

theorem accStep_apply (s : Vec Ideal S1x512x1408 .f32) (m : Vec Ideal S512x128 .f32) (v : Vec Ideal S1x1408x128 .bf16)
    (acc : Vec Ideal S512x128 .f32) (r : Fin 512) (d : Fin 128) :
    accStep s m v acc (ix2 r d) = acc (ix2 r d) +
      ∑ k : Fin 1408, Ideal.exp2 (s (ix3 0 r k) - m (ix2 r ⟨k % 128, by omega⟩)) * v (ix3 0 k d) := by
  pointwise [accStep, expBlock_apply]

theorem quotient_apply (acc ls : Vec Ideal S512x128 .f32) (r : Fin 512) (d : Fin 128) :
    quotient acc ls (ix2 r d) = Ideal.div (acc (ix2 r d)) (∑ l : Fin 128, ls (ix2 r l)) := by
  pointwise [quotient]

theorem stackQ_apply (x0 : Vec Ideal S128x512 .bf16) (r : Fin 512) (d : Fin 128) :
    stackQ (View.ld x0 (Rect.unit ![0, 0] ![128, 128] inb_S128x512_S128x128_0_0))
      (View.ld x0 (Rect.unit ![0, 128] ![128, 128] inb_S128x512_S128x128_0_128))
      (View.ld x0 (Rect.unit ![0, 256] ![128, 128] inb_S128x512_S128x128_0_256))
      (View.ld x0 (Rect.unit ![0, 384] ![128, 128] inb_S128x512_S128x128_0_384)) (ix2 r d) = qRow x0 r d := by
  pointwise [stackQ]
  have key : ∀ (a : Nat) (ha : a < 128) (b : Nat) (hb : b < 512), a = r.val % 128 → b = r.val / 128 * 128 + d.val →
      x0 (ix2 ⟨a, ha⟩ ⟨b, hb⟩) = qRow x0 r d := by
    rintro a ha b hb rfl rfl
    rfl
  repeat' refine dite_all (fun _ => ?_) (fun _ => ?_)
  all_goals (refine key _ _ _ _ ?_ ?_ <;> omega)

end Cert.KernelIdeal.Attn
end
-- ==== Proof.Attn.Ideal.Whole.lean ====
/- All six key blocks one after another: the maximum of a row's 8448 scores, the sum of its exponentials and its product
   with the values, as sums over the keys. -/
module

public import proofs.«01_k».proof.Proof.Attn.Ideal.Steps

@[expose] public section

set_option maxRecDepth 16384

noncomputable section

namespace Cert.KernelIdeal.Attn

open Cert.KernelIdeal.Gen Idealize.ShloMosaic Idealize.ShloMosaic.Pipeline Idealize.SL.Sem

/-- Key `k` of block `j`. -/
abbrev keyOf (j : Fin 6) (k : Fin 1408) : Fin 8448 := ⟨j * 1408 + k, by omega⟩

/-- Block `j` of the keys, or of the values. -/
def vBlk (v : Vec Ideal S1x8448x128 .bf16) (j : Fin 6) : Vec Ideal S1x1408x128 .bf16 := fun y => v (ix3 0 (keyOf j (y 1)) (y 2))

/-- Block `j` of the scores. -/
def sBlk (S : Vec Ideal S6x512x1408 .f32) (j : Fin 6) : Vec Ideal S1x512x1408 .f32 := fun y => S (ix3 j (y 1) (y 2))

/-- The rows a read at block `j` gives. -/
theorem ldV (v : Vec Ideal S1x8448x128 .bf16) (o : Nat) (j : Fin 6) (ho : o = j * 1408) (h) :
    View.ld v (Rect.unit ![0, o, 0] ![1, 1408, 128] h) = vBlk v j := by
  subst ho
  funext y
  obtain ⟨a, b, c, rfl⟩ : ∃ (a : Fin 1) (b : Fin 1408) (c : Fin 128), y = ix3 a b c := ⟨y 0, y 1, y 2, eq_ix3 y⟩
  obtain rfl : a = 0 := Subsingleton.elim _ _
  pointwise [vBlk, keyOf]

/-- The rows a read of the scores at block `j` gives. -/
theorem ldS (S : Vec Ideal S6x512x1408 .f32) (o : Nat) (j : Fin 6) (ho : o = j) (h) :
    View.ld S (Rect.unit ![o, 0, 0] ![1, 512, 1408] h) = sBlk S j := by
  subst ho
  funext y
  obtain ⟨a, b, c, rfl⟩ : ∃ (a : Fin 1) (b : Fin 512) (c : Fin 1408), y = ix3 a b c := ⟨y 0, y 1, y 2, eq_ix3 y⟩
  obtain rfl : a = 0 := Subsingleton.elim _ _
  pointwise [sBlk]

/-- The product with the values after all six blocks. -/
def accAll (S : Vec Ideal S6x512x1408 .f32) (M : Vec Ideal S512x128 .f32) (v : Vec Ideal S1x8448x128 .bf16) : FVec Ideal S512x128 .f32 :=
  accStep (sBlk S 5) M (vBlk v 5)
    (accStep (sBlk S 4) M (vBlk v 4)
    (accStep (sBlk S 3) M (vBlk v 3)
    (accStep (sBlk S 2) M (vBlk v 2)
    (accStep (sBlk S 1) M (vBlk v 1)
    (accStep (sBlk S 0) M (vBlk v 0)
    (zeroInit))))))

/-- The lane-wise sum of exponentials after all six blocks. -/
def sumAll (S : Vec Ideal S6x512x1408 .f32) (M : Vec Ideal S512x128 .f32) : FVec Ideal S512x128 .f32 :=
  sumStep (sBlk S 5) M
    (sumStep (sBlk S 4) M
    (sumStep (sBlk S 3) M
    (sumStep (sBlk S 2) M
    (sumStep (sBlk S 1) M
    (sumStep (sBlk S 0) M
    (zeroInit))))))

/-- The lane-wise maximum after all six blocks. -/
def maxAll (q : FVec Ideal S512x128 .bf16) (x1 : Vec Ideal S1x8448x128 .bf16) : FVec Ideal S512x128 .f32 :=
  maxStep (scoreStep q (vBlk x1 5))
    (maxStep (scoreStep q (vBlk x1 4))
    (maxStep (scoreStep q (vBlk x1 3))
    (maxStep (scoreStep q (vBlk x1 2))
    (maxStep (scoreStep q (vBlk x1 1))
    (maxStep (scoreStep q (vBlk x1 0))
    (maxInit))))))

/-- The stacked queries of one block of queries. -/
def stackAll (x0 : Vec Ideal S128x512 .bf16) : FVec Ideal S512x128 .bf16 :=
  stackQ (View.ld x0 (Rect.unit ![0, 0] ![128, 128] inb_S128x512_S128x128_0_0))
      (View.ld x0 (Rect.unit ![0, 128] ![128, 128] inb_S128x512_S128x128_0_128))
      (View.ld x0 (Rect.unit ![0, 256] ![128, 128] inb_S128x512_S128x128_0_256))
      (View.ld x0 (Rect.unit ![0, 384] ![128, 128] inb_S128x512_S128x128_0_384))

/-- The score of query row `r` against key `s`. -/
def score (x0 : Vec Ideal S128x512 .bf16) (x1 : Vec Ideal S1x8448x128 .bf16) (r : Fin 512) (s : Fin 8448) : EReal :=
  ∑ d, qRow x0 r d * x1 (ix3 0 s d)

/-- All scores of one block of queries. -/
def scArr (x0 : Vec Ideal S128x512 .bf16) (x1 : Vec Ideal S1x8448x128 .bf16) : Vec Ideal S6x512x1408 .f32 :=
  fun y => score x0 x1 (y 1) (keyOf (y 0) (y 2))

/-- The maximum of a row's scores, in every lane. -/
def mxArr (x0 : Vec Ideal S128x512 .bf16) (x1 : Vec Ideal S1x8448x128 .bf16) : Vec Ideal S512x128 .f32 :=
  fun y => Finset.univ.sup fun e : Fin 128 => Finset.univ.sup fun j : Fin 6 => Finset.univ.sup fun c : Fin 11 =>
    score x0 x1 (y 0) (keyOf j (lane c e))

/-- The exponential of a score less its lane's maximum. -/
def pVal (S : Vec Ideal S6x512x1408 .f32) (M : Vec Ideal S512x128 .f32) (r : Fin 512) (j : Fin 6) (k : Fin 1408) : EReal :=
  Ideal.exp2 (S (ix3 j r k) - M (ix2 r ⟨k % 128, by omega⟩))

/-- One row's output: the product with the values over the sum of the exponentials. -/
def rowOut (v : Vec Ideal S1x8448x128 .bf16) (S : Vec Ideal S6x512x1408 .f32) (M : Vec Ideal S512x128 .f32)
    (r : Fin 512) (d : Fin 128) : EReal :=
  Ideal.div (∑ j : Fin 6, ∑ k : Fin 1408, pVal S M r j k * v (ix3 0 (keyOf j k) d))
    (∑ l : Fin 128, ∑ j : Fin 6, ∑ c : Fin 11, Ideal.exp2 (S (ix3 j r (lane c l)) - M (ix2 r l)))

/-- The output block of one block of queries. -/
def outArr (v : Vec Ideal S1x8448x128 .bf16) (S : Vec Ideal S6x512x1408 .f32) (M : Vec Ideal S512x128 .f32) : Vec Ideal S128x512 .bf16 :=
  fun y => rowOut v S M (⟨(y 1).val / 128 * 128 + (y 0).val, by have h0 : (y 0).val < 128 := (y 0).isLt; have h1 : (y 1).val < 512 := (y 1).isLt; omega⟩)
    ⟨(y 1).val % 128, Nat.mod_lt _ (by decide)⟩

theorem accAll_apply (S : Vec Ideal S6x512x1408 .f32) (M : Vec Ideal S512x128 .f32) (v : Vec Ideal S1x8448x128 .bf16)
    (r : Fin 512) (d : Fin 128) :
    accAll S M v (ix2 r d) = ∑ j : Fin 6, ∑ k : Fin 1408, pVal S M r j k * v (ix3 0 (keyOf j k) d) := by
  simp only [accAll, accStep_apply, zeroInit_apply]
  simp only [Fin.sum_univ_six, zero_add]
  rfl

theorem sumAll_apply (S : Vec Ideal S6x512x1408 .f32) (M : Vec Ideal S512x128 .f32) (r : Fin 512) (l : Fin 128) :
    sumAll S M (ix2 r l) = ∑ j : Fin 6, ∑ c : Fin 11, Ideal.exp2 (S (ix3 j r (lane c l)) - M (ix2 r l)) := by
  simp only [sumAll, sumStep_apply, zeroInit_apply]
  rw [Fin.sum_univ_six]
  simp only [zero_add]
  rfl

theorem scoreStep_key (x0 : Vec Ideal S128x512 .bf16) (x1 : Vec Ideal S1x8448x128 .bf16) (j : Fin 6) (r : Fin 512) (c : Fin 1408) :
    scoreStep (stackAll x0) (vBlk x1 j) (ix2 r c) = score x0 x1 r (keyOf j c) := by
  simp only [scoreStep_apply, stackAll, stackQ_apply, score]
  rfl

/-- A supremum over six, term by term. -/
theorem sup_six (f : Fin 6 → EReal) : Finset.univ.sup f = f 0 ⊔ f 1 ⊔ f 2 ⊔ f 3 ⊔ f 4 ⊔ f 5 := by
  simp only [sup_castSucc, Finset.univ_eq_empty, Finset.sup_empty, bot_sup_eq]
  rfl

theorem maxAll_apply (x0 : Vec Ideal S128x512 .bf16) (x1 : Vec Ideal S1x8448x128 .bf16) (r : Fin 512) (l : Fin 128) :
    maxAll (stackAll x0) x1 (ix2 r l) = Finset.univ.sup fun j : Fin 6 => Finset.univ.sup fun c : Fin 11 =>
      score x0 x1 r (keyOf j (lane c l)) := by
  simp only [maxAll, maxStep_apply, maxInit_apply]
  simp only [scoreStep_key]
  rw [sup_six, bot_sup_eq]

theorem maxSpread_all (x0 : Vec Ideal S128x512 .bf16) (x1 : Vec Ideal S1x8448x128 .bf16) :
    maxSpread (maxAll (stackAll x0) x1) = mxArr x0 x1 := by
  funext y
  obtain ⟨a, b, rfl⟩ : ∃ (a : Fin 512) (b : Fin 128), y = ix2 a b := ⟨y 0, y 1, eq_ix2 y⟩
  rw [maxSpread_apply]
  simp only [maxAll_apply]
  rfl

theorem quotient_all (S : Vec Ideal S6x512x1408 .f32) (M : Vec Ideal S512x128 .f32) (v : Vec Ideal S1x8448x128 .bf16)
    (r : Fin 512) (d : Fin 128) : quotient (accAll S M v) (sumAll S M) (ix2 r d) = rowOut v S M r d := by
  simp only [quotient_apply, accAll_apply, sumAll_apply, rowOut]

theorem scoreCast_key (x0 : Vec Ideal S128x512 .bf16) (x1 : Vec Ideal S1x8448x128 .bf16) (n : Fin 6) (j : Fin 6) (r : Fin 512)
    (k : Fin 1408) (x : S1x512x1408.Idx) (h0 : j.val = n.val + (x 0).val) (h1 : r.val = (x 1).val) (h2 : k.val = (x 2).val) :
    shapeCast S1x512x1408 (scoreStep (stackAll x0) (vBlk x1 n)) shapeCasts_S512x1408_S1x512x1408 x
      = scArr x0 x1 (ix3 j r k) := by
  obtain ⟨a, b, e, rfl⟩ : ∃ (a : Fin 1) (b : Fin 512) (e : Fin 1408), x = ix3 a b e := ⟨x 0, x 1, x 2, eq_ix3 x⟩
  obtain rfl : a = 0 := Subsingleton.elim _ _
  obtain rfl : r = b := Fin.ext h1
  obtain rfl : k = e := Fin.ext h2
  obtain rfl : j = n := Fin.ext h0
  refine Eq.trans ?_ (scoreStep_key x0 x1 j r k)
  pointwise

/-- Head 0 of the output block. -/
theorem out_row0 (v : Vec Ideal S1x8448x128 .bf16) (S : Vec Ideal S6x512x1408 .f32) (M : Vec Ideal S512x128 .f32)
    (q : Fin 128) (e : Fin 512) (x : S128x128.Idx) (h0 : q.val = (x 0).val) (h1 : e.val = 0 + (x 1).val) :
    truncf (F := Ideal) .bf16 (extractStridedSlice S128x128 ![0, 0] (quotient (accAll S M v) (sumAll S M)) slices_S512x128_o0_0_S128x128)
      bitsLt_bf16_f32 x = outArr v S M (ix2 q e) := by
  obtain ⟨a, b, rfl⟩ : ∃ (a : Fin 128) (b : Fin 128), x = ix2 a b := ⟨x 0, x 1, eq_ix2 x⟩
  obtain rfl : q = a := Fin.ext h0
  obtain rfl : e = ⟨0 + b.val, by clear h0 h1; omega⟩ := Fin.ext h1
  pointwise [quotient_all, outArr]
  congr 1 <;> (apply Fin.ext; simp only [Fin.val_mk]; omega)

/-- Head 1 of the output block. -/
theorem out_row1 (v : Vec Ideal S1x8448x128 .bf16) (S : Vec Ideal S6x512x1408 .f32) (M : Vec Ideal S512x128 .f32)
    (q : Fin 128) (e : Fin 512) (x : S128x128.Idx) (h0 : q.val = (x 0).val) (h1 : e.val = 128 + (x 1).val) :
    truncf (F := Ideal) .bf16 (extractStridedSlice S128x128 ![128, 0] (quotient (accAll S M v) (sumAll S M)) slices_S512x128_o128_0_S128x128)
      bitsLt_bf16_f32 x = outArr v S M (ix2 q e) := by
  obtain ⟨a, b, rfl⟩ : ∃ (a : Fin 128) (b : Fin 128), x = ix2 a b := ⟨x 0, x 1, eq_ix2 x⟩
  obtain rfl : q = a := Fin.ext h0
  obtain rfl : e = ⟨128 + b.val, by clear h0 h1; omega⟩ := Fin.ext h1
  pointwise [quotient_all, outArr]
  congr 1 <;> (apply Fin.ext; simp only [Fin.val_mk]; omega)

/-- Head 2 of the output block. -/
theorem out_row2 (v : Vec Ideal S1x8448x128 .bf16) (S : Vec Ideal S6x512x1408 .f32) (M : Vec Ideal S512x128 .f32)
    (q : Fin 128) (e : Fin 512) (x : S128x128.Idx) (h0 : q.val = (x 0).val) (h1 : e.val = 256 + (x 1).val) :
    truncf (F := Ideal) .bf16 (extractStridedSlice S128x128 ![256, 0] (quotient (accAll S M v) (sumAll S M)) slices_S512x128_o256_0_S128x128)
      bitsLt_bf16_f32 x = outArr v S M (ix2 q e) := by
  obtain ⟨a, b, rfl⟩ : ∃ (a : Fin 128) (b : Fin 128), x = ix2 a b := ⟨x 0, x 1, eq_ix2 x⟩
  obtain rfl : q = a := Fin.ext h0
  obtain rfl : e = ⟨256 + b.val, by clear h0 h1; omega⟩ := Fin.ext h1
  pointwise [quotient_all, outArr]
  congr 1 <;> (apply Fin.ext; simp only [Fin.val_mk]; omega)

/-- Head 3 of the output block. -/
theorem out_row3 (v : Vec Ideal S1x8448x128 .bf16) (S : Vec Ideal S6x512x1408 .f32) (M : Vec Ideal S512x128 .f32)
    (q : Fin 128) (e : Fin 512) (x : S128x128.Idx) (h0 : q.val = (x 0).val) (h1 : e.val = 384 + (x 1).val) :
    truncf (F := Ideal) .bf16 (extractStridedSlice S128x128 ![384, 0] (quotient (accAll S M v) (sumAll S M)) slices_S512x128_o384_0_S128x128)
      bitsLt_bf16_f32 x = outArr v S M (ix2 q e) := by
  obtain ⟨a, b, rfl⟩ : ∃ (a : Fin 128) (b : Fin 128), x = ix2 a b := ⟨x 0, x 1, eq_ix2 x⟩
  obtain rfl : q = a := Fin.ext h0
  obtain rfl : e = ⟨384 + b.val, by clear h0 h1; omega⟩ := Fin.ext h1
  pointwise [quotient_all, outArr]
  congr 1 <;> (apply Fin.ext; simp only [Fin.val_mk]; omega)

/-- A block of the up projection's weights, rounded (exactly the block, over exact numbers). -/
def castUp (x : Vec Ideal S16x11264 .f32) : Vec Ideal S16x11264 .bf16 := fun y => x y

/-- A block of the down projection's weights, rounded (exactly the block, over exact numbers). -/
def castDown (x : Vec Ideal S32x2048 .f32) : Vec Ideal S32x2048 .bf16 := fun y => x y

end Cert.KernelIdeal.Attn
end
-- ==== Proof.Attn.Ideal.LoopA.lean ====
/- The counted loop of a first point: six blocks of scores and their lane-wise maximum. -/
module

public import proofs.«01_k».proof.Proof.Attn.Ideal.Whole
public import Idealize.ShloMosaic.Lib.WritesUnit
public import Idealize.ShloMosaic.Lib.VecWindow

@[expose] public section

set_option maxRecDepth 16384

noncomputable section

namespace Cert.KernelIdeal.Attn

open Cert.KernelIdeal.Gen Idealize.ShloMosaic Idealize.ShloMosaic.Pipeline Idealize.SL.Sem

/-- The lane-wise maximum after the first `n` blocks, from `g`. -/
def maxUpTo (q : FVec Ideal S512x128 .bf16) (x1 : Vec Ideal S1x8448x128 .bf16) (g : Vec Ideal S512x128 .f32) : Nat → Vec Ideal S512x128 .f32
  | 0 => g
  | n + 1 => if h : n < 6 then maxStep (scoreStep q (vBlk x1 ⟨n, h⟩)) (maxUpTo q x1 g n) else maxUpTo q x1 g n

/-- A read at a rectangle whose offset is row `1408 · j` gives block `j`. -/
theorem readAt_v {a : Memref sig .tc .vmem S1x8448x128 .bf16} (X : BufTy.Contents (Elt Ideal) a.view.ty) (off : Fin 3 → Nat) (j : Fin 6)
    (ho : off = ![0, 1408 * j.val, 0]) (h) :
    View.readAt (Elt Ideal) a.view (Rect.unit off ![1, 1408, 128] h).toLoadRect X = vBlk (a.view.read (Elt Ideal) X) j := by
  subst ho
  exact ldV (a.view.read (Elt Ideal) X) (1408 * j.val) j (Nat.mul_comm _ _) h

/-- A read of the scores at a rectangle whose offset is `j` gives block `j`. -/
theorem readAt_s {a : Memref sig .tc .vmem S6x512x1408 .f32} (X : BufTy.Contents (Elt Ideal) a.view.ty) (off : Fin 3 → Nat) (j : Fin 6)
    (ho : off = ![j.val, 0, 0]) (h) :
    View.readAt (Elt Ideal) a.view (Rect.unit off ![1, 512, 1408] h).toLoadRect X = sBlk (a.view.read (Elt Ideal) X) j := by
  subst ho
  exact ldS (a.view.read (Elt Ideal) X) j.val j rfl h

/-- A read of a whole block of sums or maxima. -/
theorem readAt_m {a : Memref sig .tc .vmem S512x128 .f32} (X : BufTy.Contents (Elt Ideal) a.view.ty) (h) :
    View.readAt (Elt Ideal) a.view (Rect.unit ![0, 0] ![512, 128] h).toLoadRect X = a.view.read (Elt Ideal) X := by
  exact View.readAt_full a.view X h

/-- A write of a whole block of sums or maxima. -/
theorem read_writes_m {a : Memref sig .tc .vmem S512x128 .f32} (X : BufTy.Contents (Elt Ideal) a.view.ty) (h)
    (w : Vec Ideal S512x128 .f32) (L : List (View.Piece (Elt Ideal) S512x128 .f32)) :
    a.view.read (Elt Ideal) (a.view.writes (Elt Ideal) X (⟨Rect.unit ![0, 0] ![512, 128] h, w⟩ :: L)) = w := by
  funext y
  exact View.read_writes_cons_unit_of_mem (v := a.view) (f := X) h w L y y rfl
    (fun a => by fin_cases a <;> exact (Nat.zero_add _).symm)

section
variable (𝒱 : Variants) (c : Dev nD) (bd : Option 𝒱.V) (i : grid0.Coords) (arg3 : Memref sig .tc .vmem S128x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S16x11264 .f32) (harg6 : arg6.IsWhole) (arg7 : Memref sig .tc .vmem S32x2048 .f32) (harg7 : arg7.IsWhole) (arg8 : Memref sig .tc .vmem S128x512 .bf16) (harg8 : arg8.IsWhole) (arg9 : Memref sig .tc .vmem S16x11264 .bf16) (harg9 : arg9.IsWhole) (arg10 : Memref sig .tc .vmem S32x2048 .bf16) (harg10 : arg10.IsWhole) (arg11 : Memref sig .tc .vmem S6x512x1408 .f32) (harg11 : arg11.IsWhole) (arg12 : Memref sig .tc .vmem S6x512x1408 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (k0_h1 : k0_cond1 i = 1#1) (v50 : Vec Ideal S128x128 .bf16) (v52 : Vec Ideal S128x128 .bf16) (v54 : Vec Ideal S128x128 .bf16) (v56 : Vec Ideal S128x128 .bf16) (X_arg4 : BufTy.Contents (Elt Ideal) arg4.view.ty)

set_option maxHeartbeats 1000000 in
/-- What one trip stores among the scores. -/
theorem trip1_fst (k : Fin k0_t1_loop.trips) (kk : Fin 6) (hk : kk.val = k.val) (f11 : BufTy.Contents (Elt Ideal) arg11.view.ty) (f13 : BufTy.Contents (Elt Ideal) arg13.view.ty)
    (j : Fin 6) (r : Fin 512) (e : Fin 1408) :
    arg11.view.read (Elt Ideal) (arg11.view.writes (Elt Ideal) f11 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v50 v52 v54 v56 X_arg4 k).1 f11 f13)) (ix3 j r e)
      = if j = kk then scoreStep (stackQ v50 v52 v54 v56) (vBlk (arg4.view.read (Elt Ideal) X_arg4) kk) (ix2 r e)
        else arg11.view.read (Elt Ideal) f11 (ix3 j r e) := by
  unfold trip_k0_t1
  dsimp only
  rw [readAt_v X_arg4 _ kk (by rw [k0_off1_eq, hk])]
  by_cases hj : j = kk
  · rw [if_pos hj]
    subst hj
    refine (View.read_writes_cons_unit_of_mem _ _ _ _ _ (ix3 j r e) (ix3 0 r e) (k0_off2_eq k) ?_).trans ?_
    · intro a
      fin_cases a
      · exact hk
      · exact (Nat.zero_add _).symm
      · exact (Nat.zero_add _).symm
    · show shapeCast S1x512x1408 (scoreStep (stackQ v50 v52 v54 v56) _) shapeCasts_S512x1408_S1x512x1408 (ix3 0 r e) = _
      pointwise
  · rw [if_neg hj]
    refine (View.read_writes_cons_unit_of_not_mem _ _ _ _ _ (ix3 j r e) (k0_off2_eq k) (0 : Fin 3) ?_).trans rfl
    have : j.val ≠ kk.val := fun h => hj (Fin.ext h)
    show j.val < k.val ∨ k.val + 1 ≤ j.val
    omega

set_option maxHeartbeats 1000000 in
/-- What one trip leaves of the lane-wise maximum. -/
theorem trip1_snd (k : Fin k0_t1_loop.trips) (kk : Fin 6) (hk : kk.val = k.val) (f11 : BufTy.Contents (Elt Ideal) arg11.view.ty) (f13 : BufTy.Contents (Elt Ideal) arg13.view.ty) :
    arg13.view.read (Elt Ideal) (arg13.view.writes (Elt Ideal) f13 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v50 v52 v54 v56 X_arg4 k).2.1 f11 f13))
      = maxStep (scoreStep (stackQ v50 v52 v54 v56) (vBlk (arg4.view.read (Elt Ideal) X_arg4) kk)) (arg13.view.read (Elt Ideal) f13) := by
  unfold trip_k0_t1
  dsimp only
  rw [read_writes_m, readAt_v X_arg4 _ kk (by rw [k0_off1_eq, hk]), readAt_m]
  rfl

/-- The scores and the lane-wise maximum after `n` trips. -/
theorem loop1 (G_arg11 : BufTy.Contents (Elt Ideal) arg11.view.ty) (G_arg13 : BufTy.Contents (Elt Ideal) arg13.view.ty) (n : Nat) (hn : n ≤ 6) :
    (∀ (j : Fin 6) (r : Fin 512) (e : Fin 1408), j.val < n →
      arg11.view.read (Elt Ideal) (arg11.view.writes (Elt Ideal) G_arg11 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v50 v52 v54 v56 X_arg4 G_arg11 G_arg13 n).1) (ix3 j r e)
        = scoreStep (stackQ v50 v52 v54 v56) (vBlk (arg4.view.read (Elt Ideal) X_arg4) j) (ix2 r e))
    ∧ arg13.view.read (Elt Ideal) (arg13.view.writes (Elt Ideal) G_arg13 (pb_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v50 v52 v54 v56 X_arg4 G_arg11 G_arg13 n).2)
        = maxUpTo (stackQ v50 v52 v54 v56) (arg4.view.read (Elt Ideal) X_arg4) (arg13.view.read (Elt Ideal) G_arg13) n := by
  induction n with
  | zero => exact ⟨fun j r e h => absurd h (Nat.not_lt_zero _), rfl⟩
  | succ n ih =>
    obtain ⟨ih1, ih2⟩ := ih (by omega)
    have hT : k0_t1_loop.trips = 6 := by decide +kernel
    have hs := pb_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h1 v50 v52 v54 v56 X_arg4 G_arg11 G_arg13 ⟨n, by omega⟩
    rw [hs]
    dsimp only [tripL_k0_t1]
    rw [View.writes_append, View.writes_append]
    constructor
    · intro j r e hj
      refine (trip1_fst (kk := ⟨n, by omega⟩) (hk := rfl) ..).trans ?_
      by_cases h : j = ⟨n, by omega⟩
      · rw [if_pos h, h]
      · rw [if_neg h]
        exact ih1 j r e (by have : j.val ≠ n := fun h' => h (Fin.ext h'); omega)
    · refine (trip1_snd (kk := ⟨n, by omega⟩) (hk := rfl) ..).trans ?_
      rw [ih2]
      show _ = dite _ _ _
      rw [dif_pos (show n < 6 by omega)]

end

end Cert.KernelIdeal.Attn
end
-- ==== Proof.Attn.Ideal.RunA.lean ====
/- The run of the body at the FIRST point of a head (inner coordinate 0): the scores of the first query block go into the first score buffer. -/
module

public import proofs.«01_k».proof.Proof.Attn.Ideal.Runs

@[expose] public section

-- membership in a rectangle of production extents (`View.cover_of_tiled`): the elaborator's structural look
-- recurses once per coordinate of the long axes
set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 20000000 in
/-- The run of the body at the first point of a head: the attention output is left as it was, and so is the second score buffer with its row maxima.
    On whole buffers, the inputs' at their contents, the body runs on to the continuation, which is handed the inputs' buffers as
    they were and each buffer the body stores into with a list of written pieces; the lists are this definition's components. -/
noncomputable def kernelRun0_A (c : Dev nD) (i : grid0.Coords) (arg3 : Memref sig .tc .vmem S128x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S16x11264 .f32) (harg6 : arg6.IsWhole) (arg7 : Memref sig .tc .vmem S32x2048 .f32) (harg7 : arg7.IsWhole) (arg8 : Memref sig .tc .vmem S128x512 .bf16) (harg8 : arg8.IsWhole) (arg9 : Memref sig .tc .vmem S16x11264 .bf16) (harg9 : arg9.IsWhole) (arg10 : Memref sig .tc .vmem S32x2048 .bf16) (harg10 : arg10.IsWhole) (arg11 : Memref sig .tc .vmem S6x512x1408 .f32) (harg11 : arg11.IsWhole) (arg12 : Memref sig .tc .vmem S6x512x1408 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : cond0_0 i) (hc1 : ¬cond0_1 i) (hc2 : ¬cond0_2 i) (hc3 : ¬cond0_3 i)
    (x0 : Vec F S128x512 .bf16) (x1 : Vec F S1x8448x128 .bf16) (x2 : Vec F S1x8448x128 .bf16) (x3 : Vec F S16x11264 .f32) (x4 : Vec F S32x2048 .f32) (xs0 : Vec F S6x512x1408 .f32) :
    Σ' (L5 : List (View.Piece (Elt F) S128x512 .bf16)), Σ' (L6 : List (View.Piece (Elt F) S16x11264 .bf16)), Σ' (L7 : List (View.Piece (Elt F) S32x2048 .bf16)), Σ' (LS0 : List (View.Piece (Elt F) S6x512x1408 .f32)), Σ' (LS1 : List (View.Piece (Elt F) S6x512x1408 .f32)), Σ' (LS2 : List (View.Piece (Elt F) S512x128 .f32)), Σ' (LS3 : List (View.Piece (Elt F) S512x128 .f32)), Σ' (LT4 : List (View.Piece (Elt F) S512x128 .f32)), { LT5 : List (View.Piece (Elt F) S512x128 .f32) //
      ∀ (xs1 : Vec F S6x512x1408 .f32) (xs3 : Vec F S512x128 .f32) (xi5 : Vec F S128x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ (∃ d, owns (c : Thread nD τ) arg13 fullShare d) ∗ owns (c : Thread nD τ) arg14 fullShare xs3 ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (arg11.view.loc (c : Thread nD τ) ↦[arg11.view.set]{fullShare} arg11.view.writes (Elt F) (harg11.unread xs0) LS0) ∗ owns (c : Thread nD τ) arg12 fullShare xs1 ∗ (∃ f, arg13.view.loc (c : Thread nD τ) ↦[arg13.view.set]{fullShare} arg13.view.writes (Elt F) f LS2) ∗ owns (c : Thread nD τ) arg14 fullShare xs3 ∗ (∃ d, owns (c : Thread nD τ) arg15 fullShare d) ∗ (∃ d, owns (c : Thread nD τ) arg16 fullShare d)) -∗ K ⟨⟩))
          ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, ?_, [], ?_, [], [], [], fun xs1 xs3 xi5 E K => ?run⟩
  case run =>
    simp only [cc0_attention_eq_skeleton]; unfold cc0_attention_skel
    simp only [k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%ds2, %fs2, -, HS2⟩, ⟨%fs3, %hfs3, HS3⟩, ⟨%ds4, %fs4, -, HS4⟩, ⟨%ds5, %fs5, -, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs0; obtain rfl := harg12.eq_unread hfs1; obtain rfl := harg14.eq_unread hfs3
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [H7]; · iexists _; iexact H7
    isplitl [HS0]; · iexact HS0
    isplitl [HS1]
    · iexists _; isplitr; · ipureintro; exact harg12.read_unread _
      iexact HS1
    isplitl [HS2]; · iexists _; iexact HS2
    isplitl [HS3]
    · iexists _; isplitr; · ipureintro; exact harg14.read_unread _
      iexact HS3
    isplitl [HS4]
    · iexists _, _; isplitr; swap; · iexact HS4
      ipureintro; rfl
    iexists _, _; isplitr; swap; · iexact HS5
    ipureintro; rfl

end Cert.KernelIdeal.Attn

end
-- ==== Proof.Attn.Ideal.ValA.lean ====
/- What the run at a first point leaves: the scores and the row maxima of its block of queries. -/
module

public import proofs.«01_k».proof.Proof.Attn.Ideal.LoopA
public import proofs.«01_k».proof.Proof.Attn.Ideal.RunA

@[expose] public section

set_option maxRecDepth 16384

noncomputable section

namespace Cert.KernelIdeal.Attn

open Cert.KernelIdeal.Gen Idealize.ShloMosaic Idealize.ShloMosaic.Pipeline Idealize.SL.Sem

variable  (c : Dev nD) (i : grid0.Coords) (arg3 : Memref sig .tc .vmem S128x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S16x11264 .f32) (harg6 : arg6.IsWhole) (arg7 : Memref sig .tc .vmem S32x2048 .f32) (harg7 : arg7.IsWhole) (arg8 : Memref sig .tc .vmem S128x512 .bf16) (harg8 : arg8.IsWhole) (arg9 : Memref sig .tc .vmem S16x11264 .bf16) (harg9 : arg9.IsWhole) (arg10 : Memref sig .tc .vmem S32x2048 .bf16) (harg10 : arg10.IsWhole) (arg11 : Memref sig .tc .vmem S6x512x1408 .f32) (harg11 : arg11.IsWhole) (arg12 : Memref sig .tc .vmem S6x512x1408 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : cond0_0 i) (hc1 : ¬cond0_1 i) (hc2 : ¬cond0_2 i) (hc3 : ¬cond0_3 i)
    (x0 : Vec Ideal S128x512 .bf16) (x1 : Vec Ideal S1x8448x128 .bf16) (x2 : Vec Ideal S1x8448x128 .bf16) (x3 : Vec Ideal S16x11264 .f32) (x4 : Vec Ideal S32x2048 .f32) (xs0 : Vec Ideal S6x512x1408 .f32)

/-- Six trips take the lane-wise maximum over all six blocks. -/
theorem maxUpTo_six (q : FVec Ideal S512x128 .bf16) (x1 : Vec Ideal S1x8448x128 .bf16) : maxUpTo q x1 maxInit 6 = maxAll q x1 := by
  simp only [maxUpTo]
  rfl

/-- The four heads' rows read from the queries' block. -/
theorem stack_read {a : Memref sig .tc .vmem S128x512 .bf16} (h : a.IsWhole) (x0 : Vec Ideal S128x512 .bf16) (h0 : ∀ a, (![0, 0] : Fin 2 → Nat) a + S128x128.size a ≤ S128x512.size a) (h1 : ∀ a, (![0, 128] : Fin 2 → Nat) a + S128x128.size a ≤ S128x512.size a) (h2 : ∀ a, (![0, 256] : Fin 2 → Nat) a + S128x128.size a ≤ S128x512.size a) (h3 : ∀ a, (![0, 384] : Fin 2 → Nat) a + S128x128.size a ≤ S128x512.size a) :
    stackQ (View.readAt (Elt Ideal) a.view (Rect.unit (s := S128x512) ![0, 0] S128x128.size h0).toLoadRect (h.unread x0))
      (View.readAt (Elt Ideal) a.view (Rect.unit (s := S128x512) ![0, 128] S128x128.size h1).toLoadRect (h.unread x0))
      (View.readAt (Elt Ideal) a.view (Rect.unit (s := S128x512) ![0, 256] S128x128.size h2).toLoadRect (h.unread x0))
      (View.readAt (Elt Ideal) a.view (Rect.unit (s := S128x512) ![0, 384] S128x128.size h3).toLoadRect (h.unread x0)) = stackAll x0 := by
  have e : ∀ r : Rect S128x512, View.readAt (Elt Ideal) a.view r.toLoadRect (h.unread x0) = View.ld x0 r := fun r => by
    show View.ld (a.view.read (Elt Ideal) (h.unread x0)) r = _
    rw [h.read_unread]
  simp only [e]
  rfl

/-- The new scores. -/
theorem soutA_S : arg11.view.read (Elt Ideal) (arg11.view.writes (Elt Ideal) (harg11.unread xs0) (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0).2.2.2.1) = scArr x0 x1 := by
  funext y
  obtain ⟨j, r, k, rfl⟩ : ∃ (j : Fin 6) (r : Fin 512) (k : Fin 1408), y = ix3 j r k := ⟨y 0, y 1, y 2, eq_ix3 y⟩
  unfold kernelRun0_A
  dsimp only
  refine ((loop1 (n := 6) (hn := le_rfl) ..).1 j r k j.isLt).trans ?_
  rw [harg4.read_unread, stack_read]
  exact scoreStep_key x0 x1 j r k

/-- The new row maxima. -/
theorem soutA_M (f : BufTy.Contents (Elt Ideal) arg13.view.ty) :
    arg13.view.read (Elt Ideal) (arg13.view.writes (Elt Ideal) f (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0).2.2.2.2.2.1) = mxArr x0 x1 := by
  unfold kernelRun0_A
  dsimp only
  rw [kernelRun0_A.sl.v60.eq_1]
  refine (read_writes_m _ _ _ _).trans ?_
  rw [← maxSpread_all]
  refine (congrArg maxSpread ?_ : maxSpread _ = _)
  refine (readAt_m _ _).trans ?_
  rw [View.writes_append]
  refine (loop1 (n := 6) (hn := le_rfl) ..).2.trans ?_
  rw [harg4.read_unread, stack_read, ← maxUpTo_six]
  congr 1
  exact read_writes_m _ _ _ _

end Cert.KernelIdeal.Attn
end
-- ==== Proof.Attn.Ideal.CaseA.lean ====
/- What a run of the attention kernel's body does at the first point of a head, which leaves the attention output as it was and fills the first score buffer: the buffers it is given and the buffers it leaves, at their contents. -/
module

public import proofs.«01_k».proof.Proof.Attn.Ideal.ValA

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable  (c : Dev nD) (i : grid0.Coords) (arg3 : Memref sig .tc .vmem S128x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S16x11264 .f32) (harg6 : arg6.IsWhole) (arg7 : Memref sig .tc .vmem S32x2048 .f32) (harg7 : arg7.IsWhole) (arg8 : Memref sig .tc .vmem S128x512 .bf16) (harg8 : arg8.IsWhole) (arg9 : Memref sig .tc .vmem S16x11264 .bf16) (harg9 : arg9.IsWhole) (arg10 : Memref sig .tc .vmem S32x2048 .bf16) (harg10 : arg10.IsWhole) (arg11 : Memref sig .tc .vmem S6x512x1408 .f32) (harg11 : arg11.IsWhole) (arg12 : Memref sig .tc .vmem S6x512x1408 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : cond0_0 i) (hc1 : ¬cond0_1 i) (hc2 : ¬cond0_2 i) (hc3 : ¬cond0_3 i)
    (x0 : Vec Ideal S128x512 .bf16) (x1 : Vec Ideal S1x8448x128 .bf16) (x2 : Vec Ideal S1x8448x128 .bf16) (x3 : Vec Ideal S16x11264 .f32) (x4 : Vec Ideal S32x2048 .f32) (xs0 : Vec Ideal S6x512x1408 .f32)

/-- The pieces of the first weight block fill their buffer. -/
theorem coverA_6 (y : S16x11264.Idx) : ∃ pc ∈ (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0).2.1, y ∈ pc.1.set :=
  View.cover_of_tiledL (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0).2.1 S16x11264.size (by sl_kernel_rfl) y

/-- The pieces of the second weight block fill their buffer. -/
theorem coverA_7 (y : S32x2048.Idx) : ∃ pc ∈ (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0).2.2.1, y ∈ pc.1.set :=
  View.cover_of_tiledL (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0).2.2.1 S32x2048.size (by sl_kernel_rfl) y

set_option maxHeartbeats 4000000 in
/-- The first weight block is the block handed in. -/
theorem outA_6 : VO0_6.read (Elt Ideal) (VO0_6.writes (Elt Ideal) VO0_6.junk (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0).2.1) = castUp x3 := by
  funext y
  frame_out
  rfl

set_option maxHeartbeats 4000000 in
/-- The second weight block is the block handed in. -/
theorem outA_7 : VO0_7.read (Elt Ideal) (VO0_7.writes (Elt Ideal) VO0_7.junk (kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0).2.2.1) = castDown x4 := by
  funext y
  frame_out
  rfl

include hc0 hc1 hc2 hc3 in
set_option maxHeartbeats 4000000 in
/-- The run at the buffers' contents. -/
theorem caseA (xs1 : Vec Ideal S6x512x1408 .f32) (xs3 : Vec Ideal S512x128 .f32) (xi5 : Vec Ideal S128x512 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ (∃ d, owns (c : Thread nD τ) arg13 fullShare d) ∗ owns (c : Thread nD τ) arg14 fullShare xs3 ∗ (∃ d, owns (c : Thread nD τ) arg15 fullShare d) ∗ (∃ d, owns (c : Thread nD τ) arg16 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare (castUp x3) ∗ owns (c : Thread nD τ) arg10 fullShare (castDown x4) ∗ owns (c : Thread nD τ) arg11 fullShare (scArr x0 x1) ∗ owns (c : Thread nD τ) arg12 fullShare xs1 ∗ owns (c : Thread nD τ) arg13 fullShare (mxArr x0 x1) ∗ owns (c : Thread nD τ) arg14 fullShare xs3 ∗ (∃ d, owns (c : Thread nD τ) arg15 fullShare d) ∗ (∃ d, owns (c : Thread nD τ) arg16 fullShare d)) -∗ K ⟨⟩))
      ⊢ wp frame (wpE (defs₀ (F := Ideal)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, HS0, HS1, HS2, HS3, HS4, HS5, Hk⟩
  iapply ((kernelRun0_A (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0).2.2.2.2.2.2.2.2.2 xs1 xs3 xi5 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%e6, H6⟩, ⟨%e7, H7⟩, HS0, HS1, ⟨%es2, HS2⟩, HS3, HS4, HS5⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr; swap; · iexact H6
    ipureintro; exact (View.read_writes_of_cover _ _ _ _ _ (coverA_6 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0)).trans (outA_6 ..)
  isplitl [H7]
  · unfold owns; iexists _; isplitr; swap; · iexact H7
    ipureintro; exact (View.read_writes_of_cover _ _ _ _ _ (coverA_7 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0)).trans (outA_7 ..)
  isplitl [HS0]
  · unfold owns; iexists _; isplitr; swap; · iexact HS0
    ipureintro; exact soutA_S ..
  isplitl [HS1]; · iexact HS1
  isplitl [HS2]
  · unfold owns; iexists _; isplitr; swap; · iexact HS2
    ipureintro; exact soutA_M ..
  isplitl [HS3]; · iexact HS3
  isplitl [HS4]; · iexact HS4
  iexact HS5

end Cert.KernelIdeal.Attn
end
-- ==== Proof.Attn.Ideal.RunB.lean ====
/- The run of the body at an ODD inner point: attention is taken from the first score buffer, the next scores go into the second. -/
module

public import proofs.«01_k».proof.Proof.Attn.Ideal.Runs

@[expose] public section

-- membership in a rectangle of production extents (`View.cover_of_tiled`): the elaborator's structural look
-- recurses once per coordinate of the long axes
set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1124000 in
/-- The run of the body at an odd point: it reads the first score buffer and its row maxima and fills the second.
    On whole buffers, the inputs' at their contents, the body runs on to the continuation, which is handed the inputs' buffers as
    they were and each buffer the body stores into with a list of written pieces; the lists are this definition's components. -/
noncomputable def kernelRun0_B (c : Dev nD) (i : grid0.Coords) (arg3 : Memref sig .tc .vmem S128x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S16x11264 .f32) (harg6 : arg6.IsWhole) (arg7 : Memref sig .tc .vmem S32x2048 .f32) (harg7 : arg7.IsWhole) (arg8 : Memref sig .tc .vmem S128x512 .bf16) (harg8 : arg8.IsWhole) (arg9 : Memref sig .tc .vmem S16x11264 .bf16) (harg9 : arg9.IsWhole) (arg10 : Memref sig .tc .vmem S32x2048 .bf16) (harg10 : arg10.IsWhole) (arg11 : Memref sig .tc .vmem S6x512x1408 .f32) (harg11 : arg11.IsWhole) (arg12 : Memref sig .tc .vmem S6x512x1408 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : ¬cond0_0 i) (hc1 : ¬cond0_1 i) (hc2 : cond0_2 i) (hc3 : ¬cond0_3 i)
    (x0 : Vec F S128x512 .bf16) (x1 : Vec F S1x8448x128 .bf16) (x2 : Vec F S1x8448x128 .bf16) (x3 : Vec F S16x11264 .f32) (x4 : Vec F S32x2048 .f32) (xs0 : Vec F S6x512x1408 .f32) (xs2 : Vec F S512x128 .f32) :
    Σ' (L5 : List (View.Piece (Elt F) S128x512 .bf16)), Σ' (L6 : List (View.Piece (Elt F) S16x11264 .bf16)), Σ' (L7 : List (View.Piece (Elt F) S32x2048 .bf16)), Σ' (LS0 : List (View.Piece (Elt F) S6x512x1408 .f32)), Σ' (LS1 : List (View.Piece (Elt F) S6x512x1408 .f32)), Σ' (LS2 : List (View.Piece (Elt F) S512x128 .f32)), Σ' (LS3 : List (View.Piece (Elt F) S512x128 .f32)), Σ' (LT4 : List (View.Piece (Elt F) S512x128 .f32)), { LT5 : List (View.Piece (Elt F) S512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ owns (c : Thread nD τ) arg13 fullShare xs2 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ owns (c : Thread nD τ) arg11 fullShare xs0 ∗ (∃ f, arg12.view.loc (c : Thread nD τ) ↦[arg12.view.set]{fullShare} arg12.view.writes (Elt F) f LS1) ∗ owns (c : Thread nD τ) arg13 fullShare xs2 ∗ (∃ f, arg14.view.loc (c : Thread nD τ) ↦[arg14.view.set]{fullShare} arg14.view.writes (Elt F) f LS3) ∗ (∃ f, arg15.view.loc (c : Thread nD τ) ↦[arg15.view.set]{fullShare} arg15.view.writes (Elt F) f LT4) ∗ (∃ f, arg16.view.loc (c : Thread nD τ) ↦[arg16.view.set]{fullShare} arg16.view.writes (Elt F) f LT5)) -∗ K ⟨⟩))
          ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, [], ?_, [], ?_, ?_, ?_, fun E K => ?run⟩
  case run =>
    simp only [cc0_attention_eq_skeleton]; unfold cc0_attention_skel
    simp only [k0_part32_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%ds1, %fs1, -, HS1⟩, ⟨%fs2, %hfs2, HS2⟩, ⟨%ds3, %fs3, -, HS3⟩, ⟨%ds4, %fs4, -, HS4⟩, ⟨%ds5, %fs5, -, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg11.eq_unread hfs0; obtain rfl := harg13.eq_unread hfs2
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]; · iexists _; iexact H7
    isplitl [HS0]
    · iexists _; isplitr; · ipureintro; exact harg11.read_unread _
      iexact HS0
    isplitl [HS1]; · iexists _; iexact HS1
    isplitl [HS2]
    · iexists _; isplitr; · ipureintro; exact harg13.read_unread _
      iexact HS2
    isplitl [HS3]; · iexists _; iexact HS3
    isplitl [HS4]; · iexists _; iexact HS4
    iexists _; iexact HS5

end Cert.KernelIdeal.Attn

end
-- ==== Proof.Attn.Ideal.ValB.lean ====
/- What the straight-line run B of the attention kernel leaves: the scores and their row maxima of the blocks at hand, and the output block of the scores it was handed. -/
module

public import proofs.«01_k».proof.Proof.Attn.Ideal.Whole
public import proofs.«01_k».proof.Proof.Attn.Ideal.RunB

@[expose] public section

set_option maxRecDepth 16384

noncomputable section

namespace Cert.KernelIdeal.Attn

open Cert.KernelIdeal.Gen Idealize.ShloMosaic Idealize.ShloMosaic.Pipeline Idealize.SL.Sem

variable  (c : Dev nD) (i : grid0.Coords) (arg3 : Memref sig .tc .vmem S128x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S16x11264 .f32) (harg6 : arg6.IsWhole) (arg7 : Memref sig .tc .vmem S32x2048 .f32) (harg7 : arg7.IsWhole) (arg8 : Memref sig .tc .vmem S128x512 .bf16) (harg8 : arg8.IsWhole) (arg9 : Memref sig .tc .vmem S16x11264 .bf16) (harg9 : arg9.IsWhole) (arg10 : Memref sig .tc .vmem S32x2048 .bf16) (harg10 : arg10.IsWhole) (arg11 : Memref sig .tc .vmem S6x512x1408 .f32) (harg11 : arg11.IsWhole) (arg12 : Memref sig .tc .vmem S6x512x1408 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : ¬cond0_0 i) (hc1 : ¬cond0_1 i) (hc2 : cond0_2 i) (hc3 : ¬cond0_3 i)
    (x0 : Vec Ideal S128x512 .bf16) (x1 : Vec Ideal S1x8448x128 .bf16) (x2 : Vec Ideal S1x8448x128 .bf16) (x3 : Vec Ideal S16x11264 .f32) (x4 : Vec Ideal S32x2048 .f32) (xs0 : Vec Ideal S6x512x1408 .f32) (xs2 : Vec Ideal S512x128 .f32)

set_option maxHeartbeats 4000000 in
/-- The new scores. -/
theorem soutB_S : VS0_1.read (Elt Ideal) (VS0_1.writes (Elt Ideal) VS0_1.junk (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2).2.2.2.2.1) = scArr x0 x1 := by
  funext y
  obtain ⟨j, r, k, rfl⟩ : ∃ (j : Fin 6) (r : Fin 512) (k : Fin 1408), y = ix3 j r k := ⟨y 0, y 1, y 2, eq_ix3 y⟩
  frame_out
  set_option backward.isDefEq.respectTransparency false in simp only [ldV x1 0 0 rfl, ldV x1 1408 1 rfl, ldV x1 2816 2 rfl, ldV x1 4224 3 rfl, ldV x1 5632 4 rfl, ldV x1 7040 5 rfl, ldV x2 0 0 rfl, ldV x2 1408 1 rfl, ldV x2 2816 2 rfl, ldV x2 4224 3 rfl, ldV x2 5632 4 rfl, ldV x2 7040 5 rfl]
  canon_tiles x h
  · exact scoreCast_key x0 x1 5 j r k x h0 h1 h2
  · exact scoreCast_key x0 x1 4 j r k x h0 h1 h2
  · exact scoreCast_key x0 x1 3 j r k x h0 h1 h2
  · exact scoreCast_key x0 x1 2 j r k x h0 h1 h2
  · exact scoreCast_key x0 x1 1 j r k x h0 h1 h2
  · exact scoreCast_key x0 x1 0 j r k x (h0.trans (Nat.zero_add _).symm) h1 h2

set_option maxHeartbeats 4000000 in
/-- The new row maxima. -/
theorem soutB_M : VS0_3.read (Elt Ideal) (VS0_3.writes (Elt Ideal) VS0_3.junk (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2).2.2.2.2.2.2.1) = mxArr x0 x1 := by
  rw [← maxSpread_all]
  funext y
  obtain ⟨r, l, rfl⟩ : ∃ (r : Fin 512) (l : Fin 128), y = ix2 r l := ⟨y 0, y 1, eq_ix2 y⟩
  frame_out
  set_option backward.isDefEq.respectTransparency false in simp only [ldV x1 0 0 rfl, ldV x1 1408 1 rfl, ldV x1 2816 2 rfl, ldV x1 4224 3 rfl, ldV x1 5632 4 rfl, ldV x1 7040 5 rfl, ldV x2 0 0 rfl, ldV x2 1408 1 rfl, ldV x2 2816 2 rfl, ldV x2 4224 3 rfl, ldV x2 5632 4 rfl, ldV x2 7040 5 rfl]
  rfl

set_option maxHeartbeats 4000000 in
/-- The output block. -/
theorem outB_O : VO0_5.read (Elt Ideal) (VO0_5.writes (Elt Ideal) VO0_5.junk (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2).1) = outArr x2 xs0 xs2 := by
  funext y
  obtain ⟨q, e, rfl⟩ : ∃ (q : Fin 128) (e : Fin 512), y = ix2 q e := ⟨y 0, y 1, eq_ix2 y⟩
  frame_out
  set_option backward.isDefEq.respectTransparency false in simp only [ldV x1 0 0 rfl, ldV x1 1408 1 rfl, ldV x1 2816 2 rfl, ldV x1 4224 3 rfl, ldV x1 5632 4 rfl, ldV x1 7040 5 rfl, ldV x2 0 0 rfl, ldV x2 1408 1 rfl, ldV x2 2816 2 rfl, ldV x2 4224 3 rfl, ldV x2 5632 4 rfl, ldV x2 7040 5 rfl, ldS xs0 0 0 rfl, ldS xs0 1 1 rfl, ldS xs0 2 2 rfl, ldS xs0 3 3 rfl, ldS xs0 4 4 rfl, ldS xs0 5 5 rfl]
  canon_tiles x h
  · exact out_row3 x2 xs0 xs2 q e x h0 h1
  · exact out_row2 x2 xs0 xs2 q e x h0 h1
  · exact out_row1 x2 xs0 xs2 q e x h0 h1
  · exact out_row0 x2 xs0 xs2 q e x h0 (h1.trans (Nat.zero_add _).symm)

end Cert.KernelIdeal.Attn
end
-- ==== Proof.Attn.Ideal.CaseB.lean ====
/- What a run of the attention kernel's body does at an odd point, which turns the scores of the first buffer into an output block and fills the second buffer: the buffers it is given and the buffers it leaves, at their contents. -/
module

public import proofs.«01_k».proof.Proof.Attn.Ideal.ValB

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable  (c : Dev nD) (i : grid0.Coords) (arg3 : Memref sig .tc .vmem S128x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S16x11264 .f32) (harg6 : arg6.IsWhole) (arg7 : Memref sig .tc .vmem S32x2048 .f32) (harg7 : arg7.IsWhole) (arg8 : Memref sig .tc .vmem S128x512 .bf16) (harg8 : arg8.IsWhole) (arg9 : Memref sig .tc .vmem S16x11264 .bf16) (harg9 : arg9.IsWhole) (arg10 : Memref sig .tc .vmem S32x2048 .bf16) (harg10 : arg10.IsWhole) (arg11 : Memref sig .tc .vmem S6x512x1408 .f32) (harg11 : arg11.IsWhole) (arg12 : Memref sig .tc .vmem S6x512x1408 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : ¬cond0_0 i) (hc1 : ¬cond0_1 i) (hc2 : cond0_2 i) (hc3 : ¬cond0_3 i)
    (x0 : Vec Ideal S128x512 .bf16) (x1 : Vec Ideal S1x8448x128 .bf16) (x2 : Vec Ideal S1x8448x128 .bf16) (x3 : Vec Ideal S16x11264 .f32) (x4 : Vec Ideal S32x2048 .f32) (xs0 : Vec Ideal S6x512x1408 .f32) (xs2 : Vec Ideal S512x128 .f32)

/-- The output pieces fill their buffer. -/
theorem coverB_5 (y : S128x512.Idx) : ∃ pc ∈ (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2).1, y ∈ pc.1.set :=
  View.cover_of_tiledL (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2).1 S128x128.size (by sl_kernel_rfl) y

/-- The pieces of the first weight block fill their buffer. -/
theorem coverB_6 (y : S16x11264.Idx) : ∃ pc ∈ (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2).2.1, y ∈ pc.1.set :=
  View.cover_of_tiledL (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2).2.1 S16x11264.size (by sl_kernel_rfl) y

/-- The pieces of the second weight block fill their buffer. -/
theorem coverB_7 (y : S32x2048.Idx) : ∃ pc ∈ (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2).2.2.1, y ∈ pc.1.set :=
  View.cover_of_tiledL (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2).2.2.1 S32x2048.size (by sl_kernel_rfl) y

/-- The score pieces fill their buffer. -/
theorem coverB_s1 (y : S6x512x1408.Idx) : ∃ pc ∈ (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2).2.2.2.2.1, y ∈ pc.1.set :=
  View.cover_of_tiledL (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2).2.2.2.2.1 S1x512x1408.size (by sl_kernel_rfl) y

/-- The row maxima pieces fill their buffer. -/
theorem coverB_s3 (y : S512x128.Idx) : ∃ pc ∈ (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2).2.2.2.2.2.2.1, y ∈ pc.1.set :=
  View.cover_of_tiledL (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2).2.2.2.2.2.2.1 S512x128.size (by sl_kernel_rfl) y

set_option maxHeartbeats 4000000 in
/-- The first weight block is the block handed in. -/
theorem outB_6 : VO0_6.read (Elt Ideal) (VO0_6.writes (Elt Ideal) VO0_6.junk (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2).2.1) = castUp x3 := by
  funext y
  frame_out
  rfl

set_option maxHeartbeats 4000000 in
/-- The second weight block is the block handed in. -/
theorem outB_7 : VO0_7.read (Elt Ideal) (VO0_7.writes (Elt Ideal) VO0_7.junk (kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2).2.2.1) = castDown x4 := by
  funext y
  frame_out
  rfl

include hc0 hc1 hc2 hc3 in
set_option maxHeartbeats 4000000 in
/-- The run at the buffers' contents. -/
theorem caseB (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d) ∗ owns (c : Thread nD τ) arg13 fullShare xs2 ∗ (∃ d, owns (c : Thread nD τ) arg14 fullShare d) ∗ (∃ d, owns (c : Thread nD τ) arg15 fullShare d) ∗ (∃ d, owns (c : Thread nD τ) arg16 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outArr x2 xs0 xs2) ∗ owns (c : Thread nD τ) arg9 fullShare (castUp x3) ∗ owns (c : Thread nD τ) arg10 fullShare (castDown x4) ∗ owns (c : Thread nD τ) arg11 fullShare xs0 ∗ owns (c : Thread nD τ) arg12 fullShare (scArr x0 x1) ∗ owns (c : Thread nD τ) arg13 fullShare xs2 ∗ owns (c : Thread nD τ) arg14 fullShare (mxArr x0 x1) ∗ (∃ d, owns (c : Thread nD τ) arg15 fullShare d) ∗ (∃ d, owns (c : Thread nD τ) arg16 fullShare d)) -∗ K ⟨⟩))
      ⊢ wp frame (wpE (defs₀ (F := Ideal)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, HS0, HS1, HS2, HS3, HS4, HS5, Hk⟩
  iapply ((kernelRun0_B (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2).2.2.2.2.2.2.2.2.2  E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%e5, H5⟩, ⟨%e6, H6⟩, ⟨%e7, H7⟩, HS0, ⟨%es1, HS1⟩, HS2, ⟨%es3, HS3⟩, ⟨%es4, HS4⟩, ⟨%es5, HS5⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr; swap; · iexact H5
    ipureintro; exact (View.read_writes_of_cover _ _ _ _ _ (coverB_5 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2)).trans (outB_O ..)
  isplitl [H6]
  · unfold owns; iexists _; isplitr; swap; · iexact H6
    ipureintro; exact (View.read_writes_of_cover _ _ _ _ _ (coverB_6 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2)).trans (outB_6 ..)
  isplitl [H7]
  · unfold owns; iexists _; isplitr; swap; · iexact H7
    ipureintro; exact (View.read_writes_of_cover _ _ _ _ _ (coverB_7 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2)).trans (outB_7 ..)
  isplitl [HS0]; · iexact HS0
  isplitl [HS1]
  · unfold owns; iexists _; isplitr; swap; · iexact HS1
    ipureintro; exact (View.read_writes_of_cover _ _ _ _ _ (coverB_s1 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2)).trans (soutB_S ..)
  isplitl [HS2]; · iexact HS2
  isplitl [HS3]
  · unfold owns; iexists _; isplitr; swap; · iexact HS3
    ipureintro; exact (View.read_writes_of_cover _ _ _ _ _ (coverB_s3 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs0 xs2)).trans (soutB_M ..)
  isplitl [HS4]
  · unfold owns; iexists _; iexists _; isplitr; swap; · iexact HS4
    ipureintro; rfl
  · unfold owns; iexists _; iexists _; isplitr; swap; · iexact HS5
    ipureintro; rfl

end Cert.KernelIdeal.Attn
end
-- ==== Proof.Attn.Ideal.RunC.lean ====
/- The run of the body at an EVEN inner point, neither first nor last: attention is taken from the second score buffer, the next scores go into the first. -/
module

public import proofs.«01_k».proof.Proof.Attn.Ideal.Runs

@[expose] public section

-- membership in a rectangle of production extents (`View.cover_of_tiled`): the elaborator's structural look
-- recurses once per coordinate of the long axes
set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1124000 in
/-- The run of the body at an even point that is neither first nor last: it reads the second score buffer and its row maxima and fills the first.
    On whole buffers, the inputs' at their contents, the body runs on to the continuation, which is handed the inputs' buffers as
    they were and each buffer the body stores into with a list of written pieces; the lists are this definition's components. -/
noncomputable def kernelRun0_C (c : Dev nD) (i : grid0.Coords) (arg3 : Memref sig .tc .vmem S128x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S16x11264 .f32) (harg6 : arg6.IsWhole) (arg7 : Memref sig .tc .vmem S32x2048 .f32) (harg7 : arg7.IsWhole) (arg8 : Memref sig .tc .vmem S128x512 .bf16) (harg8 : arg8.IsWhole) (arg9 : Memref sig .tc .vmem S16x11264 .bf16) (harg9 : arg9.IsWhole) (arg10 : Memref sig .tc .vmem S32x2048 .bf16) (harg10 : arg10.IsWhole) (arg11 : Memref sig .tc .vmem S6x512x1408 .f32) (harg11 : arg11.IsWhole) (arg12 : Memref sig .tc .vmem S6x512x1408 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : ¬cond0_0 i) (hc1 : cond0_1 i) (hc2 : ¬cond0_2 i) (hc3 : ¬cond0_3 i)
    (x0 : Vec F S128x512 .bf16) (x1 : Vec F S1x8448x128 .bf16) (x2 : Vec F S1x8448x128 .bf16) (x3 : Vec F S16x11264 .f32) (x4 : Vec F S32x2048 .f32) (xs1 : Vec F S6x512x1408 .f32) (xs3 : Vec F S512x128 .f32) :
    Σ' (L5 : List (View.Piece (Elt F) S128x512 .bf16)), Σ' (L6 : List (View.Piece (Elt F) S16x11264 .bf16)), Σ' (L7 : List (View.Piece (Elt F) S32x2048 .bf16)), Σ' (LS0 : List (View.Piece (Elt F) S6x512x1408 .f32)), Σ' (LS1 : List (View.Piece (Elt F) S6x512x1408 .f32)), Σ' (LS2 : List (View.Piece (Elt F) S512x128 .f32)), Σ' (LS3 : List (View.Piece (Elt F) S512x128 .f32)), Σ' (LT4 : List (View.Piece (Elt F) S512x128 .f32)), { LT5 : List (View.Piece (Elt F) S512x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ (∃ d, owns (c : Thread nD τ) arg13 fullShare d) ∗ owns (c : Thread nD τ) arg14 fullShare xs3 ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ owns (c : Thread nD τ) arg12 fullShare xs1 ∗ (∃ f, arg13.view.loc (c : Thread nD τ) ↦[arg13.view.set]{fullShare} arg13.view.writes (Elt F) f LS2) ∗ owns (c : Thread nD τ) arg14 fullShare xs3 ∗ (∃ f, arg15.view.loc (c : Thread nD τ) ↦[arg15.view.set]{fullShare} arg15.view.writes (Elt F) f LT4) ∗ (∃ f, arg16.view.loc (c : Thread nD τ) ↦[arg16.view.set]{fullShare} arg16.view.writes (Elt F) f LT5)) -∗ K ⟨⟩))
          ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, [], ?_, [], ?_, ?_, fun E K => ?run⟩
  case run =>
    simp only [cc0_attention_eq_skeleton]; unfold cc0_attention_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hfs1, HS1⟩, ⟨%ds2, %fs2, -, HS2⟩, ⟨%fs3, %hfs3, HS3⟩, ⟨%ds4, %fs4, -, HS4⟩, ⟨%ds5, %fs5, -, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg12.eq_unread hfs1; obtain rfl := harg14.eq_unread hfs3
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]; · iexists _; iexact H7
    isplitl [HS0]; · iexists _; iexact HS0
    isplitl [HS1]
    · iexists _; isplitr; · ipureintro; exact harg12.read_unread _
      iexact HS1
    isplitl [HS2]; · iexists _; iexact HS2
    isplitl [HS3]
    · iexists _; isplitr; · ipureintro; exact harg14.read_unread _
      iexact HS3
    isplitl [HS4]; · iexists _; iexact HS4
    iexists _; iexact HS5

end Cert.KernelIdeal.Attn

end
-- ==== Proof.Attn.Ideal.ValC.lean ====
/- What the straight-line run C of the attention kernel leaves: the scores and their row maxima of the blocks at hand, and the output block of the scores it was handed. -/
module

public import proofs.«01_k».proof.Proof.Attn.Ideal.Whole
public import proofs.«01_k».proof.Proof.Attn.Ideal.RunC

@[expose] public section

set_option maxRecDepth 16384

noncomputable section

namespace Cert.KernelIdeal.Attn

open Cert.KernelIdeal.Gen Idealize.ShloMosaic Idealize.ShloMosaic.Pipeline Idealize.SL.Sem

variable  (c : Dev nD) (i : grid0.Coords) (arg3 : Memref sig .tc .vmem S128x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S16x11264 .f32) (harg6 : arg6.IsWhole) (arg7 : Memref sig .tc .vmem S32x2048 .f32) (harg7 : arg7.IsWhole) (arg8 : Memref sig .tc .vmem S128x512 .bf16) (harg8 : arg8.IsWhole) (arg9 : Memref sig .tc .vmem S16x11264 .bf16) (harg9 : arg9.IsWhole) (arg10 : Memref sig .tc .vmem S32x2048 .bf16) (harg10 : arg10.IsWhole) (arg11 : Memref sig .tc .vmem S6x512x1408 .f32) (harg11 : arg11.IsWhole) (arg12 : Memref sig .tc .vmem S6x512x1408 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : ¬cond0_0 i) (hc1 : cond0_1 i) (hc2 : ¬cond0_2 i) (hc3 : ¬cond0_3 i)
    (x0 : Vec Ideal S128x512 .bf16) (x1 : Vec Ideal S1x8448x128 .bf16) (x2 : Vec Ideal S1x8448x128 .bf16) (x3 : Vec Ideal S16x11264 .f32) (x4 : Vec Ideal S32x2048 .f32) (xs1 : Vec Ideal S6x512x1408 .f32) (xs3 : Vec Ideal S512x128 .f32)

set_option maxHeartbeats 4000000 in
/-- The new scores. -/
theorem soutC_S : VS0_0.read (Elt Ideal) (VS0_0.writes (Elt Ideal) VS0_0.junk (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.2.2.1) = scArr x0 x1 := by
  funext y
  obtain ⟨j, r, k, rfl⟩ : ∃ (j : Fin 6) (r : Fin 512) (k : Fin 1408), y = ix3 j r k := ⟨y 0, y 1, y 2, eq_ix3 y⟩
  frame_out
  set_option backward.isDefEq.respectTransparency false in simp only [ldV x1 0 0 rfl, ldV x1 1408 1 rfl, ldV x1 2816 2 rfl, ldV x1 4224 3 rfl, ldV x1 5632 4 rfl, ldV x1 7040 5 rfl, ldV x2 0 0 rfl, ldV x2 1408 1 rfl, ldV x2 2816 2 rfl, ldV x2 4224 3 rfl, ldV x2 5632 4 rfl, ldV x2 7040 5 rfl]
  canon_tiles x h
  · exact scoreCast_key x0 x1 5 j r k x h0 h1 h2
  · exact scoreCast_key x0 x1 4 j r k x h0 h1 h2
  · exact scoreCast_key x0 x1 3 j r k x h0 h1 h2
  · exact scoreCast_key x0 x1 2 j r k x h0 h1 h2
  · exact scoreCast_key x0 x1 1 j r k x h0 h1 h2
  · exact scoreCast_key x0 x1 0 j r k x (h0.trans (Nat.zero_add _).symm) h1 h2

set_option maxHeartbeats 4000000 in
/-- The new row maxima. -/
theorem soutC_M : VS0_2.read (Elt Ideal) (VS0_2.writes (Elt Ideal) VS0_2.junk (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.2.2.2.2.1) = mxArr x0 x1 := by
  rw [← maxSpread_all]
  funext y
  obtain ⟨r, l, rfl⟩ : ∃ (r : Fin 512) (l : Fin 128), y = ix2 r l := ⟨y 0, y 1, eq_ix2 y⟩
  frame_out
  set_option backward.isDefEq.respectTransparency false in simp only [ldV x1 0 0 rfl, ldV x1 1408 1 rfl, ldV x1 2816 2 rfl, ldV x1 4224 3 rfl, ldV x1 5632 4 rfl, ldV x1 7040 5 rfl, ldV x2 0 0 rfl, ldV x2 1408 1 rfl, ldV x2 2816 2 rfl, ldV x2 4224 3 rfl, ldV x2 5632 4 rfl, ldV x2 7040 5 rfl]
  rfl

set_option maxHeartbeats 4000000 in
/-- The output block. -/
theorem outC_O : VO0_5.read (Elt Ideal) (VO0_5.writes (Elt Ideal) VO0_5.junk (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).1) = outArr x2 xs1 xs3 := by
  funext y
  obtain ⟨q, e, rfl⟩ : ∃ (q : Fin 128) (e : Fin 512), y = ix2 q e := ⟨y 0, y 1, eq_ix2 y⟩
  frame_out
  set_option backward.isDefEq.respectTransparency false in simp only [ldV x1 0 0 rfl, ldV x1 1408 1 rfl, ldV x1 2816 2 rfl, ldV x1 4224 3 rfl, ldV x1 5632 4 rfl, ldV x1 7040 5 rfl, ldV x2 0 0 rfl, ldV x2 1408 1 rfl, ldV x2 2816 2 rfl, ldV x2 4224 3 rfl, ldV x2 5632 4 rfl, ldV x2 7040 5 rfl, ldS xs1 0 0 rfl, ldS xs1 1 1 rfl, ldS xs1 2 2 rfl, ldS xs1 3 3 rfl, ldS xs1 4 4 rfl, ldS xs1 5 5 rfl]
  canon_tiles x h
  · exact out_row3 x2 xs1 xs3 q e x h0 h1
  · exact out_row2 x2 xs1 xs3 q e x h0 h1
  · exact out_row1 x2 xs1 xs3 q e x h0 h1
  · exact out_row0 x2 xs1 xs3 q e x h0 (h1.trans (Nat.zero_add _).symm)

end Cert.KernelIdeal.Attn
end
-- ==== Proof.Attn.Ideal.CaseC.lean ====
/- What a run of the attention kernel's body does at an even point after the first, which turns the scores of the second buffer into an output block and fills the first buffer: the buffers it is given and the buffers it leaves, at their contents. -/
module

public import proofs.«01_k».proof.Proof.Attn.Ideal.ValC

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable  (c : Dev nD) (i : grid0.Coords) (arg3 : Memref sig .tc .vmem S128x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S16x11264 .f32) (harg6 : arg6.IsWhole) (arg7 : Memref sig .tc .vmem S32x2048 .f32) (harg7 : arg7.IsWhole) (arg8 : Memref sig .tc .vmem S128x512 .bf16) (harg8 : arg8.IsWhole) (arg9 : Memref sig .tc .vmem S16x11264 .bf16) (harg9 : arg9.IsWhole) (arg10 : Memref sig .tc .vmem S32x2048 .bf16) (harg10 : arg10.IsWhole) (arg11 : Memref sig .tc .vmem S6x512x1408 .f32) (harg11 : arg11.IsWhole) (arg12 : Memref sig .tc .vmem S6x512x1408 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : ¬cond0_0 i) (hc1 : cond0_1 i) (hc2 : ¬cond0_2 i) (hc3 : ¬cond0_3 i)
    (x0 : Vec Ideal S128x512 .bf16) (x1 : Vec Ideal S1x8448x128 .bf16) (x2 : Vec Ideal S1x8448x128 .bf16) (x3 : Vec Ideal S16x11264 .f32) (x4 : Vec Ideal S32x2048 .f32) (xs1 : Vec Ideal S6x512x1408 .f32) (xs3 : Vec Ideal S512x128 .f32)

/-- The output pieces fill their buffer. -/
theorem coverC_5 (y : S128x512.Idx) : ∃ pc ∈ (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).1, y ∈ pc.1.set :=
  View.cover_of_tiledL (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).1 S128x128.size (by sl_kernel_rfl) y

/-- The pieces of the first weight block fill their buffer. -/
theorem coverC_6 (y : S16x11264.Idx) : ∃ pc ∈ (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.1, y ∈ pc.1.set :=
  View.cover_of_tiledL (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.1 S16x11264.size (by sl_kernel_rfl) y

/-- The pieces of the second weight block fill their buffer. -/
theorem coverC_7 (y : S32x2048.Idx) : ∃ pc ∈ (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.2.1, y ∈ pc.1.set :=
  View.cover_of_tiledL (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.2.1 S32x2048.size (by sl_kernel_rfl) y

/-- The score pieces fill their buffer. -/
theorem coverC_s0 (y : S6x512x1408.Idx) : ∃ pc ∈ (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.2.2.1, y ∈ pc.1.set :=
  View.cover_of_tiledL (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.2.2.1 S1x512x1408.size (by sl_kernel_rfl) y

/-- The row maxima pieces fill their buffer. -/
theorem coverC_s2 (y : S512x128.Idx) : ∃ pc ∈ (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.2.2.2.2.1, y ∈ pc.1.set :=
  View.cover_of_tiledL (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.2.2.2.2.1 S512x128.size (by sl_kernel_rfl) y

set_option maxHeartbeats 4000000 in
/-- The first weight block is the block handed in. -/
theorem outC_6 : VO0_6.read (Elt Ideal) (VO0_6.writes (Elt Ideal) VO0_6.junk (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.1) = castUp x3 := by
  funext y
  frame_out
  rfl

set_option maxHeartbeats 4000000 in
/-- The second weight block is the block handed in. -/
theorem outC_7 : VO0_7.read (Elt Ideal) (VO0_7.writes (Elt Ideal) VO0_7.junk (kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.2.1) = castDown x4 := by
  funext y
  frame_out
  rfl

include hc0 hc1 hc2 hc3 in
set_option maxHeartbeats 4000000 in
/-- The run at the buffers' contents. -/
theorem caseC (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs1 ∗ (∃ d, owns (c : Thread nD τ) arg13 fullShare d) ∗ owns (c : Thread nD τ) arg14 fullShare xs3 ∗ (∃ d, owns (c : Thread nD τ) arg15 fullShare d) ∗ (∃ d, owns (c : Thread nD τ) arg16 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outArr x2 xs1 xs3) ∗ owns (c : Thread nD τ) arg9 fullShare (castUp x3) ∗ owns (c : Thread nD τ) arg10 fullShare (castDown x4) ∗ owns (c : Thread nD τ) arg11 fullShare (scArr x0 x1) ∗ owns (c : Thread nD τ) arg12 fullShare xs1 ∗ owns (c : Thread nD τ) arg13 fullShare (mxArr x0 x1) ∗ owns (c : Thread nD τ) arg14 fullShare xs3 ∗ (∃ d, owns (c : Thread nD τ) arg15 fullShare d) ∗ (∃ d, owns (c : Thread nD τ) arg16 fullShare d)) -∗ K ⟨⟩))
      ⊢ wp frame (wpE (defs₀ (F := Ideal)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, HS0, HS1, HS2, HS3, HS4, HS5, Hk⟩
  iapply ((kernelRun0_C (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.2.2.2.2.2.2.2.2  E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%e5, H5⟩, ⟨%e6, H6⟩, ⟨%e7, H7⟩, ⟨%es0, HS0⟩, HS1, ⟨%es2, HS2⟩, HS3, ⟨%es4, HS4⟩, ⟨%es5, HS5⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr; swap; · iexact H5
    ipureintro; exact (View.read_writes_of_cover _ _ _ _ _ (coverC_5 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3)).trans (outC_O ..)
  isplitl [H6]
  · unfold owns; iexists _; isplitr; swap; · iexact H6
    ipureintro; exact (View.read_writes_of_cover _ _ _ _ _ (coverC_6 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3)).trans (outC_6 ..)
  isplitl [H7]
  · unfold owns; iexists _; isplitr; swap; · iexact H7
    ipureintro; exact (View.read_writes_of_cover _ _ _ _ _ (coverC_7 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3)).trans (outC_7 ..)
  isplitl [HS0]
  · unfold owns; iexists _; isplitr; swap; · iexact HS0
    ipureintro; exact (View.read_writes_of_cover _ _ _ _ _ (coverC_s0 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3)).trans (soutC_S ..)
  isplitl [HS1]; · iexact HS1
  isplitl [HS2]
  · unfold owns; iexists _; isplitr; swap; · iexact HS2
    ipureintro; exact (View.read_writes_of_cover _ _ _ _ _ (coverC_s2 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3)).trans (soutC_M ..)
  isplitl [HS3]; · iexact HS3
  isplitl [HS4]
  · unfold owns; iexists _; iexists _; isplitr; swap; · iexact HS4
    ipureintro; rfl
  · unfold owns; iexists _; iexists _; isplitr; swap; · iexact HS5
    ipureintro; rfl

end Cert.KernelIdeal.Attn
end
-- ==== Proof.Attn.Ideal.LoopD.lean ====
/- The counted loop of a last point: six blocks of exponentials, summed lane by lane and multiplied with the values. -/
module

public import proofs.«01_k».proof.Proof.Attn.Ideal.LoopA

@[expose] public section

set_option maxRecDepth 16384

noncomputable section

namespace Cert.KernelIdeal.Attn

open Cert.KernelIdeal.Gen Idealize.ShloMosaic Idealize.ShloMosaic.Pipeline Idealize.SL.Sem

/-- The lane-wise sum of exponentials after the first `n` blocks, from `g`. -/
def sumUpTo (S : Vec Ideal S6x512x1408 .f32) (M : Vec Ideal S512x128 .f32) (g : Vec Ideal S512x128 .f32) : Nat → Vec Ideal S512x128 .f32
  | 0 => g
  | n + 1 => if h : n < 6 then sumStep (sBlk S ⟨n, h⟩) M (sumUpTo S M g n) else sumUpTo S M g n

/-- The product with the values after the first `n` blocks, from `g`. -/
def accUpTo (S : Vec Ideal S6x512x1408 .f32) (M : Vec Ideal S512x128 .f32) (v : Vec Ideal S1x8448x128 .bf16)
    (g : Vec Ideal S512x128 .f32) : Nat → Vec Ideal S512x128 .f32
  | 0 => g
  | n + 1 => if h : n < 6 then accStep (sBlk S ⟨n, h⟩) M (vBlk v ⟨n, h⟩) (accUpTo S M v g n) else accUpTo S M v g n

section
variable (𝒱 : Variants) (c : Dev nD) (bd : Option 𝒱.V) (i : grid0.Coords) (arg3 : Memref sig .tc .vmem S128x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S16x11264 .f32) (harg6 : arg6.IsWhole) (arg7 : Memref sig .tc .vmem S32x2048 .f32) (harg7 : arg7.IsWhole) (arg8 : Memref sig .tc .vmem S128x512 .bf16) (harg8 : arg8.IsWhole) (arg9 : Memref sig .tc .vmem S16x11264 .bf16) (harg9 : arg9.IsWhole) (arg10 : Memref sig .tc .vmem S32x2048 .bf16) (harg10 : arg10.IsWhole) (arg11 : Memref sig .tc .vmem S6x512x1408 .f32) (harg11 : arg11.IsWhole) (arg12 : Memref sig .tc .vmem S6x512x1408 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (k0_h4 : k0_cond4 i = 1#1) (X_arg5 : BufTy.Contents (Elt Ideal) arg5.view.ty) (X_arg12 : BufTy.Contents (Elt Ideal) arg12.view.ty) (X_arg14 : BufTy.Contents (Elt Ideal) arg14.view.ty)

set_option maxHeartbeats 2000000 in
/-- What one trip leaves of the lane-wise sum. -/
theorem trip2_fst (k : Fin k0_t2_loop.trips) (kk : Fin 6) (hk : kk.val = k.val) (f15 : BufTy.Contents (Elt Ideal) arg15.view.ty) (f16 : BufTy.Contents (Elt Ideal) arg16.view.ty) :
    arg15.view.read (Elt Ideal) (arg15.view.writes (Elt Ideal) f15 ((trip_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h4 X_arg5 X_arg12 X_arg14 k).1 f15 f16))
      = sumStep (sBlk (arg12.view.read (Elt Ideal) X_arg12) kk) (arg14.view.read (Elt Ideal) X_arg14) (arg15.view.read (Elt Ideal) f15) := by
  rw [← readAt_s X_arg12 (k0_off5 k) kk (by rw [k0_off5_eq, hk]) (k0_off5_inb i k k0_h4), ← readAt_m X_arg14 inb_S512x128_S512x128_0_0,
    ← readAt_m f15 inb_S512x128_S512x128_0_0]
  unfold trip_k0_t2
  dsimp only
  rw [read_writes_m]
  rfl

set_option maxHeartbeats 2000000 in
/-- What one trip leaves of the product with the values. -/
theorem trip2_snd (k : Fin k0_t2_loop.trips) (kk : Fin 6) (hk : kk.val = k.val) (f15 : BufTy.Contents (Elt Ideal) arg15.view.ty) (f16 : BufTy.Contents (Elt Ideal) arg16.view.ty) :
    arg16.view.read (Elt Ideal) (arg16.view.writes (Elt Ideal) f16 ((trip_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h4 X_arg5 X_arg12 X_arg14 k).2.1 f15 f16))
      = accStep (sBlk (arg12.view.read (Elt Ideal) X_arg12) kk) (arg14.view.read (Elt Ideal) X_arg14) (vBlk (arg5.view.read (Elt Ideal) X_arg5) kk) (arg16.view.read (Elt Ideal) f16) := by
  rw [← readAt_s X_arg12 (k0_off5 k) kk (by rw [k0_off5_eq, hk]) (k0_off5_inb i k k0_h4), ← readAt_m X_arg14 inb_S512x128_S512x128_0_0,
    ← readAt_v X_arg5 (k0_off6 k) kk (by rw [k0_off6_eq, hk]) (k0_off6_inb i k k0_h4), ← readAt_m f16 inb_S512x128_S512x128_0_0]
  unfold trip_k0_t2
  dsimp only
  rw [read_writes_m]
  rfl

/-- The lane-wise sum and the product with the values after `n` trips. -/
theorem loop2 (G_arg15 : BufTy.Contents (Elt Ideal) arg15.view.ty) (G_arg16 : BufTy.Contents (Elt Ideal) arg16.view.ty) (n : Nat) (hn : n ≤ 6) :
    arg15.view.read (Elt Ideal) (arg15.view.writes (Elt Ideal) G_arg15 (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h4 X_arg5 X_arg12 X_arg14 G_arg15 G_arg16 n).1)
        = sumUpTo (arg12.view.read (Elt Ideal) X_arg12) (arg14.view.read (Elt Ideal) X_arg14) (arg15.view.read (Elt Ideal) G_arg15) n
    ∧ arg16.view.read (Elt Ideal) (arg16.view.writes (Elt Ideal) G_arg16 (pb_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h4 X_arg5 X_arg12 X_arg14 G_arg15 G_arg16 n).2)
        = accUpTo (arg12.view.read (Elt Ideal) X_arg12) (arg14.view.read (Elt Ideal) X_arg14) (arg5.view.read (Elt Ideal) X_arg5) (arg16.view.read (Elt Ideal) G_arg16) n := by
  induction n with
  | zero => exact ⟨rfl, rfl⟩
  | succ n ih =>
    obtain ⟨ih1, ih2⟩ := ih (by omega)
    have hT : k0_t2_loop.trips = 6 := by decide +kernel
    have hs := pb_k0_t2_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 k0_h4 X_arg5 X_arg12 X_arg14 G_arg15 G_arg16 ⟨n, by omega⟩
    rw [hs]
    dsimp only [tripL_k0_t2]
    rw [View.writes_append, View.writes_append]
    constructor
    · refine (trip2_fst (kk := ⟨n, by omega⟩) (hk := rfl) ..).trans ?_
      rw [ih1]
      show _ = dite _ _ _
      rw [dif_pos (show n < 6 by omega)]
    · refine (trip2_snd (kk := ⟨n, by omega⟩) (hk := rfl) ..).trans ?_
      rw [ih2]
      show _ = dite _ _ _
      rw [dif_pos (show n < 6 by omega)]

end

end Cert.KernelIdeal.Attn
end
-- ==== Proof.Attn.Ideal.RunD.lean ====
/- The run of the body at the LAST point of a head (inner coordinate 64): attention is taken from the second score buffer; no scores are made. -/
module

public import proofs.«01_k».proof.Proof.Attn.Ideal.Runs

@[expose] public section

-- membership in a rectangle of production extents (`View.cover_of_tiled`): the elaborator's structural look
-- recurses once per coordinate of the long axes
set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 20000000 in
/-- The run of the body at the last point of a head: it reads the second score buffer and its row maxima and fills neither.
    On whole buffers, the inputs' at their contents, the body runs on to the continuation, which is handed the inputs' buffers as
    they were and each buffer the body stores into with a list of written pieces; the lists are this definition's components. -/
noncomputable def kernelRun0_D (c : Dev nD) (i : grid0.Coords) (arg3 : Memref sig .tc .vmem S128x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S16x11264 .f32) (harg6 : arg6.IsWhole) (arg7 : Memref sig .tc .vmem S32x2048 .f32) (harg7 : arg7.IsWhole) (arg8 : Memref sig .tc .vmem S128x512 .bf16) (harg8 : arg8.IsWhole) (arg9 : Memref sig .tc .vmem S16x11264 .bf16) (harg9 : arg9.IsWhole) (arg10 : Memref sig .tc .vmem S32x2048 .bf16) (harg10 : arg10.IsWhole) (arg11 : Memref sig .tc .vmem S6x512x1408 .f32) (harg11 : arg11.IsWhole) (arg12 : Memref sig .tc .vmem S6x512x1408 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : ¬cond0_0 i) (hc1 : ¬cond0_1 i) (hc2 : ¬cond0_2 i) (hc3 : cond0_3 i)
    (x0 : Vec F S128x512 .bf16) (x1 : Vec F S1x8448x128 .bf16) (x2 : Vec F S1x8448x128 .bf16) (x3 : Vec F S16x11264 .f32) (x4 : Vec F S32x2048 .f32) (xs1 : Vec F S6x512x1408 .f32) (xs3 : Vec F S512x128 .f32) :
    Σ' (L5 : List (View.Piece (Elt F) S128x512 .bf16)), Σ' (L6 : List (View.Piece (Elt F) S16x11264 .bf16)), Σ' (L7 : List (View.Piece (Elt F) S32x2048 .bf16)), Σ' (LS0 : List (View.Piece (Elt F) S6x512x1408 .f32)), Σ' (LS1 : List (View.Piece (Elt F) S6x512x1408 .f32)), Σ' (LS2 : List (View.Piece (Elt F) S512x128 .f32)), Σ' (LS3 : List (View.Piece (Elt F) S512x128 .f32)), Σ' (LT4 : List (View.Piece (Elt F) S512x128 .f32)), { LT5 : List (View.Piece (Elt F) S512x128 .f32) //
      ∀ (xs0 : Vec F S6x512x1408 .f32) (xs2 : Vec F S512x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ owns (c : Thread nD τ) arg11 fullShare xs0 ∗ owns (c : Thread nD τ) arg12 fullShare xs1 ∗ owns (c : Thread nD τ) arg13 fullShare xs2 ∗ owns (c : Thread nD τ) arg14 fullShare xs3 ∗ (∃ d, owns (c : Thread nD τ) arg15 fullShare d) ∗ (∃ d, owns (c : Thread nD τ) arg16 fullShare d)) -∗ K ⟨⟩))
          ⊢ wp frame (wpE (defs₀ (F := F)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, [], [], [], [], [], [], fun xs0 xs2 E K => ?run⟩
  case run =>
    simp only [cc0_attention_eq_skeleton]; unfold cc0_attention_skel
    simp only [k0_part32_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, ⟨%ds4, %fs4, -, HS4⟩, ⟨%ds5, %fs5, -, HS5⟩, Hk⟩
    obtain rfl := harg3.eq_unread hf0; obtain rfl := harg4.eq_unread hf1; obtain rfl := harg5.eq_unread hf2; obtain rfl := harg6.eq_unread hf3; obtain rfl := harg7.eq_unread hf4; obtain rfl := harg11.eq_unread hfs0; obtain rfl := harg12.eq_unread hfs1; obtain rfl := harg13.eq_unread hfs2; obtain rfl := harg14.eq_unread hfs3
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [H7]; · iexists _; iexact H7
    isplitl [HS0]
    · iexists _; isplitr; · ipureintro; exact harg11.read_unread _
      iexact HS0
    isplitl [HS1]
    · iexists _; isplitr; · ipureintro; exact harg12.read_unread _
      iexact HS1
    isplitl [HS2]
    · iexists _; isplitr; · ipureintro; exact harg13.read_unread _
      iexact HS2
    isplitl [HS3]
    · iexists _; isplitr; · ipureintro; exact harg14.read_unread _
      iexact HS3
    isplitl [HS4]
    · iexists _, _; isplitr; swap; · iexact HS4
      ipureintro; rfl
    iexists _, _; isplitr; swap; · iexact HS5
    ipureintro; rfl

end Cert.KernelIdeal.Attn

end
-- ==== Proof.Attn.Ideal.ValD.lean ====
/- What the run at a last point leaves: the output block of the scores it was handed. -/
module

public import proofs.«01_k».proof.Proof.Attn.Ideal.LoopD
public import proofs.«01_k».proof.Proof.Attn.Ideal.RunD

@[expose] public section

set_option maxRecDepth 16384

noncomputable section

namespace Cert.KernelIdeal.Attn

open Cert.KernelIdeal.Gen Idealize.ShloMosaic Idealize.ShloMosaic.Pipeline Idealize.SL.Sem

variable  (c : Dev nD) (i : grid0.Coords) (arg3 : Memref sig .tc .vmem S128x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S16x11264 .f32) (harg6 : arg6.IsWhole) (arg7 : Memref sig .tc .vmem S32x2048 .f32) (harg7 : arg7.IsWhole) (arg8 : Memref sig .tc .vmem S128x512 .bf16) (harg8 : arg8.IsWhole) (arg9 : Memref sig .tc .vmem S16x11264 .bf16) (harg9 : arg9.IsWhole) (arg10 : Memref sig .tc .vmem S32x2048 .bf16) (harg10 : arg10.IsWhole) (arg11 : Memref sig .tc .vmem S6x512x1408 .f32) (harg11 : arg11.IsWhole) (arg12 : Memref sig .tc .vmem S6x512x1408 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : ¬cond0_0 i) (hc1 : ¬cond0_1 i) (hc2 : ¬cond0_2 i) (hc3 : cond0_3 i)
    (x0 : Vec Ideal S128x512 .bf16) (x1 : Vec Ideal S1x8448x128 .bf16) (x2 : Vec Ideal S1x8448x128 .bf16) (x3 : Vec Ideal S16x11264 .f32) (x4 : Vec Ideal S32x2048 .f32) (xs1 : Vec Ideal S6x512x1408 .f32) (xs3 : Vec Ideal S512x128 .f32)

/-- Six trips sum over all six blocks. -/
theorem sumUpTo_six (S : Vec Ideal S6x512x1408 .f32) (M : Vec Ideal S512x128 .f32) : sumUpTo S M zeroInit 6 = sumAll S M := by
  simp only [sumUpTo]
  rfl

/-- Six trips multiply all six blocks. -/
theorem accUpTo_six (S : Vec Ideal S6x512x1408 .f32) (M : Vec Ideal S512x128 .f32) (v : Vec Ideal S1x8448x128 .bf16) :
    accUpTo S M v zeroInit 6 = accAll S M v := by
  simp only [accUpTo]
  rfl

/-- The product with the values after the loop. -/
theorem accD : kernelRun0_D.sl.v55 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc3 x2 xs1 xs3 = accAll xs1 xs3 x2 := by
  rw [kernelRun0_D.sl.v55.eq_1]
  refine (readAt_m _ _).trans ?_
  rw [View.writes_append]
  refine (loop2 (n := 6) (hn := le_rfl) ..).2.trans ?_
  rw [harg5.read_unread, harg12.read_unread, harg14.read_unread, ← accUpTo_six]
  congr 1
  exact read_writes_m _ _ _ _

/-- The lane-wise sum after the loop. -/
theorem sumD : kernelRun0_D.sl.v56 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc3 x2 xs1 xs3 = sumAll xs1 xs3 := by
  rw [kernelRun0_D.sl.v56.eq_1]
  refine (readAt_m _ _).trans ?_
  rw [View.writes_append]
  refine (loop2 (n := 6) (hn := le_rfl) ..).1.trans ?_
  rw [harg12.read_unread, harg14.read_unread, ← sumUpTo_six]
  congr 1
  exact read_writes_m _ _ _ _

set_option maxHeartbeats 1000000 in
/-- The output block. -/
theorem outD_O : VO0_5.read (Elt Ideal) (VO0_5.writes (Elt Ideal) VO0_5.junk (kernelRun0_D (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).1) = outArr x2 xs1 xs3 := by
  funext y
  obtain ⟨q, e, rfl⟩ : ∃ (q : Fin 128) (e : Fin 512), y = ix2 q e := ⟨y 0, y 1, eq_ix2 y⟩
  unfold kernelRun0_D
  dsimp only
  rw [View.read_writes_junk_eq_canon]
  rw [accD, sumD]
  canon_tiles x h
  · exact out_row3 x2 xs1 xs3 q e x h0 h1
  · exact out_row2 x2 xs1 xs3 q e x h0 h1
  · exact out_row1 x2 xs1 xs3 q e x h0 h1
  · exact out_row0 x2 xs1 xs3 q e x h0 (h1.trans (Nat.zero_add _).symm)

end Cert.KernelIdeal.Attn
end
-- ==== Proof.Attn.Ideal.CaseD.lean ====
/- What a run of the attention kernel's body does at the last point of a head, which turns the scores of the second buffer into an output block: the buffers it is given and the buffers it leaves, at their contents. -/
module

public import proofs.«01_k».proof.Proof.Attn.Ideal.ValD

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable  (c : Dev nD) (i : grid0.Coords) (arg3 : Memref sig .tc .vmem S128x512 .bf16) (harg3 : arg3.IsWhole) (arg4 : Memref sig .tc .vmem S1x8448x128 .bf16) (harg4 : arg4.IsWhole) (arg5 : Memref sig .tc .vmem S1x8448x128 .bf16) (harg5 : arg5.IsWhole) (arg6 : Memref sig .tc .vmem S16x11264 .f32) (harg6 : arg6.IsWhole) (arg7 : Memref sig .tc .vmem S32x2048 .f32) (harg7 : arg7.IsWhole) (arg8 : Memref sig .tc .vmem S128x512 .bf16) (harg8 : arg8.IsWhole) (arg9 : Memref sig .tc .vmem S16x11264 .bf16) (harg9 : arg9.IsWhole) (arg10 : Memref sig .tc .vmem S32x2048 .bf16) (harg10 : arg10.IsWhole) (arg11 : Memref sig .tc .vmem S6x512x1408 .f32) (harg11 : arg11.IsWhole) (arg12 : Memref sig .tc .vmem S6x512x1408 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x128 .f32) (harg15 : arg15.IsWhole) (arg16 : Memref sig .tc .vmem S512x128 .f32) (harg16 : arg16.IsWhole) (hc0 : ¬cond0_0 i) (hc1 : ¬cond0_1 i) (hc2 : ¬cond0_2 i) (hc3 : cond0_3 i)
    (x0 : Vec Ideal S128x512 .bf16) (x1 : Vec Ideal S1x8448x128 .bf16) (x2 : Vec Ideal S1x8448x128 .bf16) (x3 : Vec Ideal S16x11264 .f32) (x4 : Vec Ideal S32x2048 .f32) (xs1 : Vec Ideal S6x512x1408 .f32) (xs3 : Vec Ideal S512x128 .f32)

/-- The output pieces fill their buffer. -/
theorem coverD_5 (y : S128x512.Idx) : ∃ pc ∈ (kernelRun0_D (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).1, y ∈ pc.1.set :=
  View.cover_of_tiledL (kernelRun0_D (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).1 S128x128.size (by sl_kernel_rfl) y

/-- The pieces of the first weight block fill their buffer. -/
theorem coverD_6 (y : S16x11264.Idx) : ∃ pc ∈ (kernelRun0_D (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.1, y ∈ pc.1.set :=
  View.cover_of_tiledL (kernelRun0_D (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.1 S16x11264.size (by sl_kernel_rfl) y

/-- The pieces of the second weight block fill their buffer. -/
theorem coverD_7 (y : S32x2048.Idx) : ∃ pc ∈ (kernelRun0_D (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.2.1, y ∈ pc.1.set :=
  View.cover_of_tiledL (kernelRun0_D (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.2.1 S32x2048.size (by sl_kernel_rfl) y

set_option maxHeartbeats 4000000 in
/-- The first weight block is the block handed in. -/
theorem outD_6 : VO0_6.read (Elt Ideal) (VO0_6.writes (Elt Ideal) VO0_6.junk (kernelRun0_D (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.1) = castUp x3 := by
  funext y
  frame_out
  rfl

set_option maxHeartbeats 4000000 in
/-- The second weight block is the block handed in. -/
theorem outD_7 : VO0_7.read (Elt Ideal) (VO0_7.writes (Elt Ideal) VO0_7.junk (kernelRun0_D (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.2.1) = castDown x4 := by
  funext y
  frame_out
  rfl

include hc0 hc1 hc2 hc3 in
set_option maxHeartbeats 4000000 in
/-- The run at the buffers' contents. -/
theorem caseD (xs0 : Vec Ideal S6x512x1408 .f32) (xs2 : Vec Ideal S512x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1 ∗ owns (c : Thread nD τ) arg13 fullShare xs2 ∗ owns (c : Thread nD τ) arg14 fullShare xs3 ∗ (∃ d, owns (c : Thread nD τ) arg15 fullShare d) ∗ (∃ d, owns (c : Thread nD τ) arg16 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (outArr x2 xs1 xs3) ∗ owns (c : Thread nD τ) arg9 fullShare (castUp x3) ∗ owns (c : Thread nD τ) arg10 fullShare (castDown x4) ∗ owns (c : Thread nD τ) arg11 fullShare xs0 ∗ owns (c : Thread nD τ) arg12 fullShare xs1 ∗ owns (c : Thread nD τ) arg13 fullShare xs2 ∗ owns (c : Thread nD τ) arg14 fullShare xs3 ∗ (∃ d, owns (c : Thread nD τ) arg15 fullShare d) ∗ (∃ d, owns (c : Thread nD τ) arg16 fullShare d)) -∗ K ⟨⟩))
      ⊢ wp frame (wpE (defs₀ (F := Ideal)) Variants.none c none) E (cc0_attention i arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, HS0, HS1, HS2, HS3, HS4, HS5, Hk⟩
  iapply ((kernelRun0_D (F := Ideal) c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3).2.2.2.2.2.2.2.2.2 xs0 xs2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%e5, H5⟩, ⟨%e6, H6⟩, ⟨%e7, H7⟩, HS0, HS1, HS2, HS3, HS4, HS5⟩
  iapply Hk
  isplitl [H0]; · iexact H0
  isplitl [H1]; · iexact H1
  isplitl [H2]; · iexact H2
  isplitl [H3]; · iexact H3
  isplitl [H4]; · iexact H4
  isplitl [H5]
  · unfold owns; iexists _; isplitr; swap; · iexact H5
    ipureintro; exact (View.read_writes_of_cover _ _ _ _ _ (coverD_5 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3)).trans (outD_O ..)
  isplitl [H6]
  · unfold owns; iexists _; isplitr; swap; · iexact H6
    ipureintro; exact (View.read_writes_of_cover _ _ _ _ _ (coverD_6 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3)).trans (outD_6 ..)
  isplitl [H7]
  · unfold owns; iexists _; isplitr; swap; · iexact H7
    ipureintro; exact (View.read_writes_of_cover _ _ _ _ _ (coverD_7 c i arg3 harg3 arg4 harg4 arg5 harg5 arg6 harg6 arg7 harg7 arg8 harg8 arg9 harg9 arg10 harg10 arg11 harg11 arg12 harg12 arg13 harg13 arg14 harg14 arg15 harg15 arg16 harg16 hc0 hc1 hc2 hc3 x0 x1 x2 x3 x4 xs1 xs3)).trans (outD_7 ..)
  isplitl [HS0]; · iexact HS0
  isplitl [HS1]; · iexact HS1
  isplitl [HS2]; · iexact HS2
  isplitl [HS3]; · iexact HS3
  isplitl [HS4]; · iexact HS4
  iexact HS5

end Cert.KernelIdeal.Attn
end
-- ==== Proof.Attn.Ideal.Frame.lean ====
/- The run of the attention kernel's pipeline: what its score buffers hold between points, what each output block is written
   with, and the frame. -/
module

public import proofs.«01_k».proof.Proof.Attn.Ideal.CaseA
public import proofs.«01_k».proof.Proof.Attn.Ideal.CaseB
public import proofs.«01_k».proof.Proof.Attn.Ideal.CaseC
public import proofs.«01_k».proof.Proof.Attn.Ideal.CaseD
public import Idealize.ShloMosaic.Lib.Claim

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The scores of point `n`'s query block against its whole key block. -/
def scAt (c : Dev nD) (n : ℕ) (h : n < cfg0.N) : Vec Ideal S6x512x1408 .f32 := scArr (iblk m c 0 ⟨n, h⟩) (iblk m c 1 ⟨n, h⟩)

/-- The row maxima of those scores. -/
def mxAt (c : Dev nD) (n : ℕ) (h : n < cfg0.N) : Vec Ideal S512x128 .f32 := mxArr (iblk m c 0 ⟨n, h⟩) (iblk m c 1 ⟨n, h⟩)

/-- The output block written at point `t`: the attention of the query block of the point before. (At the first point nothing
    is written.) -/
def outAt (c : Dev nD) (t : Fin cfg0.N) : Vec Ideal S128x512 .bf16 :=
  outArr (iblk m c 2 t) (scAt m c (t.val - 1) (lt_of_le_of_lt (Nat.sub_le _ _) t.isLt)) (mxAt m c (t.val - 1) (lt_of_le_of_lt (Nat.sub_le _ _) t.isLt))

/-- A scratch buffer, at known contents when `P` holds and at some contents otherwise. -/
def kept (P : Prop) [Decidable P] (c : Dev nD) {S : Shape} {e : EltTy} (a : Memref sig .tc .vmem S e) (v : Vec Ideal S e) : sProp 𝕄 :=
  if P then owns (c : Thread nD τ) a fullShare v else iprop(∃ d, owns (c : Thread nD τ) a fullShare d)

theorem kept_yes {P : Prop} [Decidable P] (h : P) (c : Dev nD) {S : Shape} {e : EltTy} (a : Memref sig .tc .vmem S e) (v : Vec Ideal S e) :
    kept P c a v = owns (c : Thread nD τ) a fullShare v := if_pos h

theorem kept_no {P : Prop} [Decidable P] (h : ¬P) (c : Dev nD) {S : Shape} {e : EltTy} (a : Memref sig .tc .vmem S e) (v : Vec Ideal S e) :
    kept P c a v = iprop(∃ d, owns (c : Thread nD τ) a fullShare d) := if_neg h

theorem kept_some {P : Prop} [Decidable P] (c : Dev nD) {S : Shape} {e : EltTy} (a : Memref sig .tc .vmem S e) (v : Vec Ideal S e) :
    kept P c a v ⊢ iprop(∃ d, owns (c : Thread nD τ) a fullShare d) := by
  by_cases h : P
  · rw [kept_yes h]; iintro H; iexists _; iexact H
  · rw [kept_no h]

/-- Between points: after an even point of a head but its last, the first score buffer and its maxima are that point's; after
    an odd point, the second's are. -/
def PhiS (c : Dev nD) : (n : ℕ) → n ≤ cfg0.N → sProp 𝕄
  | 0, _ => Pipeline.ΦA spec0 c
  | n + 1, hn => iprop(iprop(kept (n % 65 % 2 = 0 ∧ n % 65 ≠ 64) c scM0_0 (scAt m c n hn) ∗ kept (n % 65 % 2 = 1) c scM0_1 (scAt m c n hn)
      ∗ kept (n % 65 % 2 = 0 ∧ n % 65 ≠ 64) c scM0_2 (mxAt m c n hn) ∗ kept (n % 65 % 2 = 1) c scM0_3 (mxAt m c n hn)
      ∗ (∃ d, owns (c : Thread nD τ) scM0_4 fullShare d) ∗ (∃ d, owns (c : Thread nD τ) scM0_5 fullShare d)) ∗ (∃ r, prngReg c r))

theorem PhiS_succ (c : Dev nD) (n : ℕ) (hn : n < cfg0.N) :
    PhiS m c (n + 1) hn = iprop(iprop(kept (n % 65 % 2 = 0 ∧ n % 65 ≠ 64) c scM0_0 (scAt m c n hn) ∗ kept (n % 65 % 2 = 1) c scM0_1 (scAt m c n hn)
      ∗ kept (n % 65 % 2 = 0 ∧ n % 65 ≠ 64) c scM0_2 (mxAt m c n hn) ∗ kept (n % 65 % 2 = 1) c scM0_3 (mxAt m c n hn)
      ∗ (∃ d, owns (c : Thread nD τ) scM0_4 fullShare d) ∗ (∃ d, owns (c : Thread nD τ) scM0_5 fullShare d)) ∗ (∃ r, prngReg c r)) := rfl

theorem PhiS_pos (c : Dev nD) (n : ℕ) (h : n ≤ cfg0.N) (hz : n ≠ 0) :
    PhiS m c n h = PhiS m c (n - 1 + 1) (by omega) := by
  cases n with
  | zero => exact absurd rfl hz
  | succ n => rfl

/-- The contents forgotten. -/
theorem PhiS_any (c : Dev nD) (n : ℕ) (h : n ≤ cfg0.N) : PhiS m c n h ⊢ Pipeline.ΦA spec0 c := by
  cases n with
  | zero => exact .rfl
  | succ n =>
    rw [PhiS_succ, PhiA0_eq]
    exact sep_mono_left (Laws.sep_mono (kept_some _ _ _) (Laws.sep_mono (kept_some _ _ _) (Laws.sep_mono (kept_some _ _ _) (sep_mono_left (kept_some _ _ _)))))

/-- The pipeline's data: inputs stay at their blocks; the outputs are the attention block, and the rounded weight blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => castUp (iblk m c 3 t)
    | ⟨7, _⟩ => castDown (iblk m c 4 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]
theorem after0_6 (c : Dev nD) (t : Fin cfg0.N) : (dats m 0 c).after 6 t = castUp (iblk m c 3 t) := by dsimp only [dats]
theorem after0_7 (c : Dev nD) (t : Fin cfg0.N) : (dats m 0 c).after 7 t = castDown (iblk m c 4 t) := by dsimp only [dats]

/-! An input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! What a live window is left with. -/
theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [liveAt0_0 t], after0_0]
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [liveAt0_1 t], after0_1]
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [liveAt0_2 t], after0_2]
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [liveAt0_3 t], after0_3]
theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [liveAt0_4 t], after0_4]
theorem leaves0_5 (c : Dev nD) (t : Fin cfg0.N) (hl : cfg0.idle 5 (grid0.coords t) = false) :
    (dats m 0 c).leavesExact 5 t = owns (c : Thread nD τ) (ms0_5 t) fullShare (outAt m c t) := by
  rw [show (dats m 0 c).leavesExact 5 t = owns (c : Thread nD τ) (ms0_5 t) fullShare ((dats m 0 c).after 5 t) from by
    unfold Dat.leavesExact; rw [hl], after0_5]
theorem leaves0_6 (c : Dev nD) (t : Fin cfg0.N) :
    (dats m 0 c).leavesExact 6 t = owns (c : Thread nD τ) (ms0_6 t) fullShare (castUp (iblk m c 3 t)) := by
  rw [show (dats m 0 c).leavesExact 6 t = owns (c : Thread nD τ) (ms0_6 t) fullShare ((dats m 0 c).after 6 t) from by
    unfold Dat.leavesExact; rw [liveAt0_6 t], after0_6]
theorem leaves0_7 (c : Dev nD) (t : Fin cfg0.N) :
    (dats m 0 c).leavesExact 7 t = owns (c : Thread nD τ) (ms0_7 t) fullShare (castDown (iblk m c 4 t)) := by
  rw [show (dats m 0 c).leavesExact 7 t = owns (c : Thread nD τ) (ms0_7 t) fullShare ((dats m 0 c).after 7 t) from by
    unfold Dat.leavesExact; rw [liveAt0_7 t], after0_7]

/-- What the body is given at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
/-- The first point of a head. -/
theorem sound_A (c : Dev nD) (t : Fin cfg0.N) (h : t.val % 65 = 0) :
    bodyPre m c t ⊢ wp frame (wpE (defs₀ (F := Ideal)) Variants.none c none) Set.univ (bodyAt0 t) (fun _ => bodyPost m c t) := by
  have hc0 : cond0_0 (grid0.coords t) := ((hcond0_0 t).mpr (by omega))
  have hc1 : ¬cond0_1 (grid0.coords t) := (fun h' => by have := (hcond0_1 t).mp h'; omega)
  have hc2 : ¬cond0_2 (grid0.coords t) := (fun h' => by have := (hcond0_2 t).mp h'; omega)
  have hc3 : ¬cond0_3 (grid0.coords t) := (fun h' => by have := (hcond0_3 t).mp h'; omega)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_6, leaves0_7]
  rw [Dat.leavesExact_idle (dats m 0 c) 5 t (idleAt0_5_A t hc0 hc1 hc2 hc3) (noFlush0_5_A t hc0 hc1 hc2 hc3)]
  rw [kept_yes ⟨by omega, by omega⟩, kept_no (by omega), kept_yes ⟨by omega, by omega⟩, kept_no (by omega)]
  rw [PhiS_castSucc m c t]
  refine (sep_mono_left (PhiS_any m c _ _)).trans ?_
  rw [PhiA0_eq]
  iintro ⟨⟨⟨⟨%v0, HS0⟩, ⟨%v1, HS1⟩, HS2, ⟨%v3, HS3⟩, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (caseA c (grid0.coords t) _ _ _ _ _ _ _ _ _ _ _ _ _ _ _ _ _ _ _ _ _ _ _ _ _ _ _ _ hc0 hc1 hc2 hc3 (iblk m c 0 t) (iblk m c 1 t) (iblk m c 2 t) (iblk m c 3 t) (iblk m c 4 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexists _; iexact HS1
      isplitl [HS2]; · iexact HS2
      isplitl [HS3]; · iexists _; iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  iexact H7

set_option maxHeartbeats 4000000 in
/-- An odd point. -/
theorem sound_B (c : Dev nD) (t : Fin cfg0.N) (h : t.val % 65 % 2 = 1) :
    bodyPre m c t ⊢ wp frame (wpE (defs₀ (F := Ideal)) Variants.none c none) Set.univ (bodyAt0 t) (fun _ => bodyPost m c t) := by
  have hc0 : ¬cond0_0 (grid0.coords t) := (fun h' => by have := (hcond0_0 t).mp h'; omega)
  have hc1 : ¬cond0_1 (grid0.coords t) := (fun h' => by have := (hcond0_1 t).mp h'; omega)
  have hc2 : cond0_2 (grid0.coords t) := ((hcond0_2 t).mpr (by omega))
  have hc3 : ¬cond0_3 (grid0.coords t) := (fun h' => by have := (hcond0_3 t).mp h'; omega)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_6, leaves0_7]
  rw [leaves0_5 m c t (liveAt0_5_B t hc0 hc1 hc2 hc3)]
  rw [kept_no (by omega), kept_yes h, kept_no (by omega), kept_yes h]
  rw [PhiS_castSucc m c t, PhiS_pos m c _ _ (by omega), PhiS_succ]
  rw [kept_yes ⟨by omega, by omega⟩, kept_no (by omega), kept_yes ⟨by omega, by omega⟩, kept_no (by omega)]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (caseB c (grid0.coords t) _ _ _ _ _ _ _ _ _ _ _ _ _ _ _ _ _ _ _ _ _ _ _ _ _ _ _ _ hc0 hc1 hc2 hc3 (iblk m c 0 t) (iblk m c 1 t) (iblk m c 2 t) (iblk m c 3 t) (iblk m c 4 t) (scAt m c (t.val - 1) (lt_of_le_of_lt (Nat.sub_le _ _) t.isLt)) (mxAt m c (t.val - 1) (lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, HS0, HS1, HS2, HS3, HS4, HS5⟩
  isplitl [HS0 HS1 HS2 HS3 HS4 HS5 Hg]
  · isplitl [HS0 HS1 HS2 HS3 HS4 HS5]
    · isplitl [HS0]; · iexists _; iexact HS0
      isplitl [HS1]; · iexact HS1
      isplitl [HS2]; · iexists _; iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- An even point, neither first nor last. -/
theorem sound_C (c : Dev nD) (t : Fin cfg0.N) (h : t.val % 65 % 2 = 0 ∧ t.val % 65 ≠ 0 ∧ t.val % 65 ≠ 64) :
    bodyPre m c t ⊢ wp frame (wpE (defs₀ (F := Ideal)) Variants.none c none) Set.univ (bodyAt0 t) (fun _ => bodyPost m c t) := by
  have hc0 : ¬cond0_0 (grid0.coords t) := (fun h' => by have := (hcond0_0 t).mp h'; omega)
  have hc1 : cond0_1 (grid0.coords t) := ((hcond0_1 t).mpr (by omega))
  have hc2 : ¬cond0_2 (grid0.coords t) := (fun h' => by have := (hcond0_2 t).mp h'; omega)
  have hc3 : ¬cond0_3 (grid0.coords t) := (fun h' => by have := (hcond0_3 t).mp h'; omega)
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_6, leaves0_7]
  rw [leaves0_5 m c t (liveAt0_5_C t hc0 hc1 hc2 hc3)]
  rw [kept_yes ⟨by omega, by omega⟩, kept_no (by omega), kept_yes ⟨by omega, by omega⟩, kept_no (by omega)]
  rw [PhiS_castSucc m c t, PhiS_pos m c _ _ (by omega), PhiS_succ]
  rw [kept_no (by omega), kept_yes (by omega), kept_no (by omega), kept_yes (by omega)]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (caseC c (grid0.coords t) _ _ _ _ _ _ _ _ _ _ _ _ _ _ _ _ _ _ _ _ _ _ _ _ _ _ _ _ hc0 hc1 hc2 hc3 (iblk m c 0 t) (iblk m c 1 t) (iblk m c 2 t) (iblk m c 3 t) (iblk m c 4 t) (scAt m c (t.val - 1) (lt_of_le_of_lt (Nat.sub_le _ _) t.isLt)) (mxAt m c (t.val - 1) (lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexists _; iexact HS1
      isplitl [HS2]; · iexact HS2
      isplitl [HS3]; · iexists _; iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4000000 in
/-- The last point of a head. -/
theorem sound_D (c : Dev nD) (t : Fin cfg0.N) (h : t.val % 65 = 64) :
    bodyPre m c t ⊢ wp frame (wpE (defs₀ (F := Ideal)) Variants.none c none) Set.univ (bodyAt0 t) (fun _ => bodyPost m c t) := by
  have hc0 : ¬cond0_0 (grid0.coords t) := (fun h' => by have := (hcond0_0 t).mp h'; omega)
  have hc1 : ¬cond0_1 (grid0.coords t) := (fun h' => by have := (hcond0_1 t).mp h'; omega)
  have hc2 : ¬cond0_2 (grid0.coords t) := (fun h' => by have := (hcond0_2 t).mp h'; omega)
  have hc3 : cond0_3 (grid0.coords t) := ((hcond0_3 t).mpr (by omega))
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_6, leaves0_7]
  rw [leaves0_5 m c t (liveAt0_5_D t hc0 hc1 hc2 hc3)]
  rw [kept_no (by omega), kept_no (by omega), kept_no (by omega), kept_no (by omega)]
  rw [PhiS_castSucc m c t, PhiS_pos m c _ _ (by omega), PhiS_succ]
  rw [kept_no (by omega), kept_yes (by omega), kept_no (by omega), kept_yes (by omega)]
  iintro ⟨⟨⟨⟨%v0, HS0⟩, HS1, ⟨%v2, HS2⟩, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (caseD c (grid0.coords t) _ _ _ _ _ _ _ _ _ _ _ _ _ _ _ _ _ _ _ _ _ _ _ _ _ _ _ _ hc0 hc1 hc2 hc3 (iblk m c 0 t) (iblk m c 1 t) (iblk m c 2 t) (iblk m c 3 t) (iblk m c 4 t) (scAt m c (t.val - 1) (lt_of_le_of_lt (Nat.sub_le _ _) t.isLt)) (mxAt m c (t.val - 1) (lt_of_le_of_lt (Nat.sub_le _ _) t.isLt)) _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, HS0, HS1, HS2, HS3, HS4, HS5⟩
  isplitl [HS0 HS1 HS2 HS3 HS4 HS5 Hg]
  · isplitl [HS0 HS1 HS2 HS3 HS4 HS5]
    · isplitl [HS0]; · iexists _; iexact HS0
      isplitl [HS1]; · iexists _; iexact HS1
      isplitl [HS2]; · iexists _; iexact HS2
      isplitl [HS3]; · iexists _; iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem sound_body (c : Dev nD) (t : Fin cfg0.N) :
    bodyPre m c t ⊢ wp frame (wpE (defs₀ (F := Ideal)) Variants.none c none) Set.univ (bodyAt0 t) (fun _ => bodyPost m c t) := by
  by_cases hA : t.val % 65 = 0
  · exact sound_A m c t hA
  by_cases hB : t.val % 65 % 2 = 1
  · exact sound_B m c t hB
  by_cases hD : t.val % 65 = 64
  · exact sound_D m c t hD
  exact sound_C m c t ⟨by omega, hA, hD⟩

/-- The body table's row at a point's slots is the body at that point. -/
theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact .rfl

theorem hout (c : Dev nD) : (dats m 0 c).Φ (Fin.last cfg0.N) ⊢ Pipeline.ΦA spec0 c :=
  by
  rw [show (dats m 0 c).Φ (Fin.last cfg0.N) = PhiS m c cfg0.N (le_refl _) from rfl]
  exact PhiS_any m c _ _

set_option backward.isDefEq.respectTransparency.types false in
/-- Every execution ends, with the arrays at what the pipeline's data says and every semaphore at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := Ideal))) (s₀ m ρ) (Pipeline.FramePost cfgs (dats m) 0 (V m)) :=
  (θ_run defs _ _).mono (fun _ h => h.1) (run_main_quiescent m ρ)

/-- The frame, over exact numbers: every execution ends with the arguments unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Attn
end
-- ==== Proof.Attn.Ideal.Blocks.lean ====
/- What the blocks of a grid point are, read in the arguments' arrays, and what the whole attention is in those arrays. -/
module

public import proofs.«01_k».proof.Proof.Attn.Ideal.Frame
public import Idealize.ShloMosaic.Lib.Pipeline.ValueKit

@[expose] public section

/-! The grid is 2 batches by 2 key heads by 65 points: point `t` is point `t % 65` of batch `t / 130` and head
`t / 65 % 2`. Point `i` of a head scores query block `i` and writes the output block of query block `i - 1`. -/

set_option maxRecDepth 16384

noncomputable section

namespace Cert.KernelIdeal.Attn

open Cert.KernelIdeal.Gen
open Idealize.ShloMosaic Idealize.ShloMosaic.TcCoe Idealize.ShloMosaic.Tactic Idealize.ShloMosaic.Pipeline Idealize.SL.Sem

variable (m : (ℓ : Loc nD τ sig) → Buf (Elt Ideal) ℓ) (c : Dev nD)

/-- The index maps of the attention's own windows, decided over the grid. -/
theorem idx_attn : ∀ t : Fin cfg0.N,
    win0_0.index t = ![t.val / 130 * 64 + min (t.val % 65) 63, t.val / 65 % 2]
    ∧ win0_1.index t = ![t.val / 130, 0, t.val / 65 % 2] ∧ win0_2.index t = ![t.val / 130, 0, t.val / 65 % 2]
    ∧ win0_5.index t = ![t.val / 130 * 64 + (t.val % 65 - 1), t.val / 65 % 2] := by decide +kernel

/-- The index maps of the weights' windows, decided over the grid. -/
theorem idx_side : ∀ t : Fin cfg0.N,
    win0_3.index t = ![min t.val 127, 0] ∧ win0_4.index t = ![min t.val 175, 0]
    ∧ win0_6.index t = ![min t.val 127, 0] ∧ win0_7.index t = ![min t.val 175, 0] := by decide +kernel

/-- The factor the host multiplies the queries with. -/
def qScale : EReal :=
  Ideal.div (Ideal.ofBits .f32 0x3F800000#32) (Ideal.sqrt (Ideal.ofBits .f32 0x43000000#32) * Ideal.log (Ideal.ofBits .f32 0x40000000#32))

/-- The queries. -/
abbrev qAt (R : Fin 16384) (n : Fin 1024) : EReal := m ((c.tc : Thread nD τ).loc main_arg0) (ix2 R n)

/-- The keys. -/
abbrev kAt (b : Fin 2) (s : Fin 8448) (n : Fin 256) : EReal := m ((c.tc : Thread nD τ).loc main_arg1) (ix3 b s n)

/-- The values. -/
abbrev vAt (b : Fin 2) (s : Fin 8448) (n : Fin 256) : EReal := m ((c.tc : Thread nD τ).loc main_arg2) (ix3 b s n)

/-- The batch of a query row. -/
abbrev batchOf (R : Fin 16384) : Fin 2 := ⟨R.val / 8192, by omega⟩

/-- Lane `d` of query head `H`. -/
abbrev qLane (H : Fin 8) (d : Fin 128) : Fin 1024 := ⟨H * 128 + d, by omega⟩

/-- Lane `d` of the key head that query head `H` reads. -/
abbrev kLane (H : Fin 8) (d : Fin 128) : Fin 256 := ⟨H / 4 * 128 + d, by omega⟩

/-- The scaled score of key `s` for row `R` of query head `H`. -/
def kScore (R : Fin 16384) (H : Fin 8) (s : Fin 8448) : EReal :=
  ∑ d : Fin 128, (qAt m c R (qLane H d) * qScale) * kAt m c (batchOf R) s (kLane H d)

/-- The largest of a row's scores. -/
def kMax (R : Fin 16384) (H : Fin 8) : EReal :=
  Finset.univ.sup fun e : Fin 128 => Finset.univ.sup fun j : Fin 6 => Finset.univ.sup fun k : Fin 11 =>
    kScore m c R H (keyOf j (lane k e))

/-- The attention's entry at row `R`, lane `d` of query head `H`. -/
def kOut (R : Fin 16384) (H : Fin 8) (d : Fin 128) : EReal :=
  Ideal.div (∑ j : Fin 6, ∑ k : Fin 1408, Ideal.exp2 (kScore m c R H (keyOf j k) - kMax m c R H) * vAt m c (batchOf R) (keyOf j k) (kLane H d))
    (∑ l : Fin 128, ∑ j : Fin 6, ∑ k : Fin 11, Ideal.exp2 (kScore m c R H (keyOf j (lane k l)) - kMax m c R H))

/-- The scaled queries, as the region finds them. -/
theorem V_q (R : Fin 16384) (n : Fin 1024) : V m c main_v6 (ix2 R n) = qAt m c R n * qScale := by
  have h : V m c main_v6 = (truncf .bf16 (mulf (m ((c.tc : Thread nD τ).loc main_arg0) : FVec Ideal S16384x1024 .f32) (broadcastInDim S16384x1024 ![] bcast_S_S16384x1024
      (Host.divf (constant S_ .f32 0x3F800000#32) (mulf (Host.sqrt (constant S_ .f32 0x43000000#32)) (Host.log (constant S_ .f32 0x40000000#32)))))) bitsLt_bf16_f32 : FVec Ideal S16384x1024 .bf16) := by
    unfold V
    after_results
  rw [h]
  rfl

theorem blk0 (t : Fin cfg0.N) (r : Fin 128) (n : Fin 512) :
    iblk m c 0 t (ix2 r n) = qAt m c ⟨(t.val / 130 * 64 + min (t.val % 65) 63) * 128 + r, by have := lt_of_lt_of_eq t.isLt (show cfg0.N = 260 from N_0); omega⟩
      ⟨t.val / 65 % 2 * 512 + n, by omega⟩ * qScale := by
  have hi := (idx_attn t).1
  have hN := lt_of_lt_of_eq t.isLt (show cfg0.N = 260 from N_0)
  rw [← V_q]
  show V m c main_v6 (((cfg0.win 0).blk t).view.emb (ix2 r n)) = _
  congr 1
  funext a; apply Fin.ext
  match a with
  | ⟨0, _⟩ => show win0_0.index t (0 : Fin 2) * 128 + 1 * r.val = _; rw [hi]; show (_ * 128 + 1 * r.val : ℕ) = _ * 128 + r.val; rw [one_mul]; rfl
  | ⟨1, _⟩ => show win0_0.index t (1 : Fin 2) * 512 + 1 * n.val = _; rw [hi]; show (_ * 512 + 1 * n.val : ℕ) = _ * 512 + n.val; rw [one_mul]; rfl

theorem blk1 (t : Fin cfg0.N) (s : Fin 8448) (d : Fin 128) :
    iblk m c 1 t (ix3 0 s d) = kAt m c ⟨t.val / 130, by have := lt_of_lt_of_eq t.isLt (show cfg0.N = 260 from N_0); omega⟩ s ⟨t.val / 65 % 2 * 128 + d, by omega⟩ := by
  have hi := (idx_attn t).2.1
  have hN := lt_of_lt_of_eq t.isLt (show cfg0.N = 260 from N_0)
  show V m c main_arg1 (((cfg0.win 1).blk t).view.emb (ix3 0 s d)) = _
  rw [show V m c main_arg1 = m ((c.tc : Thread nD τ).loc main_arg1) from V_main_arg1 m c]
  refine congrArg (m ((c.tc : Thread nD τ).loc main_arg1)) ?_
  funext a; apply Fin.ext
  match a with
  | ⟨0, _⟩ => show win0_1.index t (0 : Fin 3) * 1 + 1 * 0 = t.val / 130; rw [hi]; show t.val / 130 * 1 + 1 * 0 = _; omega
  | ⟨1, _⟩ => show win0_1.index t (1 : Fin 3) * 8448 + 1 * s.val = s.val; rw [hi]; show 0 * 8448 + 1 * s.val = _; omega
  | ⟨2, _⟩ => show win0_1.index t (2 : Fin 3) * 128 + 1 * d.val = t.val / 65 % 2 * 128 + d.val; rw [hi]; show t.val / 65 % 2 * 128 + 1 * d.val = _; omega

theorem blk2 (t : Fin cfg0.N) (s : Fin 8448) (d : Fin 128) :
    iblk m c 2 t (ix3 0 s d) = vAt m c ⟨t.val / 130, by have := lt_of_lt_of_eq t.isLt (show cfg0.N = 260 from N_0); omega⟩ s ⟨t.val / 65 % 2 * 128 + d, by omega⟩ := by
  have hi := (idx_attn t).2.2.1
  have hN := lt_of_lt_of_eq t.isLt (show cfg0.N = 260 from N_0)
  show V m c main_arg2 (((cfg0.win 2).blk t).view.emb (ix3 0 s d)) = _
  rw [show V m c main_arg2 = m ((c.tc : Thread nD τ).loc main_arg2) from V_main_arg2 m c]
  refine congrArg (m ((c.tc : Thread nD τ).loc main_arg2)) ?_
  funext a; apply Fin.ext
  match a with
  | ⟨0, _⟩ => show win0_2.index t (0 : Fin 3) * 1 + 1 * 0 = t.val / 130; rw [hi]; show t.val / 130 * 1 + 1 * 0 = _; omega
  | ⟨1, _⟩ => show win0_2.index t (1 : Fin 3) * 8448 + 1 * s.val = s.val; rw [hi]; show 0 * 8448 + 1 * s.val = _; omega
  | ⟨2, _⟩ => show win0_2.index t (2 : Fin 3) * 128 + 1 * d.val = t.val / 65 % 2 * 128 + d.val; rw [hi]; show t.val / 65 % 2 * 128 + 1 * d.val = _; omega

/-- The scores of the blocks at point `t`, in the arrays. -/
theorem score_blk (t : Fin cfg0.N) (h63 : t.val % 65 < 64) (g : Fin 4) (r : Fin 128) (s : Fin 8448) :
    score (iblk m c 0 t) (iblk m c 1 t) ⟨g * 128 + r, by omega⟩ s
      = kScore m c ⟨(t.val / 130 * 64 + t.val % 65) * 128 + r, by have := lt_of_lt_of_eq t.isLt (show cfg0.N = 260 from N_0); omega⟩
          ⟨t.val / 65 % 2 * 4 + g, by omega⟩ s := by
  have hN := lt_of_lt_of_eq t.isLt (show cfg0.N = 260 from N_0)
  unfold score kScore
  refine Finset.sum_congr rfl fun d _ => ?_
  unfold qRow
  rw [blk0, blk1]
  refine congrArg₂ (· * ·) (congrArg (· * qScale) ?_) ?_
  · refine congrArg₂ (qAt m c) (Fin.ext ?_) (Fin.ext ?_)
    · show (t.val / 130 * 64 + min (t.val % 65) 63) * 128 + (g.val * 128 + r.val) % 128 = (t.val / 130 * 64 + t.val % 65) * 128 + r.val
      omega
    · show t.val / 65 % 2 * 512 + ((g.val * 128 + r.val) / 128 * 128 + d.val) = (t.val / 65 % 2 * 4 + g.val) * 128 + d.val
      omega
  · refine congrArg₂ (fun b n => kAt m c b s n) (Fin.ext ?_) (Fin.ext ?_)
    · show t.val / 130 = ((t.val / 130 * 64 + t.val % 65) * 128 + r.val) / 8192
      omega
    · show t.val / 65 % 2 * 128 + d.val = (t.val / 65 % 2 * 4 + g.val) / 4 * 128 + d.val
      omega

/-- The output block written at a head's point `i ≥ 1`, in the arrays. -/
theorem outAt_apply (t : Fin cfg0.N) (h0 : 0 < t.val % 65) (r : Fin 128) (g : Fin 4) (d : Fin 128) :
    outAt m c t (ix2 r (⟨g * 128 + d, by omega⟩ : Fin 512))
      = kOut m c ⟨(t.val / 130 * 64 + (t.val % 65 - 1)) * 128 + r, by have := lt_of_lt_of_eq t.isLt (show cfg0.N = 260 from N_0); omega⟩
          ⟨t.val / 65 % 2 * 4 + g, by omega⟩ d := by
  have hN := lt_of_lt_of_eq t.isLt (show cfg0.N = 260 from N_0)
  have hp : t.val - 1 < cfg0.N := lt_of_le_of_lt (Nat.sub_le _ _) t.isLt
  have e65 : (t.val - 1) % 65 = t.val % 65 - 1 := by omega
  have e130 : (t.val - 1) / 130 = t.val / 130 := by omega
  have eh : (t.val - 1) / 65 % 2 = t.val / 65 % 2 := by omega
  have hs : ∀ s, score (iblk m c 0 ⟨t.val - 1, hp⟩) (iblk m c 1 ⟨t.val - 1, hp⟩) ⟨g * 128 + r, by omega⟩ s
      = kScore m c ⟨(t.val / 130 * 64 + (t.val % 65 - 1)) * 128 + r, by omega⟩ ⟨t.val / 65 % 2 * 4 + g, by omega⟩ s := by
    intro s
    rw [score_blk m c ⟨t.val - 1, hp⟩ (by show (t.val - 1) % 65 < 64; omega)]
    refine congrArg₂ (fun R H => kScore m c R H s) (Fin.ext ?_) (Fin.ext ?_)
    · show ((t.val - 1) / 130 * 64 + (t.val - 1) % 65) * 128 + r.val = _
      rw [e65, e130]
    · show (t.val - 1) / 65 % 2 * 4 + g.val = _
      rw [eh]
  have hrow : (⟨(g * 128 + d) / 128 * 128 + r, by omega⟩ : Fin 512) = ⟨g * 128 + r, by omega⟩ := Fin.ext (by show (g.val * 128 + d.val) / 128 * 128 + r.val = g.val * 128 + r.val; omega)
  have hd : (⟨(g * 128 + d) % 128, by omega⟩ : Fin 128) = d := Fin.ext (by show (g.val * 128 + d.val) % 128 = d.val; omega)
  show rowOut (iblk m c 2 t) (scAt m c (t.val - 1) hp) (mxAt m c (t.val - 1) hp) ⟨(g * 128 + d) / 128 * 128 + r, by omega⟩ ⟨(g * 128 + d) % 128, by omega⟩ = _
  rw [hrow, hd]
  have hS : ∀ j k, scAt m c (t.val - 1) hp (ix3 j ⟨g * 128 + r, by omega⟩ k)
      = kScore m c ⟨(t.val / 130 * 64 + (t.val % 65 - 1)) * 128 + r, by omega⟩ ⟨t.val / 65 % 2 * 4 + g, by omega⟩ (keyOf j k) := fun j k => hs _
  have hM : ∀ l, mxAt m c (t.val - 1) hp (ix2 ⟨g * 128 + r, by omega⟩ l)
      = kMax m c ⟨(t.val / 130 * 64 + (t.val % 65 - 1)) * 128 + r, by omega⟩ ⟨t.val / 65 % 2 * 4 + g, by omega⟩ := fun l => by
    show (Finset.univ.sup fun e : Fin 128 => Finset.univ.sup fun j : Fin 6 => Finset.univ.sup fun k : Fin 11 => score (iblk m c 0 ⟨t.val - 1, hp⟩) (iblk m c 1 ⟨t.val - 1, hp⟩) ⟨g * 128 + r, by omega⟩ (keyOf j (lane k e))) = _
    simp only [hs]; rfl
  unfold rowOut kOut pVal
  refine congrArg₂ Ideal.div ?_ ?_
  · refine Finset.sum_congr rfl fun j _ => Finset.sum_congr rfl fun k _ => ?_
    rw [hS, hM, blk2]
    refine congrArg₂ (· * ·) rfl (congrArg₂ (fun b n => vAt m c b (keyOf j k) n) (Fin.ext ?_) (Fin.ext ?_))
    · show t.val / 130 = ((t.val / 130 * 64 + (t.val % 65 - 1)) * 128 + r.val) / 8192
      omega
    · show t.val / 65 % 2 * 128 + d.val = (t.val / 65 % 2 * 4 + g.val) / 4 * 128 + d.val
      omega
  · refine Finset.sum_congr rfl fun l _ => Finset.sum_congr rfl fun j _ => Finset.sum_congr rfl fun k _ => ?_
    rw [hS, hM]

end Cert.KernelIdeal.Attn
end
-- ==== Proof.Attn.Ideal.Value.lean ====
/- What the result arrays hold when the attention kernel has run. -/
module

public import proofs.«01_k».proof.Proof.Attn.Ideal.Blocks

@[expose] public section

set_option maxRecDepth 16384

noncomputable section

namespace Cert.KernelIdeal.Attn

open Cert.KernelIdeal.Gen
open Idealize.ShloMosaic Idealize.ShloMosaic.TcCoe Idealize.ShloMosaic.Tactic Idealize.ShloMosaic.Pipeline Idealize.SL.Sem

variable (m : (ℓ : Loc nD τ sig) → Buf (Elt Ideal) ℓ) (ρ : Dev nD → PrngReg) (c : Dev nD)

/-- The attention's array: lane `n` is lane `n % 128` of query head `n / 128`. -/
def G5 : S16384x1024.Idx → EReal := fun i =>
  kOut m c (i 0) ⟨(i 1).val / 128, by have h : (i 1).val < 1024 := (i 1).isLt; omega⟩ ⟨(i 1).val % 128, Nat.mod_lt _ (by decide)⟩

/-- The first weight, unchanged by the rounding. -/
def G6 : S2048x11264.Idx → EReal := fun i => m ((c.tc : Thread nD τ).loc main_arg3) i

/-- The second weight, unchanged by the rounding. -/
def G7 : S5632x2048.Idx → EReal := fun i => m ((c.tc : Thread nD τ).loc main_arg4) i

/-- No output block is written back before its head's second point. -/
theorem flush5 : ∀ t : Fin cfg0.N, (cfg0.win 5).flush t = true → 0 < t.val % 65 :=
  (by decide +kernel : ∀ t : Fin grid0.N, win0_5.flush t = true → 0 < t.val % 65)

theorem flushed5_eq (t : Fin cfg0.N) (hf : (cfg0.win 5).flush t = true) :
    (dats m 0 c).flushed 5 t = ((cfg0.win 5).blk t).view.read (Elt Ideal) (G5 m c) := by
  have h0 := flush5 t hf
  have hN := lt_of_lt_of_eq t.isLt (show cfg0.N = 260 from N_0)
  have hi := (idx_attn t).2.2.2
  show (cfg0.win 5).cut (grid0.coords t) ((dats m 0 c).after 5 t) = _
  rw [after0_5]
  funext y
  have hy0 : (y 0).val < 128 := (y 0).isLt
  have hy1 : (y 1).val < 512 := (y 1).isLt
  have hb0 : (((cfg0.win 5).blk t).view.emb y 0).val = (t.val / 130 * 64 + (t.val % 65 - 1)) * 128 + (y 0).val := by
    show win0_5.index t (0 : Fin 2) * 128 + 1 * (y 0).val = _
    rw [hi]; show (_ * 128 + 1 * (y 0).val : ℕ) = _ * 128 + (y 0).val; rw [one_mul]; rfl
  have hb1 : (((cfg0.win 5).blk t).view.emb y 1).val = t.val / 65 % 2 * 512 + (y 1).val := by
    show win0_5.index t (1 : Fin 2) * 512 + 1 * (y 1).val = _
    rw [hi]; show (_ * 512 + 1 * (y 1).val : ℕ) = _ * 512 + (y 1).val; rw [one_mul]; rfl
  have hy : (cfg0.win 5).xinj (grid0.coords t) y
      = (ix2 (⟨(y 0).val, hy0⟩ : Fin 128) (⟨(⟨(y 1).val / 128, by omega⟩ : Fin 4) * 128 + (⟨(y 1).val % 128, Nat.mod_lt _ (by decide)⟩ : Fin 128), by show (y 1).val / 128 * 128 + (y 1).val % 128 < 512; omega⟩ : Fin 512)) := by
    funext a; apply Fin.ext
    match a with
    | ⟨0, _⟩ => rfl
    | ⟨1, _⟩ => show (y 1).val = (y 1).val / 128 * 128 + (y 1).val % 128; omega
  show outAt m c t ((cfg0.win 5).xinj (grid0.coords t) y) = G5 m c (((cfg0.win 5).blk t).view.emb y)
  rw [hy, outAt_apply m c t h0]
  unfold G5
  have e0 : (⟨(t.val / 130 * 64 + (t.val % 65 - 1)) * 128 + (y 0).val, by omega⟩ : Fin 16384) = ((cfg0.win 5).blk t).view.emb y 0 := Fin.ext hb0.symm
  have e1 : (⟨t.val / 65 % 2 * 4 + (y 1).val / 128, by omega⟩ : Fin 8)
      = ⟨(((cfg0.win 5).blk t).view.emb y 1).val / 128, by rw [hb1]; omega⟩ := Fin.ext (by show _ = _ / 128; rw [hb1]; show t.val / 65 % 2 * 4 + (y 1).val / 128 = _; omega)
  have e2 : (⟨(y 1).val % 128, Nat.mod_lt _ (by decide)⟩ : Fin 128)
      = ⟨(((cfg0.win 5).blk t).view.emb y 1).val % 128, Nat.mod_lt _ (by decide)⟩ := Fin.ext (by show _ = _ % 128; rw [hb1]; show (y 1).val % 128 = _; omega)
  exact congr (congrArg₂ (kOut m c) e0 e1) e2

theorem flushed6_eq (t : Fin cfg0.N) (hf : (cfg0.win 6).flush t = true) :
    (dats m 0 c).flushed 6 t = ((cfg0.win 6).blk t).view.read (Elt Ideal) (G6 m c) := by
  have hi := idx_side t
  show (cfg0.win 6).cut (grid0.coords t) ((dats m 0 c).after 6 t) = _
  rw [after0_6]
  funext y
  show V m c main_arg3 (((cfg0.win 3).blk t).view.emb ((cfg0.win 6).xinj (grid0.coords t) y)) = m ((c.tc : Thread nD τ).loc main_arg3) (((cfg0.win 6).blk t).view.emb y)
  rw [show V m c main_arg3 = m ((c.tc : Thread nD τ).loc main_arg3) from V_main_arg3 m c]
  refine congrArg (m ((c.tc : Thread nD τ).loc main_arg3)) ?_
  funext a; apply Fin.ext
  match a with
  | ⟨0, _⟩ => show win0_3.index t (0 : Fin 2) * 16 + 1 * (y 0).val = win0_6.index t (0 : Fin 2) * 16 + 1 * (y 0).val; rw [hi.1, hi.2.2.1]
  | ⟨1, _⟩ => show win0_3.index t (1 : Fin 2) * 11264 + 1 * (y 1).val = win0_6.index t (1 : Fin 2) * 11264 + 1 * (y 1).val; rw [hi.1, hi.2.2.1]

theorem flushed7_eq (t : Fin cfg0.N) (hf : (cfg0.win 7).flush t = true) :
    (dats m 0 c).flushed 7 t = ((cfg0.win 7).blk t).view.read (Elt Ideal) (G7 m c) := by
  have hi := idx_side t
  show (cfg0.win 7).cut (grid0.coords t) ((dats m 0 c).after 7 t) = _
  rw [after0_7]
  funext y
  show V m c main_arg4 (((cfg0.win 4).blk t).view.emb ((cfg0.win 7).xinj (grid0.coords t) y)) = m ((c.tc : Thread nD τ).loc main_arg4) (((cfg0.win 7).blk t).view.emb y)
  rw [show V m c main_arg4 = m ((c.tc : Thread nD τ).loc main_arg4) from V_main_arg4 m c]
  refine congrArg (m ((c.tc : Thread nD τ).loc main_arg4)) ?_
  funext a; apply Fin.ext
  match a with
  | ⟨0, _⟩ => show win0_4.index t (0 : Fin 2) * 32 + 1 * (y 0).val = win0_7.index t (0 : Fin 2) * 32 + 1 * (y 0).val; rw [hi.2.1, hi.2.2.2]
  | ⟨1, _⟩ => show win0_4.index t (1 : Fin 2) * 2048 + 1 * (y 1).val = win0_7.index t (1 : Fin 2) * 2048 + 1 * (y 1).val; rw [hi.2.1, hi.2.2.2]

/-! ## Every block is written back -/

/-- The point that writes back the block of queries `q` of head `h`, both batches counted through. -/
abbrev pt5 (q : Fin 128) (h : Fin 2) : Fin grid0.N :=
  ⟨q.val / 64 * 130 + h.val * 65 + q.val % 64 + 1, lt_of_lt_of_eq (by omega) N_0.symm⟩

theorem onto5 : ∀ (q : Fin 128) (h : Fin 2), win0_5.flush (pt5 q h) = true ∧ win0_5.index (pt5 q h) = ![q.val, h.val] := by decide +kernel

/-- The point that writes back the first weight's block `q`. -/
abbrev pt6 (q : Fin 128) : Fin grid0.N := ⟨if q.val = 127 then 259 else q.val, lt_of_lt_of_eq (by split <;> omega) N_0.symm⟩

theorem onto6 : ∀ q : Fin 128, win0_6.flush (pt6 q) = true ∧ win0_6.index (pt6 q) = ![q.val, 0] := by decide +kernel

/-- The point that writes back the second weight's block `q`. -/
abbrev pt7 (q : Fin 176) : Fin grid0.N := ⟨if q.val = 175 then 259 else q.val, lt_of_lt_of_eq (by split <;> omega) N_0.symm⟩

set_option maxHeartbeats 1000000 in
theorem onto7 : ∀ q : Fin 176, win0_7.flush (pt7 q) = true ∧ win0_7.index (pt7 q) = ![q.val, 0] := by decide +kernel

theorem mem_blk5 (t : Fin cfg0.N) (i : S16384x1024.Idx) :
    i ∈ ((cfg0.win 5).blk t).view.set ↔ ∀ a : Fin 2, win0_5.index t a * S128x512.size a ≤ (i a).val ∧ (i a).val < win0_5.index t a * S128x512.size a + S128x512.size a := by
  show i ∈ ((View.whole main_v7_0).slice (win0_5.rect t)).set ↔ _
  rw [View.set_slice_whole, Rect.mem_set_unit]
  exact Iff.rfl

theorem mem_blk6 (t : Fin cfg0.N) (i : S2048x11264.Idx) :
    i ∈ ((cfg0.win 6).blk t).view.set ↔ ∀ a : Fin 2, win0_6.index t a * S16x11264.size a ≤ (i a).val ∧ (i a).val < win0_6.index t a * S16x11264.size a + S16x11264.size a := by
  show i ∈ ((View.whole main_v7_1).slice (win0_6.rect t)).set ↔ _
  rw [View.set_slice_whole, Rect.mem_set_unit]
  exact Iff.rfl

theorem mem_blk7 (t : Fin cfg0.N) (i : S5632x2048.Idx) :
    i ∈ ((cfg0.win 7).blk t).view.set ↔ ∀ a : Fin 2, win0_7.index t a * S32x2048.size a ≤ (i a).val ∧ (i a).val < win0_7.index t a * S32x2048.size a + S32x2048.size a := by
  show i ∈ ((View.whole main_v7_2).slice (win0_7.rect t)).set ↔ _
  rw [View.set_slice_whole, Rect.mem_set_unit]
  exact Iff.rfl

theorem cover5 (i : S16384x1024.Idx) : ∃ t : Fin cfg0.N, (cfg0.win 5).flush t = true ∧ i ∈ ((cfg0.win 5).blk t).view.set := by
  have hi0 : (i 0).val < 16384 := (i 0).isLt
  have hi1 : (i 1).val < 1024 := (i 1).isLt
  obtain ⟨hf, ht⟩ := onto5 ⟨(i 0).val / 128, by omega⟩ ⟨(i 1).val / 512, by omega⟩
  have q0 := congrFun ht 0
  have q1 := congrFun ht 1
  refine ⟨pt5 ⟨(i 0).val / 128, by omega⟩ ⟨(i 1).val / 512, by omega⟩, hf, ?_⟩
  rw [mem_blk5]
  intro a
  match a with
  | ⟨0, _⟩ => show win0_5.index _ (0 : Fin 2) * 128 ≤ (i 0).val ∧ (i 0).val < win0_5.index _ (0 : Fin 2) * 128 + 128; rw [q0]; show (i 0).val / 128 * 128 ≤ _ ∧ _ < (i 0).val / 128 * 128 + 128; omega
  | ⟨1, _⟩ => show win0_5.index _ (1 : Fin 2) * 512 ≤ (i 1).val ∧ (i 1).val < win0_5.index _ (1 : Fin 2) * 512 + 512; rw [q1]; show (i 1).val / 512 * 512 ≤ _ ∧ _ < (i 1).val / 512 * 512 + 512; omega

theorem cover6 (i : S2048x11264.Idx) : ∃ t : Fin cfg0.N, (cfg0.win 6).flush t = true ∧ i ∈ ((cfg0.win 6).blk t).view.set := by
  have hi0 : (i 0).val < 2048 := (i 0).isLt
  have hi1 : (i 1).val < 11264 := (i 1).isLt
  obtain ⟨hf, ht⟩ := onto6 ⟨(i 0).val / 16, by omega⟩
  have q0 := congrFun ht 0
  have q1 := congrFun ht 1
  refine ⟨pt6 ⟨(i 0).val / 16, by omega⟩, hf, ?_⟩
  rw [mem_blk6]
  intro a
  match a with
  | ⟨0, _⟩ => show win0_6.index _ (0 : Fin 2) * 16 ≤ (i 0).val ∧ (i 0).val < win0_6.index _ (0 : Fin 2) * 16 + 16; rw [q0]; show (i 0).val / 16 * 16 ≤ _ ∧ _ < (i 0).val / 16 * 16 + 16; omega
  | ⟨1, _⟩ => show win0_6.index _ (1 : Fin 2) * 11264 ≤ (i 1).val ∧ (i 1).val < win0_6.index _ (1 : Fin 2) * 11264 + 11264; rw [q1]; show 0 * 11264 ≤ _ ∧ _ < 0 * 11264 + 11264; omega

theorem cover7 (i : S5632x2048.Idx) : ∃ t : Fin cfg0.N, (cfg0.win 7).flush t = true ∧ i ∈ ((cfg0.win 7).blk t).view.set := by
  have hi0 : (i 0).val < 5632 := (i 0).isLt
  have hi1 : (i 1).val < 2048 := (i 1).isLt
  obtain ⟨hf, ht⟩ := onto7 ⟨(i 0).val / 32, by omega⟩
  have q0 := congrFun ht 0
  have q1 := congrFun ht 1
  refine ⟨pt7 ⟨(i 0).val / 32, by omega⟩, hf, ?_⟩
  rw [mem_blk7]
  intro a
  match a with
  | ⟨0, _⟩ => show win0_7.index _ (0 : Fin 2) * 32 ≤ (i 0).val ∧ (i 0).val < win0_7.index _ (0 : Fin 2) * 32 + 32; rw [q0]; show (i 0).val / 32 * 32 ≤ _ ∧ _ < (i 0).val / 32 * 32 + 32; omega
  | ⟨1, _⟩ => show win0_7.index _ (1 : Fin 2) * 2048 ≤ (i 1).val ∧ (i 1).val < win0_7.index _ (1 : Fin 2) * 2048 + 2048; rw [q1]; show 0 * 2048 ≤ _ ∧ _ < 0 * 2048 + 2048; omega

/-- The run, read: the three result arrays, and the arguments unchanged. -/
theorem run : θ_run defs (onTc (τ := τ) (main (F := Ideal))) ⟨m, fun _ => 0, ρ⟩ fun r => ∀ c : Dev nD,
      r.2.mem ((c.tc : Thread nD τ).loc main_v7_0) = G5 m c
      ∧ r.2.mem ((c.tc : Thread nD τ).loc main_v7_1) = G6 m c
      ∧ r.2.mem ((c.tc : Thread nD τ).loc main_v7_2) = G7 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 5).trans ((dats m 0 c).arrAt_eq_of_cover 5 _ (flushed5_eq m c) cover5),
      ((h.1 c).1 6).trans ((dats m 0 c).arrAt_eq_of_cover 6 _ (flushed6_eq m c) cover6),
      ((h.1 c).1 7).trans ((dats m 0 c).arrAt_eq_of_cover 7 _ (flushed7_eq m c) cover7), h.2 c⟩)
    (θ_run_and (run_main m ρ) (frame_of m ρ (dats m) (A_eq m) (run_main m ρ)))

end Cert.KernelIdeal.Attn
end
-- ==== Proof.Attn.Soft.lean ====
/- The softmax, computed the two ways, over exact numbers. -/
module

public import proofs.«01_k».proof.Proof.Attn.Ideal.Blocks

@[expose] public section

/-! # One row of the attention, computed the two ways

The kernel raises two to the scores, sums in its own order, and divides once; the reference takes exponentials and divides
each before the product with the values. For real scores the two agree, whatever the values are. -/

noncomputable section

namespace Cert.Attn

open Idealize.ShloMosaic Cert.KernelIdeal.Attn

/-! ## The kernel's order of the keys -/

/-- A key, by its block and its place in the block. -/
def keyEquiv : Fin 6 × Fin 1408 ≃ Fin 8448 where
  toFun p := keyOf p.1 p.2
  invFun s := (⟨s / 1408, by omega⟩, ⟨s % 1408, Nat.mod_lt _ (by decide)⟩)
  left_inv p := by
    obtain ⟨j, k⟩ := p
    refine Prod.ext (Fin.ext ?_) (Fin.ext ?_)
    · show (j.val * 1408 + k.val) / 1408 = j.val; omega
    · show (j.val * 1408 + k.val) % 1408 = k.val; omega
  right_inv s := Fin.ext (by show s.val / 1408 * 1408 + s.val % 1408 = s.val; omega)

/-- A key, by its lane, its block and its chunk in the block. -/
def laneEquiv : Fin 128 × Fin 6 × Fin 11 ≃ Fin 8448 where
  toFun p := keyOf p.2.1 (lane p.2.2 p.1)
  invFun s := (⟨s % 128, Nat.mod_lt _ (by decide)⟩, ⟨s / 1408, by omega⟩, ⟨s % 1408 / 128, by omega⟩)
  left_inv p := by
    obtain ⟨e, j, k⟩ := p
    refine Prod.ext (Fin.ext ?_) (Prod.ext (Fin.ext ?_) (Fin.ext ?_))
    · show (j.val * 1408 + (k.val * 128 + e.val)) % 128 = e.val; omega
    · show (j.val * 1408 + (k.val * 128 + e.val)) / 1408 = j.val; omega
    · show (j.val * 1408 + (k.val * 128 + e.val)) % 1408 / 128 = k.val; omega
  right_inv s := Fin.ext (by show s.val / 1408 * 1408 + (s.val % 1408 / 128 * 128 + s.val % 128) = s.val; omega)

theorem sum_keys (f : Fin 8448 → EReal) : (∑ j : Fin 6, ∑ k : Fin 1408, f (keyOf j k)) = ∑ s, f s := by
  rw [← Fintype.sum_prod_type' (f := fun j k => f (keyOf j k))]
  exact Fintype.sum_equiv keyEquiv _ _ fun _ => rfl

theorem sum_lanes (f : Fin 8448 → EReal) : (∑ e : Fin 128, ∑ j : Fin 6, ∑ k : Fin 11, f (keyOf j (lane k e))) = ∑ s, f s := by
  have h : ∀ e : Fin 128, (∑ j : Fin 6, ∑ k : Fin 11, f (keyOf j (lane k e))) = ∑ p : Fin 6 × Fin 11, f (keyOf p.1 (lane p.2 e)) :=
    fun e => (Fintype.sum_prod_type' (f := fun j k => f (keyOf j (lane k e)))).symm
  rw [Finset.sum_congr rfl fun e _ => h e, ← Fintype.sum_prod_type' (f := fun e (p : Fin 6 × Fin 11) => f (keyOf p.1 (lane p.2 e)))]
  exact Fintype.sum_equiv laneEquiv _ _ fun _ => rfl

theorem sup_lanes (f : Fin 8448 → EReal) :
    (Finset.univ.sup fun e : Fin 128 => Finset.univ.sup fun j : Fin 6 => Finset.univ.sup fun k : Fin 11 => f (keyOf j (lane k e)))
      = Finset.univ.sup f := by
  apply le_antisymm
  · exact Finset.sup_le fun e _ => Finset.sup_le fun j _ => Finset.sup_le fun k _ => Finset.le_sup (f := f) (Finset.mem_univ _)
  · refine Finset.sup_le fun s _ => ?_
    have hs : f s = f (keyOf (laneEquiv.symm s).2.1 (lane (laneEquiv.symm s).2.2 (laneEquiv.symm s).1)) :=
      congrArg f (laneEquiv.right_inv s).symm
    rw [hs]
    refine le_trans ?_ (Finset.le_sup (Finset.mem_univ (laneEquiv.symm s).1))
    refine le_trans ?_ (Finset.le_sup (Finset.mem_univ (laneEquiv.symm s).2.1))
    exact Finset.le_sup (f := fun k => f (keyOf (laneEquiv.symm s).2.1 (lane k (laneEquiv.symm s).1))) (Finset.mem_univ (laneEquiv.symm s).2.2)

/-! ## The algebra -/

/-- A sum of reals is the real sum. -/
theorem coe_sum {ι : Type} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- A nonnegative real factor goes out of a sum, whatever the summands. -/
theorem sum_mul_real {ι : Type} (t : Finset ι) (f : ι → EReal) {x : ℝ} (hx : 0 ≤ x) : (∑ i ∈ t, f i * (x : EReal)) = (∑ i ∈ t, f i) * (x : EReal) := by
  classical
  induction t using Finset.induction_on with
  | empty => simp
  | insert a t ha ih =>
    rw [Finset.sum_insert ha, Finset.sum_insert ha, ih,
      EReal.right_distrib_of_nonneg_of_ne_top (by exact_mod_cast hx) (EReal.coe_ne_top x)]

/-- The largest of finitely many scaled reals. -/
theorem sup_real {a : Fin 8448 → ℝ} {s₀ : Fin 8448} (h : ∀ s, a s ≤ a s₀) {x : ℝ} (hx : 0 < x) :
    (Finset.univ.sup fun s => ((a s * x : ℝ) : EReal)) = ((a s₀ * x : ℝ) : EReal) := by
  apply le_antisymm
  · exact Finset.sup_le fun s _ => EReal.coe_le_coe_iff.mpr (mul_le_mul_of_nonneg_right (h s) hx.le)
  · exact Finset.le_sup (f := fun s => ((a s * x : ℝ) : EReal)) (Finset.mem_univ s₀)

/-- Two to a real, by the exponential. -/
theorem exp2_real (a x y : ℝ) (h : x * Real.log 2 = y) : Ideal.exp2 ((a * x : ℝ) : EReal) = ((Real.exp (a * y) : ℝ) : EReal) := by
  rw [Ideal.exp2_coe]
  congr 1
  show (2 : ℝ) ^ (a * x) = _
  rw [Real.rpow_def_of_pos two_pos, ← h]
  congr 1; ring

/-- One row, the two ways: `a` are the plain scores, `x` the kernel's scale and `y` the reference's. -/
theorem row_eq (a : Fin 8448 → ℝ) (v : Fin 8448 → EReal) (x y : ℝ) (hx : 0 < x) (hy : 0 < y) (h : x * Real.log 2 = y) :
    Ideal.div (∑ s, Ideal.exp2 (((a s * x : ℝ) : EReal) - Finset.univ.sup fun s' => ((a s' * x : ℝ) : EReal)) * v s)
      (∑ s, Ideal.exp2 (((a s * x : ℝ) : EReal) - Finset.univ.sup fun s' => ((a s' * x : ℝ) : EReal)))
    = ∑ s, v s * Ideal.div (Ideal.exp (((a s * y : ℝ) : EReal) - Finset.univ.sup fun s' => ((a s' * y : ℝ) : EReal)))
        (∑ s'', Ideal.exp (((a s'' * y : ℝ) : EReal) - Finset.univ.sup fun s' => ((a s' * y : ℝ) : EReal))) := by
  obtain ⟨s₀, -, h₀⟩ := Finset.exists_max_image (Finset.univ : Finset (Fin 8448)) a ⟨0, Finset.mem_univ _⟩
  have h₁ : ∀ s, a s ≤ a s₀ := fun s => h₀ s (Finset.mem_univ s)
  rw [sup_real h₁ hx, sup_real h₁ hy]
  have e2 : ∀ s, Ideal.exp2 (((a s * x : ℝ) : EReal) - ((a s₀ * x : ℝ) : EReal)) = ((Real.exp ((a s - a s₀) * y) : ℝ) : EReal) := fun s => by
    rw [← EReal.coe_sub, ← sub_mul, exp2_real _ x y h]
  have e1 : ∀ s, Ideal.exp (((a s * y : ℝ) : EReal) - ((a s₀ * y : ℝ) : EReal)) = ((Real.exp ((a s - a s₀) * y) : ℝ) : EReal) := fun s => by
    rw [← EReal.coe_sub, ← sub_mul, Ideal.exp_coe]
  simp only [e1, e2]
  rw [coe_sum]
  have hL : 0 < ∑ s, Real.exp ((a s - a s₀) * y) := Finset.sum_pos (fun s _ => Real.exp_pos _) ⟨0, Finset.mem_univ _⟩
  rw [Ideal.div_coe hL.ne', ← sum_mul_real _ _ (one_div_nonneg.mpr hL.le)]
  refine Finset.sum_congr rfl fun s _ => ?_
  rw [Ideal.div_coe hL.ne', mul_comm ((Real.exp _ : ℝ) : EReal) (v s), mul_assoc]

/-! ## The scales -/

theorem c128 : Ideal.ofBits .f32 0x43000000#32 = ((128 : ℝ) : EReal) := by simp [Ideal.ofBits, Ideal.ieee]; rw [← EReal.coe_mul]; norm_num
theorem c2 : Ideal.ofBits .f32 0x40000000#32 = ((2 : ℝ) : EReal) := by simp [Ideal.ofBits, Ideal.ieee]; rw [← EReal.coe_mul]; norm_num
theorem c1 : Ideal.ofBits .f32 0x3F800000#32 = ((1 : ℝ) : EReal) := by simp [Ideal.ofBits, Ideal.ieee]; rw [← EReal.coe_mul]; norm_num

theorem sqrt128 : Ideal.sqrt ((128 : ℝ) : EReal) = ((Real.sqrt 128 : ℝ) : EReal) := by
  rw [Ideal.sqrt_coe, if_neg (by norm_num)]

theorem log2 : Ideal.log ((2 : ℝ) : EReal) = ((Real.log 2 : ℝ) : EReal) := by
  rw [Ideal.log_coe, if_neg (by norm_num)]

theorem log2_pos : 0 < Real.log 2 := Real.log_pos (by norm_num)

theorem sqrt128_pos : 0 < Real.sqrt 128 := Real.sqrt_pos.mpr (by norm_num)

theorem qScale_eq : qScale = ((1 / (Real.sqrt 128 * Real.log 2) : ℝ) : EReal) := by
  unfold qScale
  rw [c128, c2, c1, sqrt128, log2, ← EReal.coe_mul, Ideal.div_coe (mul_pos sqrt128_pos log2_pos).ne', EReal.coe_one, one_mul]

/-- The score of real queries and keys, with the kernel's scale on the queries. -/
theorem score_real (q k : Fin 128 → ℝ) (x : ℝ) : (∑ d, ((q d : EReal) * (x : EReal)) * (k d : EReal)) = (((∑ d, k d * q d) * x : ℝ) : EReal) := by
  rw [Finset.sum_mul, ← coe_sum]
  refine Finset.sum_congr rfl fun d _ => ?_
  rw [← EReal.coe_mul, ← EReal.coe_mul]
  congr 1; ring

/-- The same, with the reference's scale on the sum. -/
theorem score_real' (q k : Fin 128 → ℝ) (x : ℝ) : (∑ d, (k d : EReal) * (q d : EReal)) * (x : EReal) = (((∑ d, k d * q d) * x : ℝ) : EReal) := by
  rw [EReal.coe_mul, ← coe_sum]
  congr 1

end Cert.Attn
-- ==== Proof.Attn.Ref.lean ====
module

public import proofs.«01_k».proof.Proof.Gen.ReferenceIdeal.Run
public import Idealize.ShloMosaic.Lib.Pipeline.ValueKit
public import Idealize.ShloMosaic.Lib.Claim

@[expose] public section

/-! # What the attention's reference computes, at one index

The reference scores every key for every query, scales, takes the softmax over the keys and multiplies with the values. -/

set_option maxRecDepth 16384

noncomputable section

namespace Cert.Attn.Ref

open Cert.ReferenceIdeal Cert.ReferenceIdeal.Gen Idealize.ShloMosaic Idealize.ShloMosaic.TcCoe Idealize.ShloMosaic.Pipeline Idealize.SL.Sem

variable (m : (ℓ : Loc nD τ sig) → Buf (Elt Ideal) ℓ) (ρ : Dev nD → PrngReg) (c : Dev nD)

/-- The factor the reference multiplies the scores with. -/
def sScale : EReal := Ideal.div (Ideal.ofBits .f32 0x3F800000#32) (Ideal.sqrt (Ideal.ofBits .f32 0x43000000#32))

/-- The scaled scores. -/
def sArr (q : FVec Ideal S16384x1024 .f32) (k : FVec Ideal S2x8448x256 .bf16) : FVec Ideal S2x2x4x8192x8448 .f32 :=
  mulf (transpose S2x2x4x8192x8448 [0, 1, 4, 3, 2] (Host.dotGeneral dot_S2x8448x2x128_S2x8192x2x4x128_S2x2x8448x8192x4_3_4_1_13_02_02 none (shapeCast _ (extf .f32 k bitsLt_bf16_f32) shapeCasts_S2x8448x256_S2x8448x2x128) (shapeCast _ q shapeCasts_S16384x1024_S2x8192x2x4x128)) transposes_S2x2x8448x8192x4_S2x2x4x8192x8448_0_1_4_3_2) (broadcastInDim S2x2x4x8192x8448 ![] bcast_S_S2x2x4x8192x8448 (Host.divf (constant S_ .f32 0x3F800000#32) (Host.sqrt (constant S_ .f32 0x43000000#32))))

/-- Each row's largest score. -/
def mArr (x : FVec Ideal S2x2x4x8192x8448 .f32) : FVec Ideal S2x2x4x8192 .f32 :=
  maximumf (broadcastInDim S2x2x4x8192 ![] bcast_S_S2x2x4x8192 (constant S_ .f32 0xFF800000#32)) (Host.reduce FloatOps.maximumf x (constant S_ .f32 0xFF800000#32) reducesTo_S2x2x4x8192x8448_S2x2x4x8192_d4 h_S_)

/-- The exponentials of the scores less their row's maximum. -/
def eArr (x : FVec Ideal S2x2x4x8192x8448 .f32) : FVec Ideal S2x2x4x8192x8448 .f32 :=
  Host.exp (subf x (broadcastInDim S2x2x4x8192x8448 ![0, 1, 2, 3, 4] bcast_S2x2x4x8192x1_S2x2x4x8192x8448_0_1_2_3_4 (broadcastInDim S2x2x4x8192x1 ![0, 1, 2, 3] bcast_S2x2x4x8192_S2x2x4x8192x1_0_1_2_3 (mArr x))))

/-- The softmax, from the exponentials. -/
def pArr (e : FVec Ideal S2x2x4x8192x8448 .f32) : FVec Ideal S2x2x4x8192x8448 .f32 :=
  Host.divf e (broadcastInDim S2x2x4x8192x8448 ![0, 1, 2, 3, 4] bcast_S2x2x4x8192x1_S2x2x4x8192x8448_0_1_2_3_4 (broadcastInDim S2x2x4x8192x1 ![0, 1, 2, 3] bcast_S2x2x4x8192_S2x2x4x8192x1_0_1_2_3 (Host.reduceAdd e (constant S_ .f32 0x00000000#32) reducesTo_S2x2x4x8192x8448_S2x2x4x8192_d4 h_S_)))

/-- The result, from the softmax. -/
def oArr (v : FVec Ideal S2x8448x256 .bf16) (p : FVec Ideal S2x2x4x8192x8448 .f32) : FVec Ideal S16384x1024 .bf16 :=
  truncf .bf16 (shapeCast _ (transpose S2x8192x2x4x128 [0, 4, 1, 3, 2] (Host.dotGeneral dot_S2x8448x2x128_S2x2x4x8192x8448_S2x2x128x4x8192_1_4_3_23_02_01 none (shapeCast _ (extf .f32 v bitsLt_bf16_f32) shapeCasts_S2x8448x256_S2x8448x2x128) p) transposes_S2x2x128x4x8192_S2x8192x2x4x128_0_4_1_3_2) shapeCasts_S2x8192x2x4x128_S16384x1024) bitsLt_bf16_f32

/-- The reference's run: the attention from those pieces, the two weights rounded (exactly themselves, over exact numbers). -/
theorem run : θ_run defs (onTc (τ := τ) (main (F := Ideal))) ⟨m, fun _ => 0, ρ⟩ fun r => ∀ c : Dev nD,
      r.2.mem ((c.tc : Thread nD τ).loc main_v25) = oArr (m ((c.tc : Thread nD τ).loc main_arg2)) (pArr (eArr (sArr (m ((c.tc : Thread nD τ).loc main_arg0)) (m ((c.tc : Thread nD τ).loc main_arg1)))))
      ∧ r.2.mem ((c.tc : Thread nD τ).loc main_v26) = (fun i => m ((c.tc : Thread nD τ).loc main_arg3) i)
      ∧ r.2.mem ((c.tc : Thread nD τ).loc main_v27) = (fun i => m ((c.tc : Thread nD τ).loc main_arg4) i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => h c) (Value.run m ρ)

/-- Row `r` of batch `b`, both batches counted through. -/
abbrev rowQ (b : Fin 2) (r : Fin 8192) : Fin 16384 := ⟨b * 8192 + r, by omega⟩

theorem sArr_apply (q : FVec Ideal S16384x1024 .f32) (k : FVec Ideal S2x8448x256 .bf16) (b : Fin 2) (h : Fin 2) (g : Fin 4)
    (r : Fin 8192) (s : Fin 8448) :
    sArr q k (ix5 b h g r s) = (∑ d : Fin 128, k (ix3 b s (⟨h * 128 + d, by omega⟩ : Fin 256)) * q (ix2 (rowQ b r) (⟨h * 512 + g * 128 + d, by omega⟩ : Fin 1024))) * sScale := by
  unfold sArr
  pointwise [sScale]

theorem negInf : Ideal.ofBits .f32 0xFF800000#32 = ⊥ := by simp [Ideal.ofBits, Ideal.ieee]

theorem eArr_apply (x : FVec Ideal S2x2x4x8192x8448 .f32) (b : Fin 2) (h : Fin 2) (g : Fin 4)
    (r : Fin 8192) (s : Fin 8448) :
    eArr x (ix5 b h g r s) = Ideal.exp (x (ix5 b h g r s) - mArr x (ix4 b h g r)) := by
  unfold eArr
  pointwise []

theorem pArr_apply (e : FVec Ideal S2x2x4x8192x8448 .f32) (b : Fin 2) (h : Fin 2) (g : Fin 4)
    (r : Fin 8192) (s : Fin 8448) :
    pArr e (ix5 b h g r s) = Ideal.div (e (ix5 b h g r s)) (∑ s' : Fin 8448, e (ix5 b h g r s')) := by
  unfold pArr
  pointwise []

theorem oArr_apply (v : FVec Ideal S2x8448x256 .bf16) (p : FVec Ideal S2x2x4x8192x8448 .f32) (R : Fin 16384) (H : Fin 8) (d : Fin 128) :
    oArr v p (ix2 R (⟨H * 128 + d, by omega⟩ : Fin 1024))
      = ∑ s : Fin 8448, v (ix3 (⟨R / 8192, by omega⟩ : Fin 2) s (⟨H / 4 * 128 + d, by omega⟩ : Fin 256))
          * p (ix5 (⟨R / 8192, by omega⟩ : Fin 2) (⟨H / 4, by omega⟩ : Fin 2) (⟨H % 4, by omega⟩ : Fin 4) (⟨R % 8192, by omega⟩ : Fin 8192) s) := by
  unfold oArr
  pointwise []
  refine Finset.sum_congr rfl fun s _ => ?_
  refine congrArg₂ (· * ·) (congrArg (fun a => v (ix3 _ s a)) (Fin.ext ?_)) (congrArg₂ (fun a b => p (ix5 _ a b _ s)) (Fin.ext ?_) (Fin.ext ?_))
  · show (H.val * 128 + d.val) / 512 * 128 + d.val = H.val / 4 * 128 + d.val; omega
  · show (H.val * 128 + d.val) / 512 = H.val / 4; omega
  · show (H.val * 128 + d.val) / 128 % 4 = H.val % 4; omega

end Cert.Attn.Ref
-- ==== Proof.Attn.RefMax.lean ====
module

public import proofs.«01_k».proof.Proof.Attn.Ref

@[expose] public section

/-! # The reference's row maxima, at one index -/

set_option maxRecDepth 16384

noncomputable section

namespace Cert.Attn.Ref

open Cert.ReferenceIdeal Cert.ReferenceIdeal.Gen Idealize.ShloMosaic Idealize.ShloMosaic.Pipeline

/-- A fold by an operation that is the maximum, from minus infinity, is the supremum. -/
theorem fold_sup {n : ℕ} (op : EReal → EReal → EReal) [Std.Commutative op] [Std.Associative op] (hop : ∀ a b, op a b = max a b)
    (b : EReal) (hb : b = ⊥) (f g : Fin n → EReal) (hfg : ∀ k, f k = g k) :
    (Finset.univ : Finset (Fin n)).fold op b f = Finset.univ.sup g := by
  obtain rfl : op = max := funext fun a => funext fun c => hop a c
  obtain rfl : f = g := funext hfg
  subst hb
  rfl

/-- A reduction by the maximum along the last of five axes, from minus infinity, is the supremum along that axis. -/
theorem reduce_sup {n0 n1 n2 n3 n4 : ℕ} {u : Shape} (op : EReal → EReal → EReal) [Std.Commutative op] [Std.Associative op]
    (hop : ∀ a b, op a b = max a b) (x : (⟨5, ![n0, n1, n2, n3, n4]⟩ : Shape).Idx → EReal) (init : u.Idx → EReal) (hi : ∀ i, init i = ⊥)
    (h : (⟨5, ![n0, n1, n2, n3, n4]⟩ : Shape).ReducesTo [4] ⟨4, ![n0, n1, n2, n3]⟩) (hu : 0 < u.numel)
    (i0 : Fin n0) (i1 : Fin n1) (i2 : Fin n2) (i3 : Fin n3) :
    Host.reduce op x init h hu (ix4 i0 i1 i2 i3) = Finset.univ.sup fun s : Fin n4 => x (ix5 i0 i1 i2 i3 s) :=
  (Host.reduce_eq_fold op x init h hu _).trans ((Shape.ReducesTo.fold_fiber_r5_a4 h _ op _ x).trans
    (fold_sup op hop _ (hi _) _ _ fun k => rfl))

theorem rowMax_apply (x : FVec Ideal S2x2x4x8192x8448 .f32) (b : Fin 2) (h : Fin 2) (g : Fin 4) (r : Fin 8192) :
    Host.reduce (FloatOps.maximumf (F := Ideal) (φ := .f32)) x (constant S_ .f32 0xFF800000#32) reducesTo_S2x2x4x8192x8448_S2x2x4x8192_d4 h_S_ (ix4 b h g r)
      = Finset.univ.sup fun s : Fin 8448 => x (ix5 b h g r s) :=
  reduce_sup (n0 := 2) (n1 := 2) (n2 := 4) (n3 := 8192) (n4 := 8448) (u := S_) (FloatOps.maximumf (F := Ideal) (φ := .f32)) (fun _ _ => rfl) x _ (fun _ => negInf)
    reducesTo_S2x2x4x8192x8448_S2x2x4x8192_d4 h_S_ b h g r

theorem maximumf_apply (A B : FVec Ideal S2x2x4x8192 .f32) (j : S2x2x4x8192.Idx) : maximumf A B j = max (A j) (B j) := rfl

theorem mArr_apply (x : FVec Ideal S2x2x4x8192x8448 .f32) (b : Fin 2) (h : Fin 2) (g : Fin 4) (r : Fin 8192) :
    mArr x (ix4 b h g r) = Finset.univ.sup fun s : Fin 8448 => x (ix5 b h g r s) := by
  have hb : (broadcastInDim S2x2x4x8192 ![] bcast_S_S2x2x4x8192 (constant (F := Ideal) S_ .f32 0xFF800000#32) : FVec Ideal S2x2x4x8192 .f32) (ix4 b h g r) = ⊥ := negInf
  unfold mArr
  refine (maximumf_apply _ _ _).trans ((congrArg₂ max hb (rowMax_apply x b h g r)).trans (max_eq_right bot_le))

end Cert.Attn.Ref
-- ==== Proof.Attn.Pre.lean ====
/- What the precondition says of the arguments. -/
module

public import proofs.«01_k».proof.Proof.Gen.Pre_finite
public import Idealize.ShloMosaic.Lib.Affine
public import Idealize.ShloMosaic.Lib.ReduceAll
public import Idealize.ShloMosaic.Lib.Pipeline.ValueKit

@[expose] public section

noncomputable section

namespace Cert.Attn

open Cert.Pre_finite Cert.Pre_finite.Gen Idealize.ShloMosaic

theorem inf_eq : Ideal.ofBits .f32 0x7F800000#32 = ⊤ := by simp [Ideal.ofBits, Ideal.ieee]

/-- A number whose absolute value is below infinity is a real number. -/
theorem real_of_abs {x : EReal} (h : Ideal.cmp .olt (max x (-x)) (Ideal.ofBits .f32 0x7F800000#32) = 1#1) : ((x.toReal : ℝ) : EReal) = x := by
  rw [inf_eq] at h
  have h' : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  refine EReal.coe_toReal (ne_top_of_lt (lt_of_le_of_lt (le_max_left _ _) h')) fun hb => ?_
  rw [hb] at h'
  exact absurd h' (by simp)

variable (x0 : FVec Ideal S16384x1024 .f32) (x1 x2 : FVec Ideal S2x8448x256 .bf16) (x3 : FVec Ideal S2048x11264 .f32) (x4 : FVec Ideal S5632x2048 .f32)

/-- Under the precondition every query and every key is a real number. -/
theorem real_of_pre (h : fn x0 x1 x2 x3 x4 = fun _ => 1#1) :
    (∀ i, (((x0 i).toReal : ℝ) : EReal) = x0 i) ∧ (∀ i, (((x1 i).toReal : ℝ) : EReal) = x1 i) := by
  have h0 := congrFun h (fun a => a.elim0)
  dsimp only [fn] at h0
  obtain ⟨ha, hb⟩ := IntOp.andi_eq_one.mp h0
  refine ⟨fun i => real_of_abs ?_, fun i => real_of_abs ?_⟩
  · exact Host.reduce_andi_all _ _ _ _ _ ha i
  · exact Host.reduce_andi_all _ _ _ _ _ hb i

end Cert.Attn
-- ==== Proof.Attn.Equal.lean ====
/- The attention kernel's results are the reference's. -/
module

public import proofs.«01_k».proof.Proof.Attn.Ideal.Value
public import proofs.«01_k».proof.Proof.Attn.Soft
public import proofs.«01_k».proof.Proof.Attn.Ref
public import proofs.«01_k».proof.Proof.Attn.RefMax
public import proofs.«01_k».proof.Proof.Attn.Pre
public import proofs.«01_k».proof.Defs

@[expose] public section

set_option maxRecDepth 16384

noncomputable section

namespace Cert.Attn

open Cert.KernelIdeal Cert.KernelIdeal.Gen Cert.KernelIdeal.Attn Idealize.ShloMosaic Idealize.ShloMosaic.TcCoe Idealize.ShloMosaic.Pipeline Idealize.SL.Sem

variable (m : (ℓ : Loc nD τ sig) → Buf (Elt Ideal) ℓ) (c : Dev nD)

/-- The plain scores, as reals. -/
def plain (R : Fin 16384) (H : Fin 8) (s : Fin 8448) : ℝ :=
  ∑ d : Fin 128, (kAt m c (batchOf R) s (kLane H d)).toReal * (qAt m c R (qLane H d)).toReal

section Real

variable (hq : ∀ R n, (((qAt m c R n).toReal : ℝ) : EReal) = qAt m c R n)
  (hk : ∀ b s n, (((kAt m c b s n).toReal : ℝ) : EReal) = kAt m c b s n)

include hq hk in
theorem kScore_real (R : Fin 16384) (H : Fin 8) (s : Fin 8448) :
    kScore m c R H s = ((plain m c R H s * (1 / (Real.sqrt 128 * Real.log 2)) : ℝ) : EReal) := by
  unfold kScore plain
  rw [← score_real, qScale_eq]
  exact Finset.sum_congr rfl fun d _ => by rw [hq, hk]

include hq hk in
/-- The kernel's entry, in the plain scores. -/
theorem kOut_real (R : Fin 16384) (H : Fin 8) (d : Fin 128) :
    kOut m c R H d = ∑ s, vAt m c (batchOf R) s (kLane H d)
      * Ideal.div (Ideal.exp (((plain m c R H s * (1 / Real.sqrt 128) : ℝ) : EReal) - Finset.univ.sup fun s' => ((plain m c R H s' * (1 / Real.sqrt 128) : ℝ) : EReal)))
        (∑ s'', Ideal.exp (((plain m c R H s'' * (1 / Real.sqrt 128) : ℝ) : EReal) - Finset.univ.sup fun s' => ((plain m c R H s' * (1 / Real.sqrt 128) : ℝ) : EReal))) := by
  have hx : 0 < 1 / (Real.sqrt 128 * Real.log 2) := one_div_pos.mpr (mul_pos sqrt128_pos log2_pos)
  have hy : 0 < 1 / Real.sqrt 128 := one_div_pos.mpr sqrt128_pos
  have h : 1 / (Real.sqrt 128 * Real.log 2) * Real.log 2 = 1 / Real.sqrt 128 := by
    have := log2_pos.ne'; have := sqrt128_pos.ne'; field_simp
  rw [← row_eq (plain m c R H) (fun s => vAt m c (batchOf R) s (kLane H d)) _ _ hx hy h]
  unfold kOut
  rw [sum_keys fun s => Ideal.exp2 (kScore m c R H s - kMax m c R H) * vAt m c (batchOf R) s (kLane H d),
    sum_lanes fun s => Ideal.exp2 (kScore m c R H s - kMax m c R H)]
  have hM : kMax m c R H = Finset.univ.sup fun s' => ((plain m c R H s' * (1 / (Real.sqrt 128 * Real.log 2)) : ℝ) : EReal) := by
    unfold kMax
    rw [sup_lanes fun s => kScore m c R H s]
    exact Finset.sup_congr rfl fun s _ => kScore_real m c hq hk R H s
  simp only [hM, kScore_real m c hq hk]

end Real

theorem sScale_eq : Ref.sScale = ((1 / Real.sqrt 128 : ℝ) : EReal) := by
  unfold Ref.sScale
  rw [c128, c1, sqrt128, Ideal.div_coe sqrt128_pos.ne', EReal.coe_one, one_mul]

section Reference

variable (q : FVec Ideal Cert.ReferenceIdeal.S16384x1024 .f32) (k v : FVec Ideal Cert.ReferenceIdeal.S2x8448x256 .bf16)

/-- The reference's scores, in the plain scores. -/
theorem sArr_real (hq : ∀ i, (((q i).toReal : ℝ) : EReal) = q i) (hk : ∀ i, (((k i).toReal : ℝ) : EReal) = k i) (R : Fin 16384) (H : Fin 8) (s : Fin 8448) :
    Ref.sArr q k (ix5 (⟨R / 8192, by omega⟩ : Fin 2) (⟨H / 4, by omega⟩ : Fin 2) (⟨H % 4, by omega⟩ : Fin 4) (⟨R % 8192, by omega⟩ : Fin 8192) s)
      = (((∑ d : Fin 128, (k (ix3 (batchOf R) s (kLane H d))).toReal * (q (ix2 R (qLane H d))).toReal) * (1 / Real.sqrt 128) : ℝ) : EReal) := by
  rw [Ref.sArr_apply, sScale_eq, ← score_real']
  refine congrArg (· * _) (Finset.sum_congr rfl fun d _ => ?_)
  rw [hk, hq]
  refine congrArg₂ (· * ·) rfl (congrArg₂ (fun a b => q (ix2 a b)) (Fin.ext ?_) (Fin.ext ?_))
  · show R.val / 8192 * 8192 + R.val % 8192 = R.val; omega
  · show H.val / 4 * 512 + H.val % 4 * 128 + d.val = H.val * 128 + d.val; omega

end Reference

/-- From equal arguments, the reference's array is the kernel's. -/
theorem same (hpre : Cert.Pre_finite.fn (F := Ideal) (m (c.tc.loc main_arg0)) (m (c.tc.loc main_arg1)) (m (c.tc.loc main_arg2)) (m (c.tc.loc main_arg3)) (m (c.tc.loc main_arg4)) = fun _ => 1#1) :
    Ref.oArr (m (c.tc.loc main_arg2)) (Ref.pArr (Ref.eArr (Ref.sArr (m (c.tc.loc main_arg0)) (m (c.tc.loc main_arg1))))) = G5 m c := by
  obtain ⟨hq, hk⟩ := real_of_pre _ _ _ _ _ hpre
  refine funext fun i => ?_
  obtain ⟨R, n, rfl⟩ : ∃ (R : Fin 16384) (n : Fin 1024), i = ix2 R n := ⟨i 0, i 1, eq_ix2 i⟩
  obtain ⟨H, d, rfl⟩ : ∃ (H : Fin 8) (d : Fin 128), n = qLane H d :=
    ⟨⟨n / 128, by omega⟩, ⟨n % 128, by omega⟩, Fin.ext (by show n.val = n.val / 128 * 128 + n.val % 128; omega)⟩
  have hG : G5 m c (ix2 R (qLane H d)) = kOut m c R H d := by
    show kOut m c R ⟨(H.val * 128 + d.val) / 128, _⟩ ⟨(H.val * 128 + d.val) % 128, _⟩ = _
    exact congrArg₂ (kOut m c R) (Fin.ext (by show (H.val * 128 + d.val) / 128 = H.val; omega)) (Fin.ext (by show (H.val * 128 + d.val) % 128 = d.val; omega))
  rw [hG, kOut_real m c (fun R n => hq (ix2 R n)) (fun b s n => hk (ix3 b s n))]
  refine (Ref.oArr_apply _ _ R H d).trans (Finset.sum_congr rfl fun s _ => ?_)
  rw [Ref.pArr_apply]
  simp only [Ref.eArr_apply, Ref.mArr_apply, sArr_real _ _ hq hk]
  rfl

/-- The value claim: both programs run, and end with the same three arrays as their results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hm
  refine ⟨fun c => G5 m c, fun c => G6 m c, fun c => G7 m c, Cert.KernelIdeal.Attn.run m g, (θ_run _ _ _).mono (fun r h c => ?_) (Ref.run m' g')⟩
  obtain ⟨h0, h1, h2, h3, h4⟩ := hm c
  obtain ⟨e0, e1, e2, ea⟩ := h c
  refine ⟨e0.trans ?_, e1.trans ?_, e2.trans ?_, ea⟩
  · refine Eq.trans ?_ (same m c (hpre c))
    rw [h0, h1, h2]
  · rw [h3]; rfl
  · rw [h4]; rfl

/-- The reference runs, leaves its arguments and ends with every counter at zero. -/
theorem frameRef : Cert.quiescent_ReferenceIdeal (hReferenceIdeal := Cert.ReferenceIdeal.Gen.facts) := by
  intro m g _
  exact (θ_run _ _ _).mono (fun r h => ⟨fun c => (h c).2.2.2, sem_eq_zero_of_no_sems (by decide) r.2⟩)
    (Cert.ReferenceIdeal.Value.run m g)

/-- The same, of the arguments the value claim speaks of. -/
theorem frameRef_pre : Cert.quiescent_ReferenceIdeal_pre_finite (hReferenceIdeal := Cert.ReferenceIdeal.Gen.facts) (hPre_finite := Cert.Pre_finite.Gen.facts) :=
  fun m g _ => frameRef m g trivial

end Cert.Attn
-- ==== Proof.lean ====
/- The proof of the certificate's claims: of the attention call, of the feed-forward call, of the out-projection call and of the
   call that makes the context's keys and values, for each the frames of the kernel, of its idealization and of the reference,
   `preserves`, and the value claim against the reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Ffn.Equal
public import proofs.«01_k».proof.Proof.Out.Equal
public import proofs.«01_k».proof.Proof.Ctx.Equal
public import proofs.«01_k».proof.Proof.Attn.Bits.Frame
public import proofs.«01_k».proof.Proof.Attn.Equal
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts,
  fun m ρ _ => Cert.Kernel.Attn.frame m ρ, fun m ρ _ => Cert.KernelIdeal.Attn.frame m ρ, fun m ρ _ => Cert.KernelIdeal.Attn.frame m ρ,
  Cert.Attn.frameRef, Cert.Attn.frameRef_pre,
  fun m ρ _ => Cert.Kernel2.Gen.frame m ρ, fun m ρ _ => Cert.Kernel2Ideal.Gen.frame m ρ, Cert.Ffn.frameRef,
  fun m ρ _ => Cert.Kernel3.Gen.frame m ρ, fun m ρ _ => Cert.Kernel3Ideal.Gen.frame m ρ, Cert.Out.frameRef,
  fun m ρ _ => Cert.Kernel4.Gen.frame m ρ, fun m ρ _ => Cert.Kernel4Ideal.Gen.frame m ρ, Cert.Ctx.frameRef,
  trivial, Cert.Attn.algebraic, trivial, Cert.Ffn.algebraic, trivial, Cert.Out.algebraic, trivial, Cert.Ctx.algebraic⟩

end Cert.Proof

end
